-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_state [hPre_finite_state : Cert.Pre_finite_state.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_state.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_state [hPre_finite_state : Cert.Pre_finite_state.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_state.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite_state [hKernel4Ideal : Cert.Kernel4Ideal.Facts] [hPre_finite_state : Cert.Pre_finite_state.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_state m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite_state [hReference4Ideal : Cert.Reference4Ideal.Facts] [hPre_finite_state : Cert.Pre_finite_state.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_state m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_v115) = v1 c
          ∧ r.2.mem ((c.tc : Thread Cert.ReferenceIdeal.nD Cert.ReferenceIdeal.τ).loc Cert.ReferenceIdeal.main_v93) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_v42) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel4_Kernel4Ideal : Prop :=
  True

def algebraic_Kernel4Ideal_Reference4Ideal_pre_finite_state [hKernel4Ideal : Cert.Kernel4Ideal.Facts] [hReference4Ideal : Cert.Reference4Ideal.Facts] [hPre_finite_state : Cert.Pre_finite_state.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_state m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)) (v3 : (c : Dev Cert.Kernel4Ideal.nD) → Buf (Elt Ideal) ((c.tc : Thread Cert.Kernel4Ideal.nD Cert.Kernel4Ideal.τ).loc Cert.Kernel4Ideal.main_v2_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_v2_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v95) = v0 c
          ∧ r.2.mem ((c.tc : Thread Cert.Reference4Ideal.nD Cert.Reference4Ideal.τ).loc Cert.Reference4Ideal.main_v41) = v1 c
          ∧ r.2.mem ((c.tc : Thread Cert.Reference4Ideal.nD Cert.Reference4Ideal.τ).loc Cert.Reference4Ideal.main_v85) = v2 c
          ∧ r.2.mem ((c.tc : Thread Cert.Reference4Ideal.nD Cert.Reference4Ideal.τ).loc Cert.Reference4Ideal.main_v96) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v78_1)) (v1 : (c : Dev Cert.Kernel5Ideal.nD) → Buf (Elt Ideal) ((c.tc : Thread Cert.Kernel5Ideal.nD Cert.Kernel5Ideal.τ).loc Cert.Kernel5Ideal.main_v78_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v78_1) = v0 c
          ∧ r.2.mem ((c.tc : Thread Cert.Kernel5Ideal.nD Cert.Kernel5Ideal.τ).loc Cert.Kernel5Ideal.main_v78_2) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v34_0)) (v1 : (c : Dev Cert.Kernel6Ideal.nD) → Buf (Elt Ideal) ((c.tc : Thread Cert.Kernel6Ideal.nD Cert.Kernel6Ideal.τ).loc Cert.Kernel6Ideal.main_v34_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34_0) = v0 c
          ∧ r.2.mem ((c.tc : Thread Cert.Kernel6Ideal.nD Cert.Kernel6Ideal.τ).loc Cert.Kernel6Ideal.main_v34_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_state : Cert.Pre_finite_state.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel4 (hKernel4 := hKernel4)
    ∧ quiescent_Kernel4Ideal (hKernel4Ideal := hKernel4Ideal)
    ∧ quiescent_Kernel4Ideal_pre_finite_state (hKernel4Ideal := hKernel4Ideal) (hPre_finite_state := hPre_finite_state)
    ∧ quiescent_Reference4Ideal (hReference4Ideal := hReference4Ideal)
    ∧ quiescent_Reference4Ideal_pre_finite_state (hReference4Ideal := hReference4Ideal) (hPre_finite_state := hPre_finite_state)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel2_Kernel2Ideal
    ∧ algebraic_Kernel2Ideal_Reference2Ideal (hKernel2Ideal := hKernel2Ideal) (hReference2Ideal := hReference2Ideal)
    ∧ preserves_Kernel4_Kernel4Ideal
    ∧ algebraic_Kernel4Ideal_Reference4Ideal_pre_finite_state (hKernel4Ideal := hKernel4Ideal) (hReference4Ideal := hReference4Ideal) (hPre_finite_state := hPre_finite_state)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_state.lean ====
abbrev S1x8192x2048 : Shape := ⟨3, ![1, 8192, 2048]⟩
abbrev S128x4x2048 : Shape := ⟨3, ![128, 4, 2048]⟩
abbrev S128x2x1024 : Shape := ⟨3, ![128, 2, 1024]⟩
abbrev S2048 : Shape := ⟨1, ![2048]⟩
abbrev S2048x6656 : Shape := ⟨2, ![2048, 6656]⟩
abbrev S3x1024 : Shape := ⟨2, ![3, 1024]⟩
abbrev S_ : Shape := ⟨0, ![]⟩

class Facts : Prop where
  bcast_S_S128x2x1024 : S_.BroadcastsInDim S128x2x1024 (![] : Fin 0 → Fin S128x2x1024.rank)
  reducesTo_S128x2x1024_S_d0_1_2 : S128x2x1024.ReducesTo [0, 1, 2] S_
  h_S_ : 0 < S_.numel

variable [Facts]

def fn {F : FTy → Type} [FloatOps F] (main_arg0 : FVec F S1x8192x2048 .f32) (main_arg1 : FVec F S128x4x2048 .f32) (main_arg2 : FVec F S128x2x1024 .f32) (main_arg3 : FVec F S2048 .f32) (main_arg4 : FVec F S2048x6656 .f32) (main_arg5 : FVec F S3x1024 .f32) : IVec S_ 1 :=
  let main_v0 : FVec F S128x2x1024 .f32 := Host.absf main_arg2
  let main_cst : FVec F S_ .f32 := constant S_ .f32 0x7F800000#32
  let main_v1 : FVec F S128x2x1024 .f32 := broadcastInDim S128x2x1024 ![] bcast_S_S128x2x1024 main_cst
  let main_v2 : IVec S128x2x1024 1 := cmpf .olt main_v0 main_v1
  let main_c : IVec S_ 1 := constantI S_ 1 1#1
  let main_v3 : IVec S_ 1 := (fun x v => Host.reduce IntOp.andi x v reducesTo_S128x2x1024_S_d0_1_2 h_S_) main_v2 main_c
  main_v3
-- ==== Kernel.lean ====
abbrev S8704x2048 : Shape := ⟨2, ![8704, 2048]⟩
abbrev S2048 : Shape := ⟨1, ![2048]⟩
abbrev S2048x5648 : Shape := ⟨2, ![2048, 5648]⟩
abbrev S1024 : Shape := ⟨1, ![1024]⟩
abbrev S8x128x128 : Shape := ⟨3, ![8, 128, 128]⟩
abbrev S8x128 : Shape := ⟨2, ![8, 128]⟩
abbrev S4x4x4 : Shape := ⟨3, ![4, 4, 4]⟩
abbrev S8x4x4 : Shape := ⟨3, ![8, 4, 4]⟩
abbrev S4x1x4x4 : Shape := ⟨4, ![4, 1, 4, 4]⟩
abbrev S1x8x4x4 : Shape := ⟨4, ![1, 8, 4, 4]⟩
abbrev S_ : Shape := ⟨0, ![]⟩
abbrev S4x8x4x4 : Shape := ⟨4, ![4, 8, 4, 4]⟩
abbrev S4x8x4 : Shape := ⟨3, ![4, 8, 4]⟩
abbrev S4x4x8 : Shape := ⟨3, ![4, 4, 8]⟩
abbrev S4x4x8x128 : Shape := ⟨4, ![4, 4, 8, 128]⟩
abbrev S4x4x1024 : Shape := ⟨3, ![4, 4, 1024]⟩
abbrev S4x8x1024 : Shape := ⟨3, ![4, 8, 1024]⟩
abbrev S8x4 : Shape := ⟨2, ![8, 4]⟩
abbrev S4x8 : Shape := ⟨2, ![4, 8]⟩
abbrev S4x8x128 : Shape := ⟨3, ![4, 8, 128]⟩
abbrev S4x1024 : Shape := ⟨2, ![4, 1024]⟩
abbrev S1x2048 : Shape := ⟨2, ![1, 2048]⟩
abbrev S5648x2048 : Shape := ⟨2, ![5648, 2048]⟩
abbrev S1x1024 : Shape := ⟨2, ![1, 1024]⟩
abbrev S8x1024 : Shape := ⟨2, ![8, 1024]⟩
abbrev S8704x1024 : Shape := ⟨2, ![8704, 1024]⟩
abbrev S128x4x1024 : Shape := ⟨3, ![128, 4, 1024]⟩
abbrev S512x2048 : Shape := ⟨2, ![512, 2048]⟩
abbrev S3072x2048 : Shape := ⟨2, ![3072, 2048]⟩
abbrev S512x1024 : Shape := ⟨2, ![512, 1024]⟩
abbrev S128x128 : Shape := ⟨2, ![128, 128]⟩
abbrev S1x128x128 : Shape := ⟨3, ![1, 128, 128]⟩
abbrev S1x128 : Shape := ⟨2, ![1, 128]⟩
abbrev S512 : Shape := ⟨1, ![512]⟩
abbrev S512x1 : Shape := ⟨2, ![512, 1]⟩
abbrev S1024x2048 : Shape := ⟨2, ![1024, 2048]⟩
abbrev S256x2048 : Shape := ⟨2, ![256, 2048]⟩
abbrev S512x256 : Shape := ⟨2, ![512, 256]⟩
abbrev S64x8x1024 : Shape := ⟨3, ![64, 8, 1024]⟩
abbrev S1x8x1024 : Shape := ⟨3, ![1, 8, 1024]⟩

abbrev nBuf : Space → Nat
  | .hbm => 35
  | .vmem => 18
  | .smem => 0
  | _ => 0

abbrev bufTy : (tb : Table) → Fin (tcTables nBuf tb) → BufTy
  | .hbm, ⟨0, _⟩ => ⟨S8704x2048, .f32⟩
  | .hbm, ⟨1, _⟩ => ⟨S2048, .f32⟩
  | .hbm, ⟨2, _⟩ => ⟨S2048x5648, .f32⟩
  | .hbm, ⟨3, _⟩ => ⟨S1024, .f32⟩
  | .hbm, ⟨4, _⟩ => ⟨S1024, .f32⟩
  | .hbm, ⟨5, _⟩ => ⟨S8x128x128, .f32⟩
  | .hbm, ⟨6, _⟩ => ⟨S8x128, .f32⟩
  | .hbm, ⟨7, _⟩ => ⟨S4x4x4, .i1⟩
  | .hbm, ⟨8, _⟩ => ⟨S8x4x4, .f32⟩
  | .hbm, ⟨9, _⟩ => ⟨S4x1x4x4, .i1⟩
  | .hbm, ⟨10, _⟩ => ⟨S1x8x4x4, .f32⟩
  | .hbm, ⟨11, _⟩ => ⟨S_, .f32⟩
  | .hbm, ⟨12, _⟩ => ⟨S_, .f32⟩
  | .hbm, ⟨13, _⟩ => ⟨S4x8x4x4, .i1⟩
  | .hbm, ⟨14, _⟩ => ⟨S4x8x4x4, .f32⟩
  | .hbm, ⟨15, _⟩ => ⟨S4x8x4x4, .f32⟩
  | .hbm, ⟨16, _⟩ => ⟨S4x8x4x4, .f32⟩
  | .hbm, ⟨17, _⟩ => ⟨S_, .f32⟩
  | .hbm, ⟨18, _⟩ => ⟨S4x8x4, .f32⟩
  | .hbm, ⟨19, _⟩ => ⟨S4x4x8, .f32⟩
  | .hbm, ⟨20, _⟩ => ⟨S4x4x8x128, .f32⟩
  | .hbm, ⟨21, _⟩ => ⟨S4x4x1024, .f32⟩
  | .hbm, ⟨22, _⟩ => ⟨S4x8x1024, .f32⟩
  | .hbm, ⟨23, _⟩ => ⟨S8x4, .f32⟩
  | .hbm, ⟨24, _⟩ => ⟨S4x8, .f32⟩
  | .hbm, ⟨25, _⟩ => ⟨S4x8x128, .f32⟩
  | .hbm, ⟨26, _⟩ => ⟨S4x1024, .f32⟩
  | .hbm, ⟨27, _⟩ => ⟨S1x2048, .f32⟩
  | .hbm, ⟨28, _⟩ => ⟨S5648x2048, .f32⟩
  | .hbm, ⟨29, _⟩ => ⟨S1x1024, .f32⟩
  | .hbm, ⟨30, _⟩ => ⟨S1x1024, .f32⟩
  | .hbm, ⟨31, _⟩ => ⟨S8x1024, .f32⟩
  | .hbm, ⟨32, _⟩ => ⟨S8704x1024, .bf16⟩
  | .hbm, ⟨33, _⟩ => ⟨S8704x2048, .bf16⟩
  | .hbm, ⟨34, _⟩ => ⟨S128x4x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S3072x2048, .f32⟩
  | .local _ .vmem, ⟨4, _⟩ => ⟨S1x1024, .f32⟩
  | .local _ .vmem, ⟨5, _⟩ => ⟨S1x1024, .f32⟩
  | .local _ .vmem, ⟨6, _⟩ => ⟨S8x128x128, .f32⟩
  | .local _ .vmem, ⟨7, _⟩ => ⟨S8x128, .f32⟩
  | .local _ .vmem, ⟨8, _⟩ => ⟨S4x8x1024, .f32⟩
  | .local _ .vmem, ⟨9, _⟩ => ⟨S8x1024, .f32⟩
  | .local _ .vmem, ⟨10, _⟩ => ⟨S512x1024, .bf16⟩
  | .local _ .vmem, ⟨11, _⟩ => ⟨S512x1024, .bf16⟩
  | .local _ .vmem, ⟨12, _⟩ => ⟨S512x2048, .bf16⟩
  | .local _ .vmem, ⟨13, _⟩ => ⟨S512x2048, .bf16⟩
  | .local _ .vmem, ⟨14, _⟩ => ⟨S128x4x1024, .f32⟩
  | .local _ .vmem, ⟨15, _⟩ => ⟨S512x1024, .bf16⟩
  | .local _ .vmem, ⟨16, _⟩ => ⟨S8x128x128, .bf16⟩
  | .local _ .vmem, ⟨17, _⟩ => ⟨S8x128x128, .f32⟩
  | _, _ => ⟨S8704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .eq arg0 c16_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_cond3 (i : grid0.Coords) : BitVec 1 :=
  let arg0 : BitVec 32 := BitVec.ofNat 32 (i 0).val
  let c16_i32 : BitVec 32 := 16#32
  let v0 : BitVec 1 := Scalar.cmpi .eq arg0 c16_i32
  let v4 : BitVec 32 := Scalar.extui v0
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3072x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S8704x2048 : Shape := ⟨2, ![8704, 2048]⟩
abbrev S2048 : Shape := ⟨1, ![2048]⟩
abbrev S2048x5648 : Shape := ⟨2, ![2048, 5648]⟩
abbrev S1024 : Shape := ⟨1, ![1024]⟩
abbrev S8x128x128 : Shape := ⟨3, ![8, 128, 128]⟩
abbrev S8x128 : Shape := ⟨2, ![8, 128]⟩
abbrev S8192x2048 : Shape := ⟨2, ![8192, 2048]⟩
abbrev S1x8192x2048 : Shape := ⟨3, ![1, 8192, 2048]⟩
abbrev S512x2048 : Shape := ⟨2, ![512, 2048]⟩
abbrev S128x4x2048 : Shape := ⟨3, ![128, 4, 2048]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S1x8192x5648 : Shape := ⟨3, ![1, 8192, 5648]⟩
abbrev S1x8192x1024 : Shape := ⟨3, ![1, 8192, 1024]⟩
abbrev S1x1x1024 : Shape := ⟨3, ![1, 1, 1024]⟩
abbrev S1x64x128x8x128 : Shape := ⟨5, ![1, 64, 128, 8, 128]⟩
abbrev S128x128 : Shape := ⟨2, ![128, 128]⟩
abbrev S8x1x64x128x128 : Shape := ⟨5, ![8, 1, 64, 128, 128]⟩
abbrev S128x8 : Shape := ⟨2, ![128, 8]⟩
abbrev S1x1x128x8x1 : Shape := ⟨5, ![1, 1, 128, 8, 1]⟩
abbrev S128x4 : Shape := ⟨2, ![128, 4]⟩
abbrev S128x4x1 : Shape := ⟨3, ![128, 4, 1]⟩
abbrev S128x4x5648 : Shape := ⟨3, ![128, 4, 5648]⟩
abbrev S128x4x1024 : Shape := ⟨3, ![128, 4, 1024]⟩
abbrev S128x1x4x8x128 : Shape := ⟨5, ![128, 1, 4, 8, 128]⟩
abbrev S8x4x4 : Shape := ⟨3, ![8, 4, 4]⟩
abbrev S4x4 : Shape := ⟨2, ![4, 4]⟩
abbrev S8x128x1x128x4 : Shape := ⟨5, ![8, 128, 1, 128, 4]⟩
abbrev S8x4 : Shape := ⟨2, ![8, 4]⟩
abbrev S4x8 : Shape := ⟨2, ![4, 8]⟩
abbrev S1x1x4x8x1 : Shape := ⟨5, ![1, 1, 4, 8, 1]⟩
abbrev S8192x1024 : Shape := ⟨2, ![8192, 1024]⟩
abbrev S512x1024 : Shape := ⟨2, ![512, 1024]⟩
abbrev S8704x1024 : Shape := ⟨2, ![8704, 1024]⟩

abbrev nBuf : Space → Nat
  | .hbm => 173
  | .vmem => 0
  | .smem => 0
  | _ => 0

abbrev hbmTy0_0 (i : Nat) : BufTy := match i % 128 with
  | 0 => ⟨S8704x2048, .f32⟩
  | 1 => ⟨S2048, .f32⟩
  | 2 => ⟨S2048x5648, .f32⟩
  | 3 => ⟨S1024, .f32⟩
  | 4 => ⟨S1024, .f32⟩
  | 5 => ⟨S8x128x128, .f32⟩
  | 6 => ⟨S8x128, .f32⟩
  | 7 => ⟨S8192x2048, .f32⟩
  | 8 => ⟨S1x8192x2048, .f32⟩
  | 9 => ⟨S512x2048, .f32⟩
  | 10 => ⟨S128x4x2048, .f32⟩
  | 11 => ⟨S1x8192x2048, .f32⟩
  | 12 => ⟨S_, .f32⟩
  | 13 => ⟨S1x8192, .f32⟩
  | 14 => ⟨S1x8192x1, .f32⟩
  | 15 => ⟨S_, .f32⟩
  | 16 => ⟨S1x8192x1, .f32⟩
  | 17 => ⟨S1x8192x1, .f32⟩
  | 18 => ⟨S_, .f32⟩
  | 19 => ⟨S1x8192x1, .f32⟩
  | 20 => ⟨S1x8192x1, .f32⟩
  | 21 => ⟨S1x8192x1, .f32⟩
  | 22 => ⟨S1x8192x2048, .f32⟩
  | 23 => ⟨S1x8192x2048, .f32⟩
  | 24 => ⟨S1x1x2048, .f32⟩
  | 25 => ⟨S1x8192x2048, .f32⟩
  | 26 => ⟨S1x8192x2048, .f32⟩
  | 27 => ⟨S1x8192x5648, .f32⟩
  | 28 => ⟨S1x8192x1024, .f32⟩
  | 29 => ⟨S1x8192x1024, .f32⟩
  | 30 => ⟨S1x8192x1024, .f32⟩
  | 31 => ⟨S_, .f32⟩
  | 32 => ⟨S1x8192, .f32⟩
  | 33 => ⟨S1x8192x1, .f32⟩
  | 34 => ⟨S_, .f32⟩
  | 35 => ⟨S1x8192x1, .f32⟩
  | 36 => ⟨S1x8192x1, .f32⟩
  | 37 => ⟨S1x8192x1024, .f32⟩
  | 38 => ⟨S1x8192x1024, .f32⟩
  | 39 => ⟨S1x8192x1024, .f32⟩
  | 40 => ⟨S_, .f32⟩
  | 41 => ⟨S1x8192, .f32⟩
  | 42 => ⟨S1x8192x1, .f32⟩
  | 43 => ⟨S_, .f32⟩
  | 44 => ⟨S1x8192x1, .f32⟩
  | 45 => ⟨S1x8192x1, .f32⟩
  | 46 => ⟨S_, .f32⟩
  | 47 => ⟨S1x8192x1, .f32⟩
  | 48 => ⟨S1x8192x1, .f32⟩
  | 49 => ⟨S1x8192x1, .f32⟩
  | 50 => ⟨S1x8192x1024, .f32⟩
  | 51 => ⟨S1x8192x1024, .f32⟩
  | 52 => ⟨S1x1x1024, .f32⟩
  | 53 => ⟨S1x8192x1024, .f32⟩
  | 54 => ⟨S1x8192x1024, .f32⟩
  | 55 => ⟨S1x1x1024, .f32⟩
  | 56 => ⟨S1x8192x1024, .f32⟩
  | 57 => ⟨S1x8192x1024, .f32⟩
  | 58 => ⟨S1x64x128x8x128, .f32⟩
  | 59 => ⟨S128x128, .i32⟩
  | 60 => ⟨S_, .i32⟩
  | 61 => ⟨S128x128, .i32⟩
  | 62 => ⟨S128x128, .i32⟩
  | 63 => ⟨S128x128, .i32⟩
  | 64 => ⟨S128x128, .i1⟩
  | 65 => ⟨S8x128x128, .i1⟩
  | 66 => ⟨S_, .f32⟩
  | 67 => ⟨S8x128x128, .f32⟩
  | 68 => ⟨S8x128x128, .f32⟩
  | 69 => ⟨S8x1x64x128x128, .f32⟩
  | 70 => ⟨S1x64x128x8x128, .f32⟩
  | 71 => ⟨S128x8, .f32⟩
  | 72 => ⟨S1x1x128x8x1, .f32⟩
  | 73 => ⟨S1x64x128x8x128, .f32⟩
  | 74 => ⟨S1x64x128x8x128, .f32⟩
  | 75 => ⟨S1x8192x1024, .f32⟩
  | 76 => ⟨S1x8192x1024, .f32⟩
  | 77 => ⟨S1x8192x1024, .f32⟩
  | 78 => ⟨S1x8192x1024, .f32⟩
  | 79 => ⟨S_, .f32⟩
  | 80 => ⟨S1x8192x1024, .f32⟩
  | 81 => ⟨S1x8192x1024, .f32⟩
  | 82 => ⟨S_, .f32⟩
  | 83 => ⟨S1x8192x1024, .f32⟩
  | 84 => ⟨S1x8192x1024, .f32⟩
  | 85 => ⟨S1x8192x1024, .f32⟩
  | 86 => ⟨S1x8192x1024, .f32⟩
  | 87 => ⟨S128x4x2048, .f32⟩
  | 88 => ⟨S_, .f32⟩
  | 89 => ⟨S128x4, .f32⟩
  | 90 => ⟨S128x4x1, .f32⟩
  | 91 => ⟨S_, .f32⟩
  | 92 => ⟨S128x4x1, .f32⟩
  | 93 => ⟨S128x4x1, .f32⟩
  | 94 => ⟨S_, .f32⟩
  | 95 => ⟨S128x4x1, .f32⟩
  | 96 => ⟨S128x4x1, .f32⟩
  | 97 => ⟨S128x4x1, .f32⟩
  | 98 => ⟨S128x4x2048, .f32⟩
  | 99 => ⟨S128x4x2048, .f32⟩
  | 100 => ⟨S1x1x2048, .f32⟩
  | 101 => ⟨S128x4x2048, .f32⟩
  | 102 => ⟨S128x4x2048, .f32⟩
  | 103 => ⟨S128x4x5648, .f32⟩
  | 104 => ⟨S128x4x1024, .f32⟩
  | 105 => ⟨S128x4x1024, .f32⟩
  | 106 => ⟨S128x4x1024, .f32⟩
  | 107 => ⟨S_, .f32⟩
  | 108 => ⟨S128x4, .f32⟩
  | 109 => ⟨S128x4x1, .f32⟩
  | 110 => ⟨S_, .f32⟩
  | 111 => ⟨S128x4x1, .f32⟩
  | 112 => ⟨S128x4x1, .f32⟩
  | 113 => ⟨S128x4x1024, .f32⟩
  | 114 => ⟨S128x4x1024, .f32⟩
  | 115 => ⟨S128x4x1024, .f32⟩
  | 116 => ⟨S_, .f32⟩
  | 117 => ⟨S128x4, .f32⟩
  | 118 => ⟨S128x4x1, .f32⟩
  | 119 => ⟨S_, .f32⟩
  | 120 => ⟨S128x4x1, .f32⟩
  | 121 => ⟨S128x4x1, .f32⟩
  | 122 => ⟨S_, .f32⟩
  | 123 => ⟨S128x4x1, .f32⟩
  | 124 => ⟨S128x4x1, .f32⟩
  | 125 => ⟨S128x4x1, .f32⟩
  | 126 => ⟨S128x4x1024, .f32⟩
  | 127 => ⟨S128x4x1024, .f32⟩
  | _ => ⟨S8704x2048, .f32⟩

abbrev hbmTy0_1 (i : Nat) : BufTy := match i % 128 with
  | 0 => ⟨S1x1x1024, .f32⟩
  | 1 => ⟨S128x4x1024, .f32⟩
  | 2 => ⟨S128x4x1024, .f32⟩
  | 3 => ⟨S1x1x1024, .f32⟩
  | 4 => ⟨S128x4x1024, .f32⟩
  | 5 => ⟨S128x4x1024, .f32⟩
  | 6 => ⟨S128x1x4x8x128, .f32⟩
  | 7 => ⟨S8x4x4, .f32⟩
  | 8 => ⟨S4x4, .i32⟩
  | 9 => ⟨S_, .i32⟩
  | 10 => ⟨S4x4, .i32⟩
  | 11 => ⟨S4x4, .i32⟩
  | 12 => ⟨S4x4, .i32⟩
  | 13 => ⟨S4x4, .i1⟩
  | 14 => ⟨S8x4x4, .i1⟩
  | 15 => ⟨S_, .f32⟩
  | 16 => ⟨S8x4x4, .f32⟩
  | 17 => ⟨S8x4x4, .f32⟩
  | 18 => ⟨S8x128x1x128x4, .f32⟩
  | 19 => ⟨S128x1x4x8x128, .f32⟩
  | 20 => ⟨S8x4, .f32⟩
  | 21 => ⟨S4x8, .f32⟩
  | 22 => ⟨S1x1x4x8x1, .f32⟩
  | 23 => ⟨S128x1x4x8x128, .f32⟩
  | 24 => ⟨S128x1x4x8x128, .f32⟩
  | 25 => ⟨S128x4x1024, .f32⟩
  | 26 => ⟨S128x4x1024, .f32⟩
  | 27 => ⟨S128x4x1024, .f32⟩
  | 28 => ⟨S128x4x1024, .f32⟩
  | 29 => ⟨S_, .f32⟩
  | 30 => ⟨S128x4x1024, .f32⟩
  | 31 => ⟨S128x4x1024, .f32⟩
  | 32 => ⟨S_, .f32⟩
  | 33 => ⟨S128x4x1024, .f32⟩
  | 34 => ⟨S128x4x1024, .f32⟩
  | 35 => ⟨S128x4x1024, .f32⟩
  | 36 => ⟨S128x4x1024, .f32⟩
  | 37 => ⟨S8192x1024, .f32⟩
  | 38 => ⟨S512x1024, .f32⟩
  | 39 => ⟨S8704x1024, .f32⟩
  | 40 => ⟨S8192x2048, .f32⟩
  | 41 => ⟨S512x2048, .f32⟩
  | 42 => ⟨S8704x2048, .f32⟩
  | 43 => ⟨S8704x1024, .bf16⟩
  | 44 => ⟨S8704x2048, .bf16⟩
  | _ => ⟨S8704x2048, .f32⟩

abbrev hbmTy (i : Nat) : BufTy := match i / 128 with
  | 0 => hbmTy0_0 i
  | 1 => hbmTy0_1 i
  | _ => ⟨S8704x2048, .f32⟩

abbrev bufTy : (tb : Table) → Fin (tcTables nBuf tb) → BufTy
  | .hbm, ⟨i, _⟩ => hbmTy i
  | _, _ => ⟨S8704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_v5 : Ref sig .tc := ⟨.hbm, 65, rfl⟩
abbrev main_call0_cst : Ref sig .tc := ⟨.hbm, 66, rfl⟩
abbrev main_call0_v6 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_7 : Ref sig .tc := ⟨.hbm, 88, rfl⟩
abbrev main_v56 : Ref sig .tc := ⟨.hbm, 89, rfl⟩
abbrev main_v57 : Ref sig .tc := ⟨.hbm, 90, rfl⟩
abbrev main_cst_8 : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_10 : Ref sig .tc := ⟨.hbm, 107, rfl⟩
abbrev main_v72 : Ref sig .tc := ⟨.hbm, 108, rfl⟩
abbrev main_v73 : Ref sig .tc := ⟨.hbm, 109, rfl⟩
abbrev main_cst_11 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_cst_12 : Ref sig .tc := ⟨.hbm, 116, rfl⟩
abbrev main_v79 : Ref sig .tc := ⟨.hbm, 117, rfl⟩
abbrev main_v80 : Ref sig .tc := ⟨.hbm, 118, rfl⟩
abbrev main_cst_13 : Ref sig .tc := ⟨.hbm, 119, rfl⟩
abbrev main_v81 : Ref sig .tc := ⟨.hbm, 120, rfl⟩
abbrev main_v82 : Ref sig .tc := ⟨.hbm, 121, rfl⟩
abbrev main_cst_14 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_call2_v0 : Ref sig .tc := ⟨.hbm, 136, rfl⟩
abbrev main_call2_c : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_cst : Ref sig .tc := ⟨.hbm, 143, rfl⟩
abbrev main_call2_v6 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_call3_v0 : Ref sig .tc := ⟨.hbm, 155, rfl⟩
abbrev main_call3_v1 : Ref sig .tc := ⟨.hbm, 156, rfl⟩
abbrev main_call3_cst : Ref sig .tc := ⟨.hbm, 157, rfl⟩
abbrev main_call3_v2 : Ref sig .tc := ⟨.hbm, 158, rfl⟩
abbrev main_call3_v3 : Ref sig .tc := ⟨.hbm, 159, rfl⟩
abbrev main_call3_cst_0 : Ref sig .tc := ⟨.hbm, 160, rfl⟩
abbrev main_call3_v4 : Ref sig .tc := ⟨.hbm, 161, rfl⟩
abbrev main_call3_v5 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩

abbrev nD : Nat := 1
abbrev τ : Topo := Topo.v7x

variable {F : FTy → Type} [FloatOps F]
-- ==== Kernel3.lean ====
abbrev S8704x1024 : Shape := ⟨2, ![8704, 1024]⟩
abbrev S8192x1024 : Shape := ⟨2, ![8192, 1024]⟩
abbrev S512x1024 : Shape := ⟨2, ![512, 1024]⟩
abbrev S1x8192x2048 : Shape := ⟨3, ![1, 8192, 2048]⟩
abbrev S128x4x2048 : Shape := ⟨3, ![128, 4, 2048]⟩
abbrev S2048x2048 : Shape := ⟨2, ![2048, 2048]⟩
abbrev S2048 : Shape := ⟨1, ![2048]⟩
abbrev S8192x2048 : Shape := ⟨2, ![8192, 2048]⟩
abbrev S1x2048 : Shape := ⟨2, ![1, 2048]⟩
abbrev S8704x2048 : Shape := ⟨2, ![8704, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 10
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8192x1024, .bf16⟩
  | .hbm, ⟨2, _⟩ => ⟨S512x1024, .bf16⟩
  | .hbm, ⟨3, _⟩ => ⟨S1x8192x2048, .f32⟩
  | .hbm, ⟨4, _⟩ => ⟨S128x4x2048, .f32⟩
  | .hbm, ⟨5, _⟩ => ⟨S2048x2048, .f32⟩
  | .hbm, ⟨6, _⟩ => ⟨S2048, .f32⟩
  | .hbm, ⟨7, _⟩ => ⟨S8192x2048, .f32⟩
  | .hbm, ⟨8, _⟩ => ⟨S1x2048, .f32⟩
  | .hbm, ⟨9, _⟩ => ⟨S8704x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .f32⟩
  | .local _ .vmem, ⟨6, _⟩ => ⟨S512x2048, .f32⟩
  | .local _ .vmem, ⟨7, _⟩ => ⟨S128x4x2048, .f32⟩
  | .local _ .vmem, ⟨8, _⟩ => ⟨S2048x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .eq arg0 c16_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c16_i32 : BitVec 32 := 16#32
  let v0 : BitVec 1 := Scalar.cmpi .eq arg0 c16_i32
  let v4 : BitVec 32 := Scalar.extui v0
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S8704x1024 : Shape := ⟨2, ![8704, 1024]⟩
abbrev S8192x1024 : Shape := ⟨2, ![8192, 1024]⟩
abbrev S512x1024 : Shape := ⟨2, ![512, 1024]⟩
abbrev S1x8192x2048 : Shape := ⟨3, ![1, 8192, 2048]⟩
abbrev S128x4x2048 : Shape := ⟨3, ![128, 4, 2048]⟩
abbrev S2048x2048 : Shape := ⟨2, ![2048, 2048]⟩
abbrev S2048 : Shape := ⟨1, ![2048]⟩
abbrev S1x8192x1024 : Shape := ⟨3, ![1, 8192, 1024]⟩
abbrev S_ : Shape := ⟨0, ![]⟩
abbrev S1x8192 : Shape := ⟨2, ![1, 8192]⟩
abbrev S1x8192x1 : Shape := ⟨3, ![1, 8192, 1]⟩
abbrev S1x1x2048 : Shape := ⟨3, ![1, 1, 2048]⟩
abbrev S128x4x1024 : Shape := ⟨3, ![128, 4, 1024]⟩
abbrev S128x4 : Shape := ⟨2, ![128, 4]⟩
abbrev S128x4x1 : Shape := ⟨3, ![128, 4, 1]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 58
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8192x1024, .bf16⟩
  | .hbm, ⟨2, _⟩ => ⟨S512x1024, .bf16⟩
  | .hbm, ⟨3, _⟩ => ⟨S1x8192x2048, .f32⟩
  | .hbm, ⟨4, _⟩ => ⟨S128x4x2048, .f32⟩
  | .hbm, ⟨5, _⟩ => ⟨S2048x2048, .f32⟩
  | .hbm, ⟨6, _⟩ => ⟨S2048, .f32⟩
  | .hbm, ⟨7, _⟩ => ⟨S8192x1024, .bf16⟩
  | .hbm, ⟨8, _⟩ => ⟨S8192x1024, .f32⟩
  | .hbm, ⟨9, _⟩ => ⟨S1x8192x1024, .f32⟩
  | .hbm, ⟨10, _⟩ => ⟨S8192x1024, .f32⟩
  | .hbm, ⟨11, _⟩ => ⟨S1x8192x1024, .f32⟩
  | .hbm, ⟨12, _⟩ => ⟨S1x8192x2048, .f32⟩
  | .hbm, ⟨13, _⟩ => ⟨S1x8192x2048, .f32⟩
  | .hbm, ⟨14, _⟩ => ⟨S1x8192x2048, .f32⟩
  | .hbm, ⟨15, _⟩ => ⟨S_, .f32⟩
  | .hbm, ⟨16, _⟩ => ⟨S1x8192, .f32⟩
  | .hbm, ⟨17, _⟩ => ⟨S1x8192x1, .f32⟩
  | .hbm, ⟨18, _⟩ => ⟨S_, .f32⟩
  | .hbm, ⟨19, _⟩ => ⟨S1x8192x1, .f32⟩
  | .hbm, ⟨20, _⟩ => ⟨S1x8192x1, .f32⟩
  | .hbm, ⟨21, _⟩ => ⟨S_, .f32⟩
  | .hbm, ⟨22, _⟩ => ⟨S1x8192x1, .f32⟩
  | .hbm, ⟨23, _⟩ => ⟨S1x8192x1, .f32⟩
  | .hbm, ⟨24, _⟩ => ⟨S1x8192x1, .f32⟩
  | .hbm, ⟨25, _⟩ => ⟨S1x8192x2048, .f32⟩
  | .hbm, ⟨26, _⟩ => ⟨S1x8192x2048, .f32⟩
  | .hbm, ⟨27, _⟩ => ⟨S1x1x2048, .f32⟩
  | .hbm, ⟨28, _⟩ => ⟨S1x8192x2048, .f32⟩
  | .hbm, ⟨29, _⟩ => ⟨S1x8192x2048, .f32⟩
  | .hbm, ⟨30, _⟩ => ⟨S1x8192x2048, .f32⟩
  | .hbm, ⟨31, _⟩ => ⟨S512x1024, .bf16⟩
  | .hbm, ⟨32, _⟩ => ⟨S512x1024, .f32⟩
  | .hbm, ⟨33, _⟩ => ⟨S128x4x1024, .f32⟩
  | .hbm, ⟨34, _⟩ => ⟨S512x1024, .f32⟩
  | .hbm, ⟨35, _⟩ => ⟨S128x4x1024, .f32⟩
  | .hbm, ⟨36, _⟩ => ⟨S128x4x2048, .f32⟩
  | .hbm, ⟨37, _⟩ => ⟨S128x4x2048, .f32⟩
  | .hbm, ⟨38, _⟩ => ⟨S128x4x2048, .f32⟩
  | .hbm, ⟨39, _⟩ => ⟨S_, .f32⟩
  | .hbm, ⟨40, _⟩ => ⟨S128x4, .f32⟩
  | .hbm, ⟨41, _⟩ => ⟨S128x4x1, .f32⟩
  | .hbm, ⟨42, _⟩ => ⟨S_, .f32⟩
  | .hbm, ⟨43, _⟩ => ⟨S128x4x1, .f32⟩
  | .hbm, ⟨44, _⟩ => ⟨S128x4x1, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S128x4x1, .f32⟩
  | .hbm, ⟨49, _⟩ => ⟨S128x4x2048, .f32⟩
  | .hbm, ⟨50, _⟩ => ⟨S128x4x2048, .f32⟩
  | .hbm, ⟨51, _⟩ => ⟨S1x1x2048, .f32⟩
  | .hbm, ⟨52, _⟩ => ⟨S128x4x2048, .f32⟩
  | .hbm, ⟨53, _⟩ => ⟨S128x4x2048, .f32⟩
  | .hbm, ⟨54, _⟩ => ⟨S128x4x2048, .f32⟩
  | .hbm, ⟨55, _⟩ => ⟨S8192x2048, .f32⟩
  | .hbm, ⟨56, _⟩ => ⟨S512x2048, .f32⟩
  | .hbm, ⟨57, _⟩ => ⟨S8704x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_cst_4 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel2.lean ====
abbrev S8704x1024 : Shape := ⟨2, ![8704, 1024]⟩
abbrev S8192x1024 : Shape := ⟨2, ![8192, 1024]⟩
abbrev S512x1024 : Shape := ⟨2, ![512, 1024]⟩
abbrev S8704x2048 : Shape := ⟨2, ![8704, 2048]⟩
abbrev S2048x2048 : Shape := ⟨2, ![2048, 2048]⟩
abbrev S2048 : Shape := ⟨1, ![2048]⟩
abbrev S1x2048 : Shape := ⟨2, ![1, 2048]⟩
abbrev S8192x2048 : Shape := ⟨2, ![8192, 2048]⟩
abbrev S128x4x2048 : Shape := ⟨3, ![128, 4, 2048]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S8704x1024, .bf16⟩
  | .hbm, ⟨1, _⟩ => ⟨S8192x1024, .bf16⟩
  | .hbm, ⟨2, _⟩ => ⟨S512x1024, .bf16⟩
  | .hbm, ⟨3, _⟩ => ⟨S8704x2048, .f32⟩
  | .hbm, ⟨4, _⟩ => ⟨S2048x2048, .f32⟩
  | .hbm, ⟨5, _⟩ => ⟨S2048, .f32⟩
  | .hbm, ⟨6, _⟩ => ⟨S1x2048, .f32⟩
  | .hbm, ⟨7, _⟩ => ⟨S8192x2048, .f32⟩
  | .hbm, ⟨8, _⟩ => ⟨S128x4x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x2048, .f32⟩
  | .local _ .vmem, ⟨6, _⟩ => ⟨S512x2048, .f32⟩
  | .local _ .vmem, ⟨7, _⟩ => ⟨S2048x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S128x4x2048, .f32⟩
  | _, _ => ⟨S8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .eq arg0 c16_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_cond2 (i : grid0.Coords) : BitVec 1 :=
  let arg0 : BitVec 32 := BitVec.ofNat 32 (i 0).val
  let c16_i32 : BitVec 32 := 16#32
  let v0 : BitVec 1 := Scalar.cmpi .eq arg0 c16_i32
  let v4 : BitVec 32 := Scalar.extui v0
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S128x4x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S8704x1024 : Shape := ⟨2, ![8704, 1024]⟩
abbrev S8192x1024 : Shape := ⟨2, ![8192, 1024]⟩
abbrev S512x1024 : Shape := ⟨2, ![512, 1024]⟩
abbrev S8704x2048 : Shape := ⟨2, ![8704, 2048]⟩
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S512x2048 : Shape := ⟨2, ![512, 2048]⟩
abbrev S128x4x2048 : Shape := ⟨3, ![128, 4, 2048]⟩
abbrev S128x4x1024 : Shape := ⟨3, ![128, 4, 1024]⟩
abbrev S128x4 : Shape := ⟨2, ![128, 4]⟩
abbrev S128x4x1 : Shape := ⟨3, ![128, 4, 1]⟩
abbrev S1x1x2048 : Shape := ⟨3, ![1, 1, 2048]⟩

abbrev nBuf : Space → Nat
  | .hbm => 55
  | .vmem => 0
  | .smem => 0
  | _ => 0

abbrev bufTy : (tb : Table) → Fin (tcTables nBuf tb) → BufTy
  | .hbm, ⟨0, _⟩ => ⟨S8704x1024, .bf16⟩
  | .hbm, ⟨1, _⟩ => ⟨S8192x1024, .bf16⟩
  | .hbm, ⟨2, _⟩ => ⟨S512x1024, .bf16⟩
  | .hbm, ⟨3, _⟩ => ⟨S8704x2048, .f32⟩
  | .hbm, ⟨4, _⟩ => ⟨S2048x2048, .f32⟩
  | .hbm, ⟨5, _⟩ => ⟨S2048, .f32⟩
  | .hbm, ⟨6, _⟩ => ⟨S8192x2048, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S512x2048, .f32⟩
  | .hbm, ⟨30, _⟩ => ⟨S128x4x2048, .f32⟩
  | .hbm, ⟨31, _⟩ => ⟨S512x1024, .bf16⟩
  | .hbm, ⟨32, _⟩ => ⟨S512x1024, .f32⟩
  | .hbm, ⟨33, _⟩ => ⟨S128x4x1024, .f32⟩
  | .hbm, ⟨34, _⟩ => ⟨S512x1024, .f32⟩
  | .hbm, ⟨35, _⟩ => ⟨S128x4x1024, .f32⟩
  | .hbm, ⟨36, _⟩ => ⟨S128x4x2048, .f32⟩
  | .hbm, ⟨37, _⟩ => ⟨S128x4x2048, .f32⟩
  | .hbm, ⟨38, _⟩ => ⟨S128x4x2048, .f32⟩
  | .hbm, ⟨39, _⟩ => ⟨S_, .f32⟩
  | .hbm, ⟨40, _⟩ => ⟨S128x4, .f32⟩
  | .hbm, ⟨41, _⟩ => ⟨S128x4x1, .f32⟩
  | .hbm, ⟨42, _⟩ => ⟨S_, .f32⟩
  | .hbm, ⟨43, _⟩ => ⟨S128x4x1, .f32⟩
  | .hbm, ⟨44, _⟩ => ⟨S128x4x1, .f32⟩
  | .hbm, ⟨45, _⟩ => ⟨S_, .f32⟩
  | .hbm, ⟨46, _⟩ => ⟨S128x4x1, .f32⟩
  | .hbm, ⟨47, _⟩ => ⟨S128x4x1, .f32⟩
  | .hbm, ⟨48, _⟩ => ⟨S128x4x1, .f32⟩
  | .hbm, ⟨49, _⟩ => ⟨S128x4x2048, .f32⟩
  | .hbm, ⟨50, _⟩ => ⟨S128x4x2048, .f32⟩
  | .hbm, ⟨51, _⟩ => ⟨S1x1x2048, .f32⟩
  | .hbm, ⟨52, _⟩ => ⟨S128x4x2048, .f32⟩
  | .hbm, ⟨53, _⟩ => ⟨S128x4x2048, .f32⟩
  | .hbm, ⟨54, _⟩ => ⟨S128x4x2048, .f32⟩
  | _, _ => ⟨S8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel4.lean ====
abbrev S1x8192x2048 : Shape := ⟨3, ![1, 8192, 2048]⟩
abbrev S128x4x2048 : Shape := ⟨3, ![128, 4, 2048]⟩
abbrev S128x2x1024 : Shape := ⟨3, ![128, 2, 1024]⟩
abbrev S2048 : Shape := ⟨1, ![2048]⟩
abbrev S2048x6656 : Shape := ⟨2, ![2048, 6656]⟩
abbrev S3x1024 : Shape := ⟨2, ![3, 1024]⟩
abbrev S8192x2048 : Shape := ⟨2, ![8192, 2048]⟩
abbrev S1x2048 : Shape := ⟨2, ![1, 2048]⟩
abbrev S8704x1024 : Shape := ⟨2, ![8704, 1024]⟩
abbrev S1x2x1024 : Shape := ⟨3, ![1, 2, 1024]⟩
abbrev S8704x2048 : Shape := ⟨2, ![8704, 2048]⟩
abbrev S512x2048 : Shape := ⟨2, ![512, 2048]⟩
abbrev S2048x4096 : Shape := ⟨2, ![2048, 4096]⟩
abbrev S512x1024 : Shape := ⟨2, ![512, 1024]⟩
abbrev S520x256 : Shape := ⟨2, ![520, 256]⟩
abbrev S8x1024 : Shape := ⟨2, ![8, 1024]⟩
abbrev S512 : Shape := ⟨1, ![512]⟩
abbrev S512x1 : Shape := ⟨2, ![512, 1]⟩
abbrev S2048x256 : Shape := ⟨2, ![2048, 256]⟩
abbrev S512x256 : Shape := ⟨2, ![512, 256]⟩
abbrev S8x256 : Shape := ⟨2, ![8, 256]⟩
abbrev S2x256 : Shape := ⟨2, ![2, 256]⟩
abbrev S1x2x256 : Shape := ⟨3, ![1, 2, 256]⟩
abbrev S1x256 : Shape := ⟨2, ![1, 256]⟩
abbrev S512x768 : Shape := ⟨2, ![512, 768]⟩
abbrev S128x2x256 : Shape := ⟨3, ![128, 2, 256]⟩
abbrev S256x256 : Shape := ⟨2, ![256, 256]⟩
abbrev S768x256 : Shape := ⟨2, ![768, 256]⟩
abbrev S128x4x256 : Shape := ⟨3, ![128, 4, 256]⟩

abbrev nBuf : Space → Nat
  | .hbm => 12
  | .vmem => 15
  | .smem => 0
  | _ => 0

abbrev bufTy : (tb : Table) → Fin (tcTables nBuf tb) → BufTy
  | .hbm, ⟨0, _⟩ => ⟨S1x8192x2048, .f32⟩
  | .hbm, ⟨1, _⟩ => ⟨S128x4x2048, .f32⟩
  | .hbm, ⟨2, _⟩ => ⟨S128x2x1024, .f32⟩
  | .hbm, ⟨3, _⟩ => ⟨S2048, .f32⟩
  | .hbm, ⟨4, _⟩ => ⟨S2048x6656, .f32⟩
  | .hbm, ⟨5, _⟩ => ⟨S3x1024, .f32⟩
  | .hbm, ⟨6, _⟩ => ⟨S8192x2048, .f32⟩
  | .hbm, ⟨7, _⟩ => ⟨S1x2048, .f32⟩
  | .hbm, ⟨8, _⟩ => ⟨S8704x1024, .bf16⟩
  | .hbm, ⟨9, _⟩ => ⟨S1x2x1024, .f32⟩
  | .hbm, ⟨10, _⟩ => ⟨S128x2x1024, .f32⟩
  | .hbm, ⟨11, _⟩ => ⟨S8704x2048, .bf16⟩
  | .local _ .vmem, ⟨0, _⟩ => ⟨S512x2048, .f32⟩
  | .local _ .vmem, ⟨1, _⟩ => ⟨S512x2048, .f32⟩
  | .local _ .vmem, ⟨2, _⟩ => ⟨S128x4x2048, .f32⟩
  | .local _ .vmem, ⟨3, _⟩ => ⟨S1x2048, .f32⟩
  | .local _ .vmem, ⟨4, _⟩ => ⟨S2048x4096, .f32⟩
  | .local _ .vmem, ⟨5, _⟩ => ⟨S3x1024, .f32⟩
  | .local _ .vmem, ⟨6, _⟩ => ⟨S128x2x1024, .f32⟩
  | .local _ .vmem, ⟨7, _⟩ => ⟨S512x1024, .bf16⟩
  | .local _ .vmem, ⟨8, _⟩ => ⟨S512x1024, .bf16⟩
  | .local _ .vmem, ⟨9, _⟩ => ⟨S1x2x1024, .f32⟩
  | .local _ .vmem, ⟨10, _⟩ => ⟨S128x2x1024, .f32⟩
  | .local _ .vmem, ⟨11, _⟩ => ⟨S512x2048, .bf16⟩
  | .local _ .vmem, ⟨12, _⟩ => ⟨S512x2048, .bf16⟩
  | .local _ .vmem, ⟨13, _⟩ => ⟨S520x256, .f32⟩
  | .local _ .vmem, ⟨14, _⟩ => ⟨S8x1024, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .eq arg0 c16_i32
  let v_true : BitVec 1 := 1#1
  let v1 : BitVec 1 := Scalar.xori v0 v_true
  let v2 : BitVec 32 := Scalar.extui v1
  let c0_i32 : BitVec 32 := 0#32
  let v3 : BitVec 1 := Scalar.cmpi .ne v2 c0_i32
  v3

def k0_cond3 (i : grid0.Coords) : BitVec 1 :=
  let arg0 : BitVec 32 := BitVec.ofNat 32 (i 0).val
  let c16_i32 : BitVec 32 := 16#32
  let v0 : BitVec 1 := Scalar.cmpi .eq arg0 c16_i32
  let v4 : BitVec 32 := Scalar.extui v0
  let c0_i32_0 : BitVec 32 := 0#32
  let v5 : BitVec 1 := Scalar.cmpi .ne v4 c0_i32_0
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S1x8192x2048 : Shape := ⟨3, ![1, 8192, 2048]⟩
abbrev S128x4x2048 : Shape := ⟨3, ![128, 4, 2048]⟩
abbrev S128x2x1024 : Shape := ⟨3, ![128, 2, 1024]⟩
abbrev S2048 : Shape := ⟨1, ![2048]⟩
abbrev S2048x6656 : Shape := ⟨2, ![2048, 6656]⟩
abbrev S3x1024 : Shape := ⟨2, ![3, 1024]⟩
abbrev S_ : Shape := ⟨0, ![]⟩
abbrev S1x2x1024 : Shape := ⟨3, ![1, 2, 1024]⟩
abbrev S1x8192 : Shape := ⟨2, ![1, 8192]⟩
abbrev S1x8192x1 : Shape := ⟨3, ![1, 8192, 1]⟩
abbrev S1x1x2048 : Shape := ⟨3, ![1, 1, 2048]⟩
abbrev S1x8192x6656 : Shape := ⟨3, ![1, 8192, 6656]⟩
abbrev S1x8192x1024 : Shape := ⟨3, ![1, 8192, 1024]⟩
abbrev S1x8194x1024 : Shape := ⟨3, ![1, 8194, 1024]⟩
abbrev S1x1024 : Shape := ⟨2, ![1, 1024]⟩
abbrev S1024 : Shape := ⟨1, ![1024]⟩
abbrev S1x1x1024 : Shape := ⟨3, ![1, 1, 1024]⟩
abbrev S128x4 : Shape := ⟨2, ![128, 4]⟩
abbrev S128x4x1 : Shape := ⟨3, ![128, 4, 1]⟩
abbrev S128x4x6656 : Shape := ⟨3, ![128, 4, 6656]⟩
abbrev S128x4x1024 : Shape := ⟨3, ![128, 4, 1024]⟩
abbrev S128x6x1024 : Shape := ⟨3, ![128, 6, 1024]⟩
abbrev S8192x1024 : Shape := ⟨2, ![8192, 1024]⟩
abbrev S512x1024 : Shape := ⟨2, ![512, 1024]⟩
abbrev S8704x1024 : Shape := ⟨2, ![8704, 1024]⟩
abbrev S8192x2048 : Shape := ⟨2, ![8192, 2048]⟩
abbrev S512x2048 : Shape := ⟨2, ![512, 2048]⟩
abbrev S8704x2048 : Shape := ⟨2, ![8704, 2048]⟩

abbrev nBuf : Space → Nat
  | .hbm => 126
  | .vmem => 0
  | .smem => 0
  | _ => 0

abbrev bufTy : (tb : Table) → Fin (tcTables nBuf tb) → BufTy
  | .hbm, ⟨0, _⟩ => ⟨S1x8192x2048, .f32⟩
  | .hbm, ⟨1, _⟩ => ⟨S128x4x2048, .f32⟩
  | .hbm, ⟨2, _⟩ => ⟨S128x2x1024, .f32⟩
  | .hbm, ⟨3, _⟩ => ⟨S2048, .f32⟩
  | .hbm, ⟨4, _⟩ => ⟨S2048x6656, .f32⟩
  | .hbm, ⟨5, _⟩ => ⟨S3x1024, .f32⟩
  | .hbm, ⟨6, _⟩ => ⟨S_, .f32⟩
  | .hbm, ⟨7, _⟩ => ⟨S1x2x1024, .f32⟩
  | .hbm, ⟨8, _⟩ => ⟨S1x8192x2048, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x2048, .f32⟩
  | .hbm, ⟨20, _⟩ => ⟨S1x8192x2048, .f32⟩
  | .hbm, ⟨21, _⟩ => ⟨S1x1x2048, .f32⟩
  | .hbm, ⟨22, _⟩ => ⟨S1x8192x2048, .f32⟩
  | .hbm, ⟨23, _⟩ => ⟨S1x8192x2048, .f32⟩
  | .hbm, ⟨24, _⟩ => ⟨S1x8192x6656, .f32⟩
  | .hbm, ⟨25, _⟩ => ⟨S1x8192x1024, .f32⟩
  | .hbm, ⟨26, _⟩ => ⟨S1x8192x1024, .f32⟩
  | .hbm, ⟨27, _⟩ => ⟨S1x8192x1024, .f32⟩
  | .hbm, ⟨28, _⟩ => ⟨S1x8192x1024, .f32⟩
  | .hbm, ⟨29, _⟩ => ⟨S1x8192x1024, .f32⟩
  | .hbm, ⟨30, _⟩ => ⟨S1x8194x1024, .f32⟩
  | .hbm, ⟨31, _⟩ => ⟨S1x8192x1024, .f32⟩
  | .hbm, ⟨32, _⟩ => ⟨S1x1024, .f32⟩
  | .hbm, ⟨33, _⟩ => ⟨S1024, .f32⟩
  | .hbm, ⟨34, _⟩ => ⟨S1x1x1024, .f32⟩
  | .hbm, ⟨35, _⟩ => ⟨S1x8192x1024, .f32⟩
  | .hbm, ⟨36, _⟩ => ⟨S1x8192x1024, .f32⟩
  | .hbm, ⟨37, _⟩ => ⟨S1x8192x1024, .f32⟩
  | .hbm, ⟨38, _⟩ => ⟨S1x1024, .f32⟩
  | .hbm, ⟨39, _⟩ => ⟨S1024, .f32⟩
  | .hbm, ⟨40, _⟩ => ⟨S1x1x1024, .f32⟩
  | .hbm, ⟨41, _⟩ => ⟨S1x8192x1024, .f32⟩
  | .hbm, ⟨42, _⟩ => ⟨S1x8192x1024, .f32⟩
  | .hbm, ⟨43, _⟩ => ⟨S1x8192x1024, .f32⟩
  | .hbm, ⟨44, _⟩ => ⟨S1x8192x1024, .f32⟩
  | .hbm, ⟨45, _⟩ => ⟨S1x1024, .f32⟩
  | .hbm, ⟨46, _⟩ => ⟨S1024, .f32⟩
  | .hbm, ⟨47, _⟩ => ⟨S1x1x1024, .f32⟩
  | .hbm, ⟨48, _⟩ => ⟨S1x8192x1024, .f32⟩
  | .hbm, ⟨49, _⟩ => ⟨S1x8192x1024, .f32⟩
  | .hbm, ⟨50, _⟩ => ⟨S1x8192x1024, .f32⟩
  | .hbm, ⟨51, _⟩ => ⟨S1x2x1024, .f32⟩
  | .hbm, ⟨52, _⟩ => ⟨S1x8192x1024, .f32⟩
  | .hbm, ⟨53, _⟩ => ⟨S1x8192x1024, .f32⟩
  | .hbm, ⟨54, _⟩ => ⟨S1x8192x1024, .f32⟩
  | .hbm, ⟨55, _⟩ => ⟨S_, .f32⟩
  | .hbm, ⟨56, _⟩ => ⟨S1x8192x1024, .f32⟩
  | .hbm, ⟨57, _⟩ => ⟨S1x8192x1024, .f32⟩
  | .hbm, ⟨58, _⟩ => ⟨S_, .f32⟩
  | .hbm, ⟨59, _⟩ => ⟨S1x8192x1024, .f32⟩
  | .hbm, ⟨60, _⟩ => ⟨S1x8192x1024, .f32⟩
  | .hbm, ⟨61, _⟩ => ⟨S1x8192x1024, .f32⟩
  | .hbm, ⟨62, _⟩ => ⟨S1x8192x1024, .f32⟩
  | .hbm, ⟨63, _⟩ => ⟨S128x4x2048, .f32⟩
  | .hbm, ⟨64, _⟩ => ⟨S_, .f32⟩
  | .hbm, ⟨65, _⟩ => ⟨S128x4, .f32⟩
  | .hbm, ⟨66, _⟩ => ⟨S128x4x1, .f32⟩
  | .hbm, ⟨67, _⟩ => ⟨S_, .f32⟩
  | .hbm, ⟨68, _⟩ => ⟨S128x4x1, .f32⟩
  | .hbm, ⟨69, _⟩ => ⟨S128x4x1, .f32⟩
  | .hbm, ⟨70, _⟩ => ⟨S_, .f32⟩
  | .hbm, ⟨71, _⟩ => ⟨S128x4x1, .f32⟩
  | .hbm, ⟨72, _⟩ => ⟨S128x4x1, .f32⟩
  | .hbm, ⟨73, _⟩ => ⟨S128x4x1, .f32⟩
  | .hbm, ⟨74, _⟩ => ⟨S128x4x2048, .f32⟩
  | .hbm, ⟨75, _⟩ => ⟨S128x4x2048, .f32⟩
  | .hbm, ⟨76, _⟩ => ⟨S1x1x2048, .f32⟩
  | .hbm, ⟨77, _⟩ => ⟨S128x4x2048, .f32⟩
  | .hbm, ⟨78, _⟩ => ⟨S128x4x2048, .f32⟩
  | .hbm, ⟨79, _⟩ => ⟨S128x4x6656, .f32⟩
  | .hbm, ⟨80, _⟩ => ⟨S128x4x1024, .f32⟩
  | .hbm, ⟨81, _⟩ => ⟨S128x4x1024, .f32⟩
  | .hbm, ⟨82, _⟩ => ⟨S128x4x1024, .f32⟩
  | .hbm, ⟨83, _⟩ => ⟨S128x4x1024, .f32⟩
  | .hbm, ⟨84, _⟩ => ⟨S128x4x1024, .f32⟩
  | .hbm, ⟨85, _⟩ => ⟨S128x6x1024, .f32⟩
  | .hbm, ⟨86, _⟩ => ⟨S128x4x1024, .f32⟩
  | .hbm, ⟨87, _⟩ => ⟨S1x1024, .f32⟩
  | .hbm, ⟨88, _⟩ => ⟨S1024, .f32⟩
  | .hbm, ⟨89, _⟩ => ⟨S1x1x1024, .f32⟩
  | .hbm, ⟨90, _⟩ => ⟨S128x4x1024, .f32⟩
  | .hbm, ⟨91, _⟩ => ⟨S128x4x1024, .f32⟩
  | .hbm, ⟨92, _⟩ => ⟨S128x4x1024, .f32⟩
  | .hbm, ⟨93, _⟩ => ⟨S1x1024, .f32⟩
  | .hbm, ⟨94, _⟩ => ⟨S1024, .f32⟩
  | .hbm, ⟨95, _⟩ => ⟨S1x1x1024, .f32⟩
  | .hbm, ⟨96, _⟩ => ⟨S128x4x1024, .f32⟩
  | .hbm, ⟨97, _⟩ => ⟨S128x4x1024, .f32⟩
  | .hbm, ⟨98, _⟩ => ⟨S128x4x1024, .f32⟩
  | .hbm, ⟨99, _⟩ => ⟨S128x4x1024, .f32⟩
  | .hbm, ⟨100, _⟩ => ⟨S1x1024, .f32⟩
  | .hbm, ⟨101, _⟩ => ⟨S1024, .f32⟩
  | .hbm, ⟨102, _⟩ => ⟨S1x1x1024, .f32⟩
  | .hbm, ⟨103, _⟩ => ⟨S128x4x1024, .f32⟩
  | .hbm, ⟨104, _⟩ => ⟨S128x4x1024, .f32⟩
  | .hbm, ⟨105, _⟩ => ⟨S128x4x1024, .f32⟩
  | .hbm, ⟨106, _⟩ => ⟨S128x2x1024, .f32⟩
  | .hbm, ⟨107, _⟩ => ⟨S128x4x1024, .f32⟩
  | .hbm, ⟨108, _⟩ => ⟨S128x4x1024, .f32⟩
  | .hbm, ⟨109, _⟩ => ⟨S128x4x1024, .f32⟩
  | .hbm, ⟨110, _⟩ => ⟨S_, .f32⟩
  | .hbm, ⟨111, _⟩ => ⟨S128x4x1024, .f32⟩
  | .hbm, ⟨112, _⟩ => ⟨S128x4x1024, .f32⟩
  | .hbm, ⟨113, _⟩ => ⟨S_, .f32⟩
  | .hbm, ⟨114, _⟩ => ⟨S128x4x1024, .f32⟩
  | .hbm, ⟨115, _⟩ => ⟨S128x4x1024, .f32⟩
  | .hbm, ⟨116, _⟩ => ⟨S128x4x1024, .f32⟩
  | .hbm, ⟨117, _⟩ => ⟨S128x4x1024, .f32⟩
  | .hbm, ⟨118, _⟩ => ⟨S8192x1024, .f32⟩
  | .hbm, ⟨119, _⟩ => ⟨S512x1024, .f32⟩
  | .hbm, ⟨120, _⟩ => ⟨S8704x1024, .f32⟩
  | .hbm, ⟨121, _⟩ => ⟨S8192x2048, .f32⟩
  | .hbm, ⟨122, _⟩ => ⟨S512x2048, .f32⟩
  | .hbm, ⟨123, _⟩ => ⟨S8704x2048, .f32⟩
  | .hbm, ⟨124, _⟩ => ⟨S8704x1024, .bf16⟩
  | .hbm, ⟨125, _⟩ => ⟨S8704x2048, .bf16⟩
  | _, _ => ⟨S1x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_3 : Ref sig .tc := ⟨.hbm, 64, rfl⟩
abbrev main_v46 : Ref sig .tc := ⟨.hbm, 65, rfl⟩
abbrev main_v47 : Ref sig .tc := ⟨.hbm, 66, rfl⟩
abbrev main_cst_4 : Ref sig .tc := ⟨.hbm, 67, rfl⟩
abbrev main_v48 : Ref sig .tc := ⟨.hbm, 68, rfl⟩
abbrev main_v49 : Ref sig .tc := ⟨.hbm, 69, rfl⟩
abbrev main_cst_5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_call1_v0 : Ref sig .tc := ⟨.hbm, 108, rfl⟩
abbrev main_call1_v1 : Ref sig .tc := ⟨.hbm, 109, rfl⟩
abbrev main_call1_cst : Ref sig .tc := ⟨.hbm, 110, rfl⟩
abbrev main_call1_v2 : Ref sig .tc := ⟨.hbm, 111, rfl⟩
abbrev main_call1_v3 : Ref sig .tc := ⟨.hbm, 112, rfl⟩
abbrev main_call1_cst_0 : Ref sig .tc := ⟨.hbm, 113, rfl⟩
abbrev main_call1_v4 : Ref sig .tc := ⟨.hbm, 114, rfl⟩
abbrev main_call1_v5 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩

abbrev nD : Nat := 1
abbrev τ : Topo := Topo.v7x

variable {F : FTy → Type} [FloatOps F]
-- ==== Kernel5.lean ====
abbrev S128x4x4x4x64 : Shape := ⟨5, ![128, 4, 4, 4, 64]⟩
abbrev S128x4x1024 : Shape := ⟨3, ![128, 4, 1024]⟩
abbrev S128x4x4x64 : Shape := ⟨4, ![128, 4, 4, 64]⟩
abbrev S128x128x4x64 : Shape := ⟨4, ![128, 128, 4, 64]⟩
abbrev S32x16 : Shape := ⟨2, ![32, 16]⟩
abbrev S16 : Shape := ⟨1, ![16]⟩
abbrev S512x1024 : Shape := ⟨2, ![512, 1024]⟩
abbrev S512x2048 : Shape := ⟨2, ![512, 2048]⟩
abbrev S4x128x256 : Shape := ⟨3, ![4, 128, 256]⟩
abbrev S4x256x128 : Shape := ⟨3, ![4, 256, 128]⟩
abbrev S128 : Shape := ⟨1, ![128]⟩
abbrev S_ : Shape := ⟨0, ![]⟩
abbrev S128x1 : Shape := ⟨2, ![128, 1]⟩
abbrev S128x16 : Shape := ⟨2, ![128, 16]⟩
abbrev S1x16 : Shape := ⟨2, ![1, 16]⟩
abbrev S127x16 : Shape := ⟨2, ![127, 16]⟩
abbrev S124x16 : Shape := ⟨2, ![124, 16]⟩
abbrev S3x16 : Shape := ⟨2, ![3, 16]⟩
abbrev S256x16 : Shape := ⟨2, ![256, 16]⟩
abbrev S2x16 : Shape := ⟨2, ![2, 16]⟩
abbrev S126x16 : Shape := ⟨2, ![126, 16]⟩
abbrev S125x16 : Shape := ⟨2, ![125, 16]⟩
abbrev S4x16 : Shape := ⟨2, ![4, 16]⟩
abbrev S0x16 : Shape := ⟨2, ![0, 16]⟩
abbrev S1x256x16 : Shape := ⟨3, ![1, 256, 16]⟩
abbrev S4x256x16 : Shape := ⟨3, ![4, 256, 16]⟩
abbrev S4x256x4x4 : Shape := ⟨4, ![4, 256, 4, 4]⟩
abbrev S4x4x4x256 : Shape := ⟨4, ![4, 4, 4, 256]⟩
abbrev S64x256 : Shape := ⟨2, ![64, 256]⟩
abbrev S4x4 : Shape := ⟨2, ![4, 4]⟩
abbrev S4x4x1 : Shape := ⟨3, ![4, 4, 1]⟩
abbrev S4x4x4 : Shape := ⟨3, ![4, 4, 4]⟩
abbrev S64x1 : Shape := ⟨2, ![64, 1]⟩
abbrev S64x128 : Shape := ⟨2, ![64, 128]⟩
abbrev S128x4x64x128 : Shape := ⟨4, ![128, 4, 64, 128]⟩
abbrev S64x2048 : Shape := ⟨2, ![64, 2048]⟩
abbrev S16x4x64x128 : Shape := ⟨4, ![16, 4, 64, 128]⟩
abbrev S64x1024 : Shape := ⟨2, ![64, 1024]⟩
abbrev S8x256 : Shape := ⟨2, ![8, 256]⟩
abbrev S8x1024 : Shape := ⟨2, ![8, 1024]⟩
abbrev S256x128 : Shape := ⟨2, ![256, 128]⟩
abbrev S8x2048 : Shape := ⟨2, ![8, 2048]⟩
abbrev S1x4x64x128 : Shape := ⟨4, ![1, 4, 64, 128]⟩
abbrev S4x64x128 : Shape := ⟨3, ![4, 64, 128]⟩
abbrev S1x256x128 : Shape := ⟨3, ![1, 256, 128]⟩
abbrev S256x256 : Shape := ⟨2, ![256, 256]⟩
abbrev S64 : Shape := ⟨1, ![64]⟩
abbrev S8x64 : Shape := ⟨2, ![8, 64]⟩

abbrev nBuf : Space → Nat
  | .hbm => 112
  | .vmem => 16
  | .smem => 0
  | _ => 0

abbrev bufTy : (tb : Table) → Fin (tcTables nBuf tb) → BufTy
  | .hbm, ⟨0, _⟩ => ⟨S128x4x4x4x64, .f32⟩
  | .hbm, ⟨1, _⟩ => ⟨S128x4x1024, .f32⟩
  | .hbm, ⟨2, _⟩ => ⟨S128x4x4x64, .f32⟩
  | .hbm, ⟨3, _⟩ => ⟨S128x4x4x64, .f32⟩
  | .hbm, ⟨4, _⟩ => ⟨S128x128x4x64, .f32⟩
  | .hbm, ⟨5, _⟩ => ⟨S128x128x4x64, .f32⟩
  | .hbm, ⟨6, _⟩ => ⟨S32x16, .f32⟩
  | .hbm, ⟨7, _⟩ => ⟨S16, .f32⟩
  | .hbm, ⟨8, _⟩ => ⟨S128x4x4x4x64, .f32⟩
  | .hbm, ⟨9, _⟩ => ⟨S512x1024, .f32⟩
  | .hbm, ⟨10, _⟩ => ⟨S512x1024, .f32⟩
  | .hbm, ⟨11, _⟩ => ⟨S512x2048, .f32⟩
  | .hbm, ⟨12, _⟩ => ⟨S4x128x256, .f32⟩
  | .hbm, ⟨13, _⟩ => ⟨S4x256x128, .f32⟩
  | .hbm, ⟨14, _⟩ => ⟨S4x128x256, .f32⟩
  | .hbm, ⟨15, _⟩ => ⟨S4x256x128, .f32⟩
  | .hbm, ⟨16, _⟩ => ⟨S128, .i32⟩
  | .hbm, ⟨17, _⟩ => ⟨S_, .i32⟩
  | .hbm, ⟨18, _⟩ => ⟨S128, .i32⟩
  | .hbm, ⟨19, _⟩ => ⟨S128, .i32⟩
  | .hbm, ⟨20, _⟩ => ⟨S_, .i32⟩
  | .hbm, ⟨21, _⟩ => ⟨S128, .i32⟩
  | .hbm, ⟨22, _⟩ => ⟨S128, .i32⟩
  | .hbm, ⟨23, _⟩ => ⟨S_, .i32⟩
  | .hbm, ⟨24, _⟩ => ⟨S128, .i32⟩
  | .hbm, ⟨25, _⟩ => ⟨S128, .i32⟩
  | .hbm, ⟨26, _⟩ => ⟨S128, .f32⟩
  | .hbm, ⟨27, _⟩ => ⟨S_, .f32⟩
  | .hbm, ⟨28, _⟩ => ⟨S128, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S_, .f32⟩
  | .hbm, ⟨35, _⟩ => ⟨S128, .f32⟩
  | .hbm, ⟨36, _⟩ => ⟨S128, .f32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i32⟩
  | .hbm, ⟨41, _⟩ => ⟨S_, .i32⟩
  | .hbm, ⟨42, _⟩ => ⟨S128, .i32⟩
  | .hbm, ⟨43, _⟩ => ⟨S128, .i1⟩
  | .hbm, ⟨44, _⟩ => ⟨S_, .i32⟩
  | .hbm, ⟨45, _⟩ => ⟨S128, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i1⟩
  | .hbm, ⟨51, _⟩ => ⟨S_, .i32⟩
  | .hbm, ⟨52, _⟩ => ⟨S128, .i32⟩
  | .hbm, ⟨53, _⟩ => ⟨S128, .i32⟩
  | .hbm, ⟨54, _⟩ => ⟨S128, .i32⟩
  | .hbm, ⟨55, _⟩ => ⟨S128x1, .i32⟩
  | .hbm, ⟨56, _⟩ => ⟨S128x16, .f32⟩
  | .hbm, ⟨57, _⟩ => ⟨S_, .f32⟩
  | .hbm, ⟨58, _⟩ => ⟨S1x16, .f32⟩
  | .hbm, ⟨59, _⟩ => ⟨S127x16, .f32⟩
  | .hbm, ⟨60, _⟩ => ⟨S_, .f32⟩
  | .hbm, ⟨61, _⟩ => ⟨S124x16, .f32⟩
  | .hbm, ⟨62, _⟩ => ⟨S1x16, .f32⟩
  | .hbm, ⟨63, _⟩ => ⟨S_, .f32⟩
  | .hbm, ⟨64, _⟩ => ⟨S3x16, .f32⟩
  | .hbm, ⟨65, _⟩ => ⟨S256x16, .f32⟩
  | .hbm, ⟨66, _⟩ => ⟨S_, .f32⟩
  | .hbm, ⟨67, _⟩ => ⟨S2x16, .f32⟩
  | .hbm, ⟨68, _⟩ => ⟨S126x16, .f32⟩
  | .hbm, ⟨69, _⟩ => ⟨S_, .f32⟩
  | .hbm, ⟨70, _⟩ => ⟨S124x16, .f32⟩
  | .hbm, ⟨71, _⟩ => ⟨S2x16, .f32⟩
  | .hbm, ⟨72, _⟩ => ⟨S_, .f32⟩
  | .hbm, ⟨73, _⟩ => ⟨S2x16, .f32⟩
  | .hbm, ⟨74, _⟩ => ⟨S256x16, .f32⟩
  | .hbm, ⟨75, _⟩ => ⟨S_, .f32⟩
  | .hbm, ⟨76, _⟩ => ⟨S3x16, .f32⟩
  | .hbm, ⟨77, _⟩ => ⟨S125x16, .f32⟩
  | .hbm, ⟨78, _⟩ => ⟨S_, .f32⟩
  | .hbm, ⟨79, _⟩ => ⟨S124x16, .f32⟩
  | .hbm, ⟨80, _⟩ => ⟨S3x16, .f32⟩
  | .hbm, ⟨81, _⟩ => ⟨S_, .f32⟩
  | .hbm, ⟨82, _⟩ => ⟨S1x16, .f32⟩
  | .hbm, ⟨83, _⟩ => ⟨S256x16, .f32⟩
  | .hbm, ⟨84, _⟩ => ⟨S_, .f32⟩
  | .hbm, ⟨85, _⟩ => ⟨S4x16, .f32⟩
  | .hbm, ⟨86, _⟩ => ⟨S124x16, .f32⟩
  | .hbm, ⟨87, _⟩ => ⟨S_, .f32⟩
  | .hbm, ⟨88, _⟩ => ⟨S124x16, .f32⟩
  | .hbm, ⟨89, _⟩ => ⟨S4x16, .f32⟩
  | .hbm, ⟨90, _⟩ => ⟨S_, .f32⟩
  | .hbm, ⟨91, _⟩ => ⟨S0x16, .f32⟩
  | .hbm, ⟨92, _⟩ => ⟨S256x16, .f32⟩
  | .hbm, ⟨93, _⟩ => ⟨S1x256x16, .f32⟩
  | .hbm, ⟨94, _⟩ => ⟨S1x256x16, .f32⟩
  | .hbm, ⟨95, _⟩ => ⟨S1x256x16, .f32⟩
  | .hbm, ⟨96, _⟩ => ⟨S1x256x16, .f32⟩
  | .hbm, ⟨97, _⟩ => ⟨S4x256x16, .f32⟩
  | .hbm, ⟨98, _⟩ => ⟨S4x256x4x4, .f32⟩
  | .hbm, ⟨99, _⟩ => ⟨S4x4x4x256, .f32⟩
  | .hbm, ⟨100, _⟩ => ⟨S64x256, .f32⟩
  | .hbm, ⟨101, _⟩ => ⟨S4x4, .f32⟩
  | .hbm, ⟨102, _⟩ => ⟨S4x4, .f32⟩
  | .hbm, ⟨103, _⟩ => ⟨S4x4x1, .f32⟩
  | .hbm, ⟨104, _⟩ => ⟨S4x4x4, .f32⟩
  | .hbm, ⟨105, _⟩ => ⟨S64x1, .f32⟩
  | .hbm, ⟨106, _⟩ => ⟨S64x128, .f32⟩
  | .hbm, ⟨107, _⟩ => ⟨S128x4x64x128, .f32⟩
  | .hbm, ⟨108, _⟩ => ⟨S128x4x64x128, .f32⟩
  | .hbm, ⟨109, _⟩ => ⟨S512x1024, .bf16⟩
  | .hbm, ⟨110, _⟩ => ⟨S128x4x64x128, .f32⟩
  | .hbm, ⟨111, _⟩ => ⟨S128x4x64x128, .f32⟩
  | .local _ .vmem, ⟨0, _⟩ => ⟨S64x2048, .f32⟩
  | .local _ .vmem, ⟨1, _⟩ => ⟨S64x2048, .f32⟩
  | .local _ .vmem, ⟨2, _⟩ => ⟨S4x256x128, .f32⟩
  | .local _ .vmem, ⟨3, _⟩ => ⟨S4x256x128, .f32⟩
  | .local _ .vmem, ⟨4, _⟩ => ⟨S16x4x64x128, .f32⟩
  | .local _ .vmem, ⟨5, _⟩ => ⟨S16x4x64x128, .f32⟩
  | .local _ .vmem, ⟨6, _⟩ => ⟨S16x4x64x128, .f32⟩
  | .local _ .vmem, ⟨7, _⟩ => ⟨S16x4x64x128, .f32⟩
  | .local _ .vmem, ⟨8, _⟩ => ⟨S64x256, .f32⟩
  | .local _ .vmem, ⟨9, _⟩ => ⟨S64x128, .f32⟩
  | .local _ .vmem, ⟨10, _⟩ => ⟨S64x1024, .bf16⟩
  | .local _ .vmem, ⟨11, _⟩ => ⟨S64x1024, .bf16⟩
  | .local _ .vmem, ⟨12, _⟩ => ⟨S16x4x64x128, .f32⟩
  | .local _ .vmem, ⟨13, _⟩ => ⟨S16x4x64x128, .f32⟩
  | .local _ .vmem, ⟨14, _⟩ => ⟨S16x4x64x128, .f32⟩
  | .local _ .vmem, ⟨15, _⟩ => ⟨S16x4x64x128, .f32⟩
  | _, _ => ⟨S128x4x4x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_cst_11 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_cst_13 : Ref sig .tc := ⟨.hbm, 69, rfl⟩
abbrev main_v46 : Ref sig .tc := ⟨.hbm, 70, rfl⟩
abbrev main_v47 : Ref sig .tc := ⟨.hbm, 71, rfl⟩
abbrev main_cst_14 : Ref sig .tc := ⟨.hbm, 72, rfl⟩
abbrev main_v48 : Ref sig .tc := ⟨.hbm, 73, rfl⟩
abbrev main_v49 : Ref sig .tc := ⟨.hbm, 74, rfl⟩
abbrev main_cst_15 : Ref sig .tc := ⟨.hbm, 75, rfl⟩
abbrev main_v50 : Ref sig .tc := ⟨.hbm, 76, rfl⟩
abbrev main_v51 : Ref sig .tc := ⟨.hbm, 77, rfl⟩
abbrev main_cst_16 : Ref sig .tc := ⟨.hbm, 78, rfl⟩
abbrev main_v52 : Ref sig .tc := ⟨.hbm, 79, rfl⟩
abbrev main_v53 : Ref sig .tc := ⟨.hbm, 80, rfl⟩
abbrev main_cst_17 : Ref sig .tc := ⟨.hbm, 81, rfl⟩
abbrev main_v54 : Ref sig .tc := ⟨.hbm, 82, rfl⟩
abbrev main_v55 : Ref sig .tc := ⟨.hbm, 83, rfl⟩
abbrev main_cst_18 : Ref sig .tc := ⟨.hbm, 84, rfl⟩
abbrev main_v56 : Ref sig .tc := ⟨.hbm, 85, rfl⟩
abbrev main_v57 : Ref sig .tc := ⟨.hbm, 86, rfl⟩
abbrev main_cst_19 : Ref sig .tc := ⟨.hbm, 87, rfl⟩
abbrev main_v58 : Ref sig .tc := ⟨.hbm, 88, rfl⟩
abbrev main_v59 : Ref sig .tc := ⟨.hbm, 89, rfl⟩
abbrev main_cst_20 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_13 : BitVec 32 := 0#32
  let c8_i32 : BitVec 32 := 8#32
  let v53 : BitVec 32 := Scalar.addi c0_i32_13 c8_i32
  let c1_i32_14 : BitVec 32 := 1#32
  ⟨c0_i32_13, v53, c1_i32_14⟩
def k0_mult1 (k0_t1 : Fin k0_t1_loop.trips) : BitVec 32 :=
  let c0_i32_13 : BitVec 32 := 0#32
  let c1_i32_14 : BitVec 32 := 1#32
  let arg11 : BitVec 32 := Scf.iv c0_i32_13 c1_i32_14 k0_t1
  let c8_i32_16 : BitVec 32 := 8#32
  let v54 : BitVec 32 := Scalar.muli arg11 c8_i32_16
  v54
def k0_off1 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c8_i32_16 : BitVec 32 := 8#32
  let v54 : BitVec 32 := Scalar.muli arg11 c8_i32_16
  let v55 : BitVec 32 := v54
  let v56 : Index := Scalar.indexCast v55
  let c0 : Index := 0#32
  ![v56.toNat, 0]
def k0_off2 (k0_t1 : Fin k0_t1_loop.trips) (c0_i32_18 : BitVec 32) : Fin 4 → Nat :=
  let c2_i32_17 : BitVec 32 := 2#32
  let c0_i32_13 : BitVec 32 := 0#32
  let c1_i32_14 : BitVec 32 := 1#32
  let arg11 : BitVec 32 := Scf.iv c0_i32_13 c1_i32_14 k0_t1
  let v61 : BitVec 32 := Scalar.muli c2_i32_17 arg11
  let v62 : BitVec 32 := Scalar.addi v61 c0_i32_18
  let v106 : Index := Scalar.indexCast v62
  let c0_38 : Index := 0#32
  let c0_39 : Index := 0#32
  let c0_40 : Index := 0#32
  ![v106.toNat, 0, 0, 0]
def k0_off3 (i : grid0.Coords) (k0_t1 : Fin k0_t1_loop.trips) (c0_i32_18 : BitVec 32) : Fin 3 → Nat :=
  let arg0 : BitVec 32 := BitVec.ofNat 32 (i 0).val
  let c16_i32 : BitVec 32 := 16#32
  let v52 : BitVec 32 := Scalar.muli arg0 c16_i32
  let c2_i32_17 : BitVec 32 := 2#32
  let c0_i32_13 : BitVec 32 := 0#32
  let c1_i32_14 : BitVec 32 := 1#32
  let arg11 : BitVec 32 := Scf.iv c0_i32_13 c1_i32_14 k0_t1
  let v61 : BitVec 32 := Scalar.muli c2_i32_17 arg11
  let v62 : BitVec 32 := Scalar.addi v61 c0_i32_18
  let v65 : BitVec 32 := Scalar.addi v52 v62
  let c0_i32_20 : BitVec 32 := 0#32
  let v67 : BitVec 1 := Scalar.cmpi .sgt v65 c0_i32_20
  let v68 : BitVec 32 := Scalar.extui v67
  let c0_i32_21 : BitVec 32 := 0#32
  let v69 : BitVec 1 := Scalar.cmpi .slt v65 c0_i32_21
  let v70 : BitVec 32 := Scalar.extui v69
  let v71 : BitVec 32 := Scalar.subi v68 v70
  let c32_i32 : BitVec 32 := 32#32
  let c0_i32_22 : BitVec 32 := 0#32
  let v72 : BitVec 1 := Scalar.cmpi .sgt c32_i32 c0_i32_22
  let v73 : BitVec 32 := Scalar.extui v72
  let c0_i32_23 : BitVec 32 := 0#32
  let v74 : BitVec 1 := Scalar.cmpi .slt c32_i32 c0_i32_23
  let v75 : BitVec 32 := Scalar.extui v74
  let v76 : BitVec 32 := Scalar.subi v73 v75
  let v77 : BitVec 1 := Scalar.cmpi .ne v71 v76
  let v78 : BitVec 32 := Scalar.remsi v65 c32_i32
  let c0_i32_24 : BitVec 32 := 0#32
  let v79 : BitVec 1 := Scalar.cmpi .ne v78 c0_i32_24
  let v80 : BitVec 1 := Scalar.andi v77 v79
  let v66 : BitVec 32 := Scalar.divsi v65 c32_i32
  let c1_i32_25 : BitVec 32 := 1#32
  let v81 : BitVec 32 := Scalar.subi v66 c1_i32_25
  let v82 : BitVec 32 := Scalar.select v80 v81 v66
  let v114 : Index := Scalar.indexCast v82
  let c0_44 : Index := 0#32
  let c0_45 : Index := 0#32
  ![v114.toNat, 0, 0]
def k0_off4 (k0_t1 : Fin k0_t1_loop.trips) : Fin 2 → Nat :=
  let c0_i32_13 : BitVec 32 := 0#32
  let c1_i32_14 : BitVec 32 := 1#32
  let arg11 : BitVec 32 := Scf.iv c0_i32_13 c1_i32_14 k0_t1
  let c8_i32_16 : BitVec 32 := 8#32
  let v54 : BitVec 32 := Scalar.muli arg11 c8_i32_16
  let v55 : BitVec 32 := v54
  let v408 : Index := Scalar.indexCast v55
  let c0_130 : Index := 0#32
  ![v408.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x4x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x4x64x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x4x64x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x4x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S128x4x4x4x64 : Shape := ⟨5, ![128, 4, 4, 4, 64]⟩
abbrev S128x4x1024 : Shape := ⟨3, ![128, 4, 1024]⟩
abbrev S128x4x4x64 : Shape := ⟨4, ![128, 4, 4, 64]⟩
abbrev S128x128x4x64 : Shape := ⟨4, ![128, 128, 4, 64]⟩
abbrev S32x16 : Shape := ⟨2, ![32, 16]⟩
abbrev S16 : Shape := ⟨1, ![16]⟩
abbrev S128x132x4x64 : Shape := ⟨4, ![128, 132, 4, 64]⟩
abbrev S128x4x64x128 : Shape := ⟨4, ![128, 4, 64, 128]⟩

abbrev nBuf : Space → Nat
  | .hbm => 14
  | .vmem => 0
  | .smem => 0
  | _ => 0

abbrev bufTy : (tb : Table) → Fin (tcTables nBuf tb) → BufTy
  | .hbm, ⟨0, _⟩ => ⟨S128x4x4x4x64, .f32⟩
  | .hbm, ⟨1, _⟩ => ⟨S128x4x1024, .f32⟩
  | .hbm, ⟨2, _⟩ => ⟨S128x4x4x64, .f32⟩
  | .hbm, ⟨3, _⟩ => ⟨S128x4x4x64, .f32⟩
  | .hbm, ⟨4, _⟩ => ⟨S128x128x4x64, .f32⟩
  | .hbm, ⟨5, _⟩ => ⟨S128x128x4x64, .f32⟩
  | .hbm, ⟨6, _⟩ => ⟨S32x16, .f32⟩
  | .hbm, ⟨7, _⟩ => ⟨S16, .f32⟩
  | .hbm, ⟨8, _⟩ => ⟨S128x132x4x64, .f32⟩
  | .hbm, ⟨9, _⟩ => ⟨S128x132x4x64, .f32⟩
  | .hbm, ⟨10, _⟩ => ⟨S128x128x4x64, .f32⟩
  | .hbm, ⟨11, _⟩ => ⟨S128x4x64x128, .f32⟩
  | .hbm, ⟨12, _⟩ => ⟨S128x128x4x64, .f32⟩
  | .hbm, ⟨13, _⟩ => ⟨S128x4x64x128, .f32⟩
  | _, _ => ⟨S128x4x4x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩

abbrev nD : Nat := 1
abbrev τ : Topo := Topo.v7x

variable {F : FTy → Type} [FloatOps F]
-- ==== Kernel6.lean ====
abbrev S8704x2048 : Shape := ⟨2, ![8704, 2048]⟩
abbrev S128x3x1536 : Shape := ⟨3, ![128, 3, 1536]⟩
abbrev S2048x5648 : Shape := ⟨2, ![2048, 5648]⟩
abbrev S4x1536 : Shape := ⟨2, ![4, 1536]⟩
abbrev S1536 : Shape := ⟨1, ![1536]⟩
abbrev S16 : Shape := ⟨1, ![16]⟩
abbrev S16x64 : Shape := ⟨2, ![16, 64]⟩
abbrev S1024 : Shape := ⟨1, ![1024]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S2 : Shape := ⟨1, ![2]⟩
abbrev S2x128 : Shape := ⟨2, ![2, 128]⟩
abbrev S256 : Shape := ⟨1, ![256]⟩
abbrev S2x512 : Shape := ⟨2, ![2, 512]⟩
abbrev S256x1 : Shape := ⟨2, ![256, 1]⟩
abbrev S256x1024 : Shape := ⟨2, ![256, 1024]⟩
abbrev S5648x2048 : Shape := ⟨2, ![5648, 2048]⟩
abbrev S1x1536 : Shape := ⟨2, ![1, 1536]⟩
abbrev S_ : Shape := ⟨0, ![]⟩
abbrev S1x128 : Shape := ⟨2, ![1, 128]⟩
abbrev S384x1024 : Shape := ⟨2, ![384, 1024]⟩
abbrev S3x128x1536 : Shape := ⟨3, ![3, 128, 1536]⟩
abbrev S512x1024 : Shape := ⟨2, ![512, 1024]⟩
abbrev S512x256 : Shape := ⟨2, ![512, 256]⟩
abbrev S256x2048 : Shape := ⟨2, ![256, 2048]⟩
abbrev S1024x2048 : Shape := ⟨2, ![1024, 2048]⟩
abbrev S512x2048 : Shape := ⟨2, ![512, 2048]⟩
abbrev S16x2048 : Shape := ⟨2, ![16, 2048]⟩
abbrev S3x64x1536 : Shape := ⟨3, ![3, 64, 1536]⟩
abbrev S256x256 : Shape := ⟨2, ![256, 256]⟩
abbrev S12x256x128 : Shape := ⟨3, ![12, 256, 128]⟩
abbrev S256x512 : Shape := ⟨2, ![256, 512]⟩
abbrev S256x1536 : Shape := ⟨2, ![256, 1536]⟩
abbrev S256x128 : Shape := ⟨2, ![256, 128]⟩
abbrev S1x256x128 : Shape := ⟨3, ![1, 256, 128]⟩
abbrev S1x64x128 : Shape := ⟨3, ![1, 64, 128]⟩
abbrev S64x128 : Shape := ⟨2, ![64, 128]⟩
abbrev S112x2048 : Shape := ⟨2, ![112, 2048]⟩
abbrev S128x2048 : Shape := ⟨2, ![128, 2048]⟩
abbrev S256x384 : Shape := ⟨2, ![256, 384]⟩
abbrev S1x64x1536 : Shape := ⟨3, ![1, 64, 1536]⟩
abbrev S64x1536 : Shape := ⟨2, ![64, 1536]⟩
abbrev S256x64 : Shape := ⟨2, ![256, 64]⟩
abbrev S256x192 : Shape := ⟨2, ![256, 192]⟩
abbrev S192x1536 : Shape := ⟨2, ![192, 1536]⟩
abbrev S384x1536 : Shape := ⟨2, ![384, 1536]⟩
abbrev S256x576 : Shape := ⟨2, ![256, 576]⟩
abbrev S576x1536 : Shape := ⟨2, ![576, 1536]⟩

abbrev nBuf : Space → Nat
  | .hbm => 52
  | .vmem => 33
  | .smem => 0
  | _ => 0

abbrev bufTy : (tb : Table) → Fin (tcTables nBuf tb) → BufTy
  | .hbm, ⟨0, _⟩ => ⟨S8704x2048, .bf16⟩
  | .hbm, ⟨1, _⟩ => ⟨S128x3x1536, .f32⟩
  | .hbm, ⟨2, _⟩ => ⟨S2048x5648, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .i32⟩
  | .hbm, ⟨9, _⟩ => ⟨S16x64, .i32⟩
  | .hbm, ⟨10, _⟩ => ⟨S1024, .i32⟩
  | .hbm, ⟨11, _⟩ => ⟨S128, .i32⟩
  | .hbm, ⟨12, _⟩ => ⟨S128x1, .i32⟩
  | .hbm, ⟨13, _⟩ => ⟨S1x1024, .i32⟩
  | .hbm, ⟨14, _⟩ => ⟨S128x1024, .i32⟩
  | .hbm, ⟨15, _⟩ => ⟨S128x1024, .i32⟩
  | .hbm, ⟨16, _⟩ => ⟨S128x1024, .i1⟩
  | .hbm, ⟨17, _⟩ => ⟨S128x1024, .bf16⟩
  | .hbm, ⟨18, _⟩ => ⟨S2, .i32⟩
  | .hbm, ⟨19, _⟩ => ⟨S2x128, .i32⟩
  | .hbm, ⟨20, _⟩ => ⟨S256, .i32⟩
  | .hbm, ⟨21, _⟩ => ⟨S2, .i32⟩
  | .hbm, ⟨22, _⟩ => ⟨S2x512, .i32⟩
  | .hbm, ⟨23, _⟩ => ⟨S1024, .i32⟩
  | .hbm, ⟨24, _⟩ => ⟨S256x1, .i32⟩
  | .hbm, ⟨25, _⟩ => ⟨S1x1024, .i32⟩
  | .hbm, ⟨26, _⟩ => ⟨S256x1024, .i32⟩
  | .hbm, ⟨27, _⟩ => ⟨S256x1024, .i32⟩
  | .hbm, ⟨28, _⟩ => ⟨S256x1024, .i1⟩
  | .hbm, ⟨29, _⟩ => ⟨S256x1024, .bf16⟩
  | .hbm, ⟨30, _⟩ => ⟨S5648x2048, .f32⟩
  | .hbm, ⟨31, _⟩ => ⟨S1x1536, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S1x128, .f32⟩
  | .hbm, ⟨36, _⟩ => ⟨S16x64, .f32⟩
  | .hbm, ⟨37, _⟩ => ⟨S1024, .f32⟩
  | .hbm, ⟨38, _⟩ => ⟨S1x1024, .f32⟩
  | .hbm, ⟨39, _⟩ => ⟨S16x64, .f32⟩
  | .hbm, ⟨40, _⟩ => ⟨S1024, .f32⟩
  | .hbm, ⟨41, _⟩ => ⟨S1x1024, .f32⟩
  | .hbm, ⟨42, _⟩ => ⟨S384x1024, .bf16⟩
  | .hbm, ⟨43, _⟩ => ⟨S3x128x1536, .f32⟩
  | .hbm, ⟨44, _⟩ => ⟨S3x128x1536, .f32⟩
  | .hbm, ⟨45, _⟩ => ⟨S512x1024, .f32⟩
  | .hbm, ⟨46, _⟩ => ⟨S512x1024, .f32⟩
  | .hbm, ⟨47, _⟩ => ⟨S512x1024, .f32⟩
  | .hbm, ⟨48, _⟩ => ⟨S512x1024, .f32⟩
  | .hbm, ⟨49, _⟩ => ⟨S512x1024, .f32⟩
  | .hbm, ⟨50, _⟩ => ⟨S512x256, .f32⟩
  | .hbm, ⟨51, _⟩ => ⟨S512x256, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S16x2048, .f32⟩
  | .local _ .vmem, ⟨7, _⟩ => ⟨S4x1536, .f32⟩
  | .local _ .vmem, ⟨8, _⟩ => ⟨S1x1536, .f32⟩
  | .local _ .vmem, ⟨9, _⟩ => ⟨S3x64x1536, .f32⟩
  | .local _ .vmem, ⟨10, _⟩ => ⟨S3x64x1536, .f32⟩
  | .local _ .vmem, ⟨11, _⟩ => ⟨S1x128, .f32⟩
  | .local _ .vmem, ⟨12, _⟩ => ⟨S1x1024, .f32⟩
  | .local _ .vmem, ⟨13, _⟩ => ⟨S1x1024, .f32⟩
  | .local _ .vmem, ⟨14, _⟩ => ⟨S384x1024, .bf16⟩
  | .local _ .vmem, ⟨15, _⟩ => ⟨S256x1024, .bf16⟩
  | .local _ .vmem, ⟨16, _⟩ => ⟨S3x64x1536, .f32⟩
  | .local _ .vmem, ⟨17, _⟩ => ⟨S3x64x1536, .f32⟩
  | .local _ .vmem, ⟨18, _⟩ => ⟨S256x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x256, .f32⟩
  | .local _ .vmem, ⟨29, _⟩ => ⟨S256x256, .f32⟩
  | .local _ .vmem, ⟨30, _⟩ => ⟨S256x256, .f32⟩
  | .local _ .vmem, ⟨31, _⟩ => ⟨S256x256, .f32⟩
  | .local _ .vmem, ⟨32, _⟩ => ⟨S12x256x128, .f32⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c : Ref sig .tc := ⟨.hbm, 32, rfl⟩
abbrev main_call0_v0 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34_0 : Ref sig .tc := ⟨.hbm, 44, rfl⟩
abbrev main_v34_1 : Ref sig .tc := ⟨.hbm, 45, rfl⟩
abbrev main_v34_2 : Ref sig .tc := ⟨.hbm, 46, rfl⟩
abbrev main_v34_3 : Ref sig .tc := ⟨.hbm, 47, rfl⟩
abbrev main_v34_4 : Ref sig .tc := ⟨.hbm, 48, rfl⟩
abbrev main_v34_5 : Ref sig .tc := ⟨.hbm, 49, rfl⟩
abbrev main_v34_6 : Ref sig .tc := ⟨.hbm, 50, rfl⟩
abbrev main_v34_7 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_stg21_0 : Ref sig .tc := ⟨.vmem, 30, rfl⟩
abbrev cc0_stg21_1 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29
abbrev cc0_sem21_0 : DmaSem sig := 30
abbrev cc0_sem21_1 : DmaSem sig := 31

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_2 (i : grid0.Coords) : Fin 2 → Nat :=
  let arg0 : BitVec 32 := BitVec.ofNat 32 (i 0).val
  let c8_i32 : BitVec 32 := 8#32
  let c0_i32 : BitVec 32 := 0#32
  let c0_i32_0 : BitVec 32 := 0#32
  ![c8_i32.toNat, c0_i32.toNat]

def cc0_transform_3 (i : grid0.Coords) : Fin 2 → Nat :=
  let arg0 : BitVec 32 := BitVec.ofNat 32 (i 0).val
  let c9_i32 : BitVec 32 := 9#32
  let c0_i32 : BitVec 32 := 0#32
  let c0_i32_0 : BitVec 32 := 0#32
  ![c9_i32.toNat, c0_i32.toNat]

def cc0_transform_4 (i : grid0.Coords) : Fin 2 → Nat :=
  let arg0 : BitVec 32 := BitVec.ofNat 32 (i 0).val
  let c10_i32 : BitVec 32 := 10#32
  let c0_i32 : BitVec 32 := 0#32
  let c0_i32_0 : BitVec 32 := 0#32
  ![c10_i32.toNat, c0_i32.toNat]

def cc0_transform_5 (i : grid0.Coords) : Fin 2 → Nat :=
  let arg0 : BitVec 32 := BitVec.ofNat 32 (i 0).val
  let c352_i32 : BitVec 32 := 352#32
  let c0_i32 : BitVec 32 := 0#32
  let c0_i32_0 : BitVec 32 := 0#32
  ![c352_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S3x64x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S3x64x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference6Ideal.lean ====
abbrev S8704x2048 : Shape := ⟨2, ![8704, 2048]⟩
abbrev S128x3x1536 : Shape := ⟨3, ![128, 3, 1536]⟩
abbrev S2048x5648 : Shape := ⟨2, ![2048, 5648]⟩
abbrev S4x1536 : Shape := ⟨2, ![4, 1536]⟩
abbrev S1536 : Shape := ⟨1, ![1536]⟩
abbrev S16 : Shape := ⟨1, ![16]⟩
abbrev S512x2048 : Shape := ⟨2, ![512, 2048]⟩
abbrev S128x4x2048 : Shape := ⟨3, ![128, 4, 2048]⟩
abbrev S128x4x5648 : Shape := ⟨3, ![128, 4, 5648]⟩
abbrev S128x4x1024 : Shape := ⟨3, ![128, 4, 1024]⟩
abbrev S128x4x1536 : Shape := ⟨3, ![128, 4, 1536]⟩
abbrev S128x7x1536 : Shape := ⟨3, ![128, 7, 1536]⟩
abbrev S3x128x1536 : Shape := ⟨3, ![3, 128, 1536]⟩
abbrev S512x1024 : Shape := ⟨2, ![512, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S128x3x1536, .f32⟩
  | .hbm, ⟨2, _⟩ => ⟨S2048x5648, .f32⟩
  | .hbm, ⟨3, _⟩ => ⟨S4x1536, .f32⟩
  | .hbm, ⟨4, _⟩ => ⟨S1536, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S512x2048, .bf16⟩
  | .hbm, ⟨9, _⟩ => ⟨S512x2048, .f32⟩
  | .hbm, ⟨10, _⟩ => ⟨S128x4x2048, .f32⟩
  | .hbm, ⟨11, _⟩ => ⟨S128x4x5648, .f32⟩
  | .hbm, ⟨12, _⟩ => ⟨S128x4x1024, .f32⟩
  | .hbm, ⟨13, _⟩ => ⟨S128x4x1536, .f32⟩
  | .hbm, ⟨14, _⟩ => ⟨S128x7x1536, .f32⟩
  | .hbm, ⟨15, _⟩ => ⟨S128x3x1536, .f32⟩
  | .hbm, ⟨16, _⟩ => ⟨S3x128x1536, .f32⟩
  | .hbm, ⟨17, _⟩ => ⟨S512x1024, .f32⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Proof.Cmlp.Spec.lean ====
module

public import Idealize.ShloMosaic.Lib.Pipeline.ValueKit
public import Idealize.ShloMosaic.Lib.Pointwise
public import Idealize.ShloMosaic.Lib.WordCmp
public import Idealize.ShloMosaic.Lib.ValueIdx

/-!
The mathematics of the chunk MLP, one row at a time, over the extended reals: the root-mean-square normalisation, the
layer normalisation, the gate, and the causal mixing inside a chunk of 128 rows.
-/

@[expose] public section
noncomputable section
namespace Cert.Cmlp
open Idealize.ShloMosaic

/-- The small constant both normalisations add under the root. -/
abbrev eps : EReal := Ideal.ofBits FTy.f32 897988541#32

/-- Entry `d` of a row `x` divided by its root mean square and scaled by `g`. -/
def rmsR (x g : Fin 2048 → EReal) (d : Fin 2048) : EReal :=
  x d * Ideal.rsqrt (Ideal.div (∑ k, x k * x k) (Ideal.ofBits FTy.f32 1157627904#32) + eps) * g d

/-- The mean of a row of 1024 entries. -/
def mean (v : Fin 1024 → EReal) : EReal := Ideal.div (∑ k, v k) (Ideal.ofBits FTy.f32 1149239296#32)

/-- Entry `j` of a row `v`, layer-normalised with gain `l` and offset `b`. -/
def lnR (v l b : Fin 1024 → EReal) (j : Fin 1024) : EReal :=
  (v j - mean v) *
      Ideal.rsqrt (Ideal.div (∑ k, (v k - mean v) * (v k - mean v)) (Ideal.ofBits FTy.f32 1149239296#32) + eps) * l j + b j

/-- The gate `z · σ(z)`. -/
def silu (z : EReal) : EReal := z * Ideal.logistic z

/-- A row of activations against a row of weights. -/
def dotR (h w : Fin 2048 → EReal) : EReal := ∑ k, h k * w k

/-- Entry `(r, j)` of a tile of 512 rows, from the normalised rows `H`, the weight rows `w` (branch `u` first, the gate
    from row 2048 on), the mixing matrices `ws`, their offsets `bs` and the layer-normalised branch `V`: inside its chunk
    of 128 rows, row `r` mixes the chunk's rows of `V`. -/
def yAt (H : Fin 512 → Fin 2048 → EReal) (w : Fin 3072 → Fin 2048 → EReal) (ws bs : Fin 8 → Fin 128 → Fin 128 → EReal)
    (V : Fin 512 → Fin 1024 → EReal) (r : Fin 512) (j : Fin 1024) : EReal :=
  dotR (H r) (w ⟨j, by omega⟩)
    * ((∑ s : Fin 128, ws ⟨(j : ℕ) / 128, by omega⟩ ⟨(r : ℕ) % 128, by omega⟩ s * V ⟨128 * ((r : ℕ) / 128) + s, by omega⟩ j)
        + bs ⟨(j : ℕ) / 128, by omega⟩ ⟨(r : ℕ) % 128, by omega⟩ ⟨(j : ℕ) % 128, by omega⟩)
    * silu (dotR (H r) (w ⟨2048 + j, by omega⟩))

theorem row_lt (r : Fin 512) (s : Fin 128) : 128 * ((r : ℕ) / 128) + s < 512 := by omega

/-- Mixing matrices with their upper triangles cleared. -/
def tri (W : Fin 8 → Fin 128 → Fin 128 → EReal) (g : Fin 8) (a b : Fin 128) : EReal := if (b : ℕ) ≤ a then W g a b else 0

/-- A choice by the signed comparison of two places below 128 is a choice by their order. -/
theorem select_sge (a b : Fin 128) (x : EReal) :
    Scalar.select (IntOp.cmpi CmpIPredicate.sge (BitVec.ofNat 32 ↑a) (BitVec.ofNat 32 ↑b)) x (0 : EReal) = if (b : ℕ) ≤ a then x else 0 := by
  have e : IntOp.cmpi CmpIPredicate.sge (BitVec.ofNat 32 ↑a) (BitVec.ofNat 32 ↑b) = if (b : ℕ) ≤ a then 1#1 else 0#1 := by
    word_cmp
    by_cases hc : (b : ℕ) ≤ a <;> simp [hc]
  rw [e]
  split <;> rfl

/-- Entry `(r, j)` of the 512 sample rows (128 sequences of four steps): row `r` mixes itself and the three rows before
    it, each with a coefficient that depends on the row's place. -/
def ysAt (H : Fin 512 → Fin 2048 → EReal) (w : Fin 3072 → Fin 2048 → EReal) (coef : Fin 4 → Fin 8 → Fin 1024 → EReal)
    (bias : Fin 8 → Fin 1024 → EReal) (V : Fin 512 → Fin 1024 → EReal) (r : Fin 512) (j : Fin 1024) : EReal :=
  dotR (H r) (w ⟨j, by omega⟩)
    * (V r j * coef 0 ⟨(r : ℕ) % 8, by omega⟩ j + bias ⟨(r : ℕ) % 8, by omega⟩ j
        + V ⟨((r : ℕ) + 512 - 1) % 512, by omega⟩ j * coef 1 ⟨(r : ℕ) % 8, by omega⟩ j
        + V ⟨((r : ℕ) + 512 - 2) % 512, by omega⟩ j * coef 2 ⟨(r : ℕ) % 8, by omega⟩ j
        + V ⟨((r : ℕ) + 512 - 3) % 512, by omega⟩ j * coef 3 ⟨(r : ℕ) % 8, by omega⟩ j)
    * silu (dotR (H r) (w ⟨2048 + j, by omega⟩))

end Cert.Cmlp
end
-- ==== Proof.Cmlp.Pay.lean ====
module

public import proofs.«01_k».proof.Proof.Gen.KernelIdeal.Value
public import proofs.«01_k».proof.Proof.Cmlp.Spec

/-!
The values the kernel's body computes for one tile of 512 rows, read at an index: the normalised rows and the
layer-normalised branch.
-/

@[expose] public section
set_option maxRecDepth 16384
noncomputable section
namespace Cert.Cmlp
open Idealize.ShloMosaic Idealize.ShloMosaic.TcCoe Idealize.SL.Sem
open Cert.KernelIdeal Cert.KernelIdeal.Gen

theorem pay21_at (x : Vec Ideal S512x2048 .f32) (g : Vec Ideal S1x2048 .f32) (r : Fin 512) (d : Fin 2048) :
    k0_pay21 x g (ix2 r d) = rmsR (fun k => x (ix2 r k)) (fun k => g (ix2 0 k)) d := by
  unfold rmsR
  pointwise [k0_pay21]

/-- The row of the branch `v` before its normalisation. -/
def vRow (x : Vec Ideal S512x2048 .f32) (g : Vec Ideal S1x2048 .f32) (w : Vec Ideal S1024x2048 .f32) (r : Fin 512)
    (j : Fin 1024) : EReal :=
  dotR (rmsR (fun k => x (ix2 r k)) (fun k => g (ix2 0 k))) (fun k => w (ix2 j k))

theorem pay26_at (x : Vec Ideal S512x2048 .f32) (g : Vec Ideal S1x2048 .f32) (w : Vec Ideal S1024x2048 .f32)
    (l b : Vec Ideal S1x1024 .f32) (r : Fin 512) (j : Fin 1024) :
    k0_pay26 (k0_pay22 l) (k0_pay23 b) (k0_pay24 x g w) (k0_pay25 x g w) (ix2 r j)
      = lnR (vRow x g w r) (fun k => l (ix2 0 k)) (fun k => b (ix2 0 k)) j := by
  unfold lnR mean vRow dotR rmsR
  pointwise [k0_pay26, k0_pay22, k0_pay23, k0_pay24, k0_pay25, k0_pay21]

theorem pay27_at (h : FVec Ideal S512x2048 .bf16) (w : Vec Ideal S256x2048 .f32) (r : Fin 512) (j : Fin 256) :
    k0_pay27 h w (ix2 r j) = dotR (fun k => h (ix2 r k)) (fun k => w (ix2 j k)) := by
  unfold dotR; pointwise [k0_pay27]

theorem pay28_at (h : FVec Ideal S512x2048 .bf16) (w : Vec Ideal S256x2048 .f32) (r : Fin 512) (j : Fin 256) :
    k0_pay28 h w (ix2 r j) = silu (dotR (fun k => h (ix2 r k)) (fun k => w (ix2 j k))) := by
  unfold dotR silu; pointwise [k0_pay28]

theorem pay74_at (x : Vec Ideal S512x2048 .f32) (g : Vec Ideal S1x2048 .f32) (r : Fin 512) (d : Fin 2048) :
    k0_pay74 x g (ix2 r d) = rmsR (fun k => x (ix2 r k)) (fun k => g (ix2 0 k)) d := by
  unfold rmsR
  pointwise [k0_pay74]

theorem pay80_at (x : Vec Ideal S512x2048 .f32) (g : Vec Ideal S1x2048 .f32) (w : Vec Ideal S1024x2048 .f32)
    (l b : Vec Ideal S1x1024 .f32) (r : Fin 512) (j : Fin 1024) :
    k0_pay80 (k0_pay76 l) (k0_pay77 b) (k0_pay78 x g w) (k0_pay79 x g w) (ix2 r j)
      = lnR (vRow x g w r) (fun k => l (ix2 0 k)) (fun k => b (ix2 0 k)) j := by
  unfold lnR mean vRow dotR rmsR
  pointwise [k0_pay80, k0_pay76, k0_pay77, k0_pay78, k0_pay79, k0_pay74]

end Cert.Cmlp
end
-- ==== Proof.Cmlp.TileB.lean ====
module

public import proofs.«01_k».proof.Proof.Cmlp.Pay

/-!
One tile of 512 prompt rows at a grid point after the first: the 32 stored blocks are the entries of the tile.
-/

@[expose] public section
set_option maxRecDepth 16384
noncomputable section
namespace Cert.Cmlp
open Idealize.ShloMosaic Idealize.ShloMosaic.TcCoe Idealize.SL.Sem
open Cert.KernelIdeal Cert.KernelIdeal.Gen

set_option maxHeartbeats 8000000 in
theorem outB_9 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : ¬cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (xs1 : Vec Ideal S8x128x128 .bf16) (xs2 : Vec Ideal S8x128x128 .f32) (r : Fin 512) (j : Fin 1024) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs1 xs2 (ix2 r j)
      = yAt (fun r k => k0_pay21 x0 x1 (ix2 r k)) (fun r k => x2 (ix2 r k)) (fun g a b => xs1 (ix3 g a b)) (fun g a b => xs2 (ix3 g a b)) (fun r j => k0_pay26 (k0_pay22 x3) (k0_pay23 x4) (k0_pay24 x0 x1 (View.ld x2 (Rect.unit ![1024, 0] S1024x2048.size inb_S3072x2048_S1024x2048_1024_0))) (k0_pay25 x0 x1 (View.ld x2 (Rect.unit ![1024, 0] S1024x2048.size inb_S3072x2048_S1024x2048_1024_0))) (ix2 r j)) r j := by
  frame_out
  simp (disch := decide) only [View.readCov_eq_canon', View.canon_cons_unit_lit']
  generalize k0_pay26 (F := Ideal) _ _ _ _ = V
  generalize k0_pay21 (F := Ideal) _ _ = H
  canon_tiles x h
  all_goals
    idx_vars x
    open_payloads
    pointwise
    unfold yAt
    refine congrArg₂ (fun a b : EReal => a * b) (congrArg₂ (fun a b : EReal => a * b) ?zp (congrArg₂ (fun a b : EReal => a + b) ?zq ?zr)) ?zs
    case zp =>
      unfold dotR
      refine Finset.sum_congr rfl fun k _ => congrArg₂ (fun a b : EReal => a * b) (congrArg H ?_) (congrArg x2 ?_)
      · blk_ext
      · blk_ext
    case zq =>
      refine Finset.sum_congr rfl fun k _ => congrArg₂ (fun a b : EReal => a * b) (congrArg xs1 ?_) (congrArg V ?_)
      · blk_ext
      · blk_ext
    case zr =>
      refine congrArg xs2 ?_
      blk_ext
    case zs =>
      refine congrArg silu ?_
      unfold dotR
      refine Finset.sum_congr rfl fun k _ => congrArg₂ (fun a b : EReal => a * b) (congrArg H ?_) (congrArg x2 ?_)
      · blk_ext
      · blk_ext

theorem outB_10 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : ¬cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (xs1 : Vec Ideal S8x128x128 .bf16) (xs2 : Vec Ideal S8x128x128 .f32) : out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 xs1 xs2 = k0_pay21 x0 x1 := by
  frame_out

end Cert.Cmlp
end
-- ==== Proof.Cmlp.TileA.lean ====
module

public import proofs.«01_k».proof.Proof.Cmlp.TileB

/-!
The first tile of 512 prompt rows: the point also leaves, for all the points after it, the mixing matrices with their
upper triangles cleared, and their offsets spread along the lanes.
-/

@[expose] public section
set_option maxRecDepth 16384
noncomputable section
namespace Cert.Cmlp
open Idealize.ShloMosaic Idealize.ShloMosaic.TcCoe Idealize.SL.Sem
open Cert.KernelIdeal Cert.KernelIdeal.Gen

theorem ite_at {p : Prop} [Decidable p] {a b : EReal} (h : a = b) : (if p then a else 0) = if p then b else 0 := by rw [h]

theorem soutA_1 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (g : Fin 8) (a b : Fin 128) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 (ix3 g a b) = tri (fun g a b => x5 (ix3 g a b)) g a b := by
  frame_out
  canon_tiles x h
  all_goals
    idx_vars x
    open_payloads
    pointwise
    refine (select_sge _ _ _).trans ?_
    unfold tri
    rw [h1, h2]
    refine ite_at (congrArg x5 ?_)
    blk_ext

theorem soutA_2 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (g : Fin 8) (a b : Fin 128) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 (ix3 g a b) = x6 (ix2 g a) := by
  frame_out
  canon_tiles x h
  all_goals
    idx_vars x
    open_payloads
    pointwise
    refine congrArg x6 ?_
    blk_ext

/-- What the first point leaves in the tile is what a later point would leave over the matrices the first one stored. -/
theorem outA_9_eq (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (i' : grid0.Coords) (hc0' : cond0_0 i') (hc1' : ¬cond0_1 i') (hc2' : ¬cond0_2 i') :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 = out0_B_9 c i' arg1 harg1 arg2 harg2 arg3 harg3 arg4 harg4 arg5 harg5 arg6 harg6 arg7 harg7 arg8 harg8 arg9 harg9 arg10 harg10 arg11 harg11 arg12 harg12 arg13 harg13 arg14 harg14 arg15 harg15 hc0' hc1' hc2' x0 x1 x2 x3 x4 x5 x6 x7 x8 (sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8) (sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8) := by
  frame_out
  simp (disch := decide) only [View.readCov_eq_canon', View.canon_cons_unit_lit']

theorem outA_9 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (i' : grid0.Coords) (hc0' : cond0_0 i') (hc1' : ¬cond0_1 i') (hc2' : ¬cond0_2 i') (r : Fin 512) (j : Fin 1024) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 (ix2 r j)
      = yAt (fun r k => k0_pay21 x0 x1 (ix2 r k)) (fun r k => x2 (ix2 r k)) (tri fun g a b => x5 (ix3 g a b)) (fun g a _ => x6 (ix2 g a)) (fun r j => k0_pay26 (k0_pay22 x3) (k0_pay23 x4) (k0_pay24 x0 x1 (View.ld x2 (Rect.unit ![1024, 0] S1024x2048.size inb_S3072x2048_S1024x2048_1024_0))) (k0_pay25 x0 x1 (View.ld x2 (Rect.unit ![1024, 0] S1024x2048.size inb_S3072x2048_S1024x2048_1024_0))) (ix2 r j)) r j := by
  rw [outA_9_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 i' hc0' hc1' hc2', outB_9]
  congr 1
  · funext g a b; exact soutA_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 g a b
  · funext g a b; exact soutA_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 g a b

theorem outA_10 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : cond0_0 i) (hc1 : cond0_1 i) (hc2 : ¬cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) : out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc1 hc2 x0 x1 x2 x3 x4 x5 x6 x7 x8 = k0_pay21 x0 x1 := by
  frame_out

end Cert.Cmlp
end
-- ==== Proof.Cmlp.TileC.lean ====
module

public import proofs.«01_k».proof.Proof.Cmlp.Pay

/-!
The 512 sample rows, 128 sequences of four steps: one grid point.
-/

@[expose] public section
set_option maxRecDepth 16384
noncomputable section
namespace Cert.Cmlp
open Idealize.ShloMosaic Idealize.ShloMosaic.TcCoe Idealize.SL.Sem
open Cert.KernelIdeal Cert.KernelIdeal.Gen

set_option maxHeartbeats 2000000 in
theorem outC_9 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : ¬cond0_0 i) (hc2 : cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (xs1 : Vec Ideal S8x128x128 .bf16) (xs2 : Vec Ideal S8x128x128 .f32) (r : Fin 512) (j : Fin 1024) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xs1 xs2 (ix2 r j)
      = ysAt (fun r k => k0_pay74 x0 x1 (ix2 r k)) (fun r k => x2 (ix2 r k)) (fun k a j => x7 (ix3 k a j)) (fun a j => x8 (ix2 a j))
          (fun r j => k0_pay80 (k0_pay76 x3) (k0_pay77 x4) (k0_pay78 x0 x1 (View.ld x2 (Rect.unit ![1024, 0] S1024x2048.size inb_S3072x2048_S1024x2048_1024_0))) (k0_pay79 x0 x1 (View.ld x2 (Rect.unit ![1024, 0] S1024x2048.size inb_S3072x2048_S1024x2048_1024_0))) (ix2 r j)) r j := by
  frame_out
  unfold k0_pay3 k0_pay81 k0_pay83 k0_pay84 k0_pay75
  generalize k0_pay80 (F := Ideal) _ _ _ _ = V
  generalize k0_pay74 (F := Ideal) _ _ = H
  pointwise
  unfold ysAt dotR silu
  rfl

theorem outC_10 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : ¬cond0_0 i) (hc2 : cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (xs1 : Vec Ideal S8x128x128 .bf16) (xs2 : Vec Ideal S8x128x128 .f32) : out0_C_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xs1 xs2 = k0_pay74 x0 x1 := by
  frame_out

theorem outC_11 (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S3072x2048 .f32) (harg3 : arg3.IsWhole) (arg4 : Memref sig .tc .vmem S1x1024 .f32) (harg4 : arg4.IsWhole) (arg5 : Memref sig .tc .vmem S1x1024 .f32) (harg5 : arg5.IsWhole) (arg6 : Memref sig .tc .vmem S8x128x128 .f32) (harg6 : arg6.IsWhole) (arg7 : Memref sig .tc .vmem S8x128 .f32) (harg7 : arg7.IsWhole) (arg8 : Memref sig .tc .vmem S4x8x1024 .f32) (harg8 : arg8.IsWhole) (arg9 : Memref sig .tc .vmem S8x1024 .f32) (harg9 : arg9.IsWhole) (arg10 : Memref sig .tc .vmem S512x1024 .bf16) (harg10 : arg10.IsWhole) (arg11 : Memref sig .tc .vmem S512x2048 .bf16) (harg11 : arg11.IsWhole) (arg12 : Memref sig .tc .vmem S128x4x1024 .f32) (harg12 : arg12.IsWhole) (arg13 : Memref sig .tc .vmem S512x1024 .bf16) (harg13 : arg13.IsWhole) (arg14 : Memref sig .tc .vmem S8x128x128 .bf16) (harg14 : arg14.IsWhole) (arg15 : Memref sig .tc .vmem S8x128x128 .f32) (harg15 : arg15.IsWhole) (hc0 : ¬cond0_0 i) (hc2 : cond0_2 i)
    (x0 : Vec Ideal S512x2048 .f32) (x1 : Vec Ideal S1x2048 .f32) (x2 : Vec Ideal S3072x2048 .f32) (x3 : Vec Ideal S1x1024 .f32) (x4 : Vec Ideal S1x1024 .f32) (x5 : Vec Ideal S8x128x128 .f32) (x6 : Vec Ideal S8x128 .f32) (x7 : Vec Ideal S4x8x1024 .f32) (x8 : Vec Ideal S8x1024 .f32) (xs1 : Vec Ideal S8x128x128 .bf16) (xs2 : Vec Ideal S8x128x128 .f32) (s : Fin 128) (t : Fin 4) (j : Fin 1024) :
    out0_C_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 hc2 x0 x1 x2 x3 x4 x5 x6 x7 x8 xs1 xs2 (ix3 s t j)
      = k0_pay80 (k0_pay76 x3) (k0_pay77 x4) (k0_pay78 x0 x1 (View.ld x2 (Rect.unit ![1024, 0] S1024x2048.size inb_S3072x2048_S1024x2048_1024_0))) (k0_pay79 x0 x1 (View.ld x2 (Rect.unit ![1024, 0] S1024x2048.size inb_S3072x2048_S1024x2048_1024_0))) (ix2 ⟨(s : ℕ) * 4 + t, by omega⟩ j) := by
  frame_out
  pointwise [k0_pay82]

end Cert.Cmlp
end
-- ==== Proof.Cmlp.Whole.lean ====
module

public import proofs.«01_k».proof.Proof.Cmlp.Spec

/-!
The entries of the three results over the whole arrays: 8192 prompt rows in chunks of 128, then 512 sample rows in
sequences of four; and that a tile of 512 rows computes its share of them.
-/

@[expose] public section
noncomputable section
namespace Cert.Cmlp
open Idealize.ShloMosaic

variable (X : Fin 8704 → Fin 2048 → EReal) (G : Fin 2048 → EReal) (W : Fin 2048 → Fin 5648 → EReal)
  (L B : Fin 1024 → EReal) (WS : Fin 8 → Fin 128 → Fin 128 → EReal) (BS : Fin 8 → Fin 128 → EReal)

/-- Row `R` of the normalised activations. -/
def hx (R : Fin 8704) (d : Fin 2048) : EReal := rmsR (X R) G d

/-- Entry `n` of row `R` of the input projection. -/
def proj (R : Fin 8704) (n : Fin 5648) : EReal := dotR (hx X G R) fun k => W k n

/-- Row `R` of the layer-normalised branch. -/
def vln (R : Fin 8704) (j : Fin 1024) : EReal := lnR (fun j => proj X G W R ⟨1024 + j, by omega⟩) L B j

/-- A gated entry: the branch `u` times the mixed branch times the gate. -/
def gated (R : Fin 8704) (j : Fin 1024) (mix : EReal) : EReal :=
  proj X G W R ⟨j, by omega⟩ * mix * silu (proj X G W R ⟨2048 + j, by omega⟩)

/-- What a prompt row mixes: the rows of its chunk of 128 up to itself. -/
def mixP (R : Fin 8704) (j : Fin 1024) : EReal :=
  (∑ s : Fin 128, tri WS ⟨(j : ℕ) / 128, by omega⟩ ⟨(R : ℕ) % 128, by omega⟩ s
      * vln X G W L B ⟨128 * ((R : ℕ) / 128) + s, by omega⟩ j)
    + BS ⟨(j : ℕ) / 128, by omega⟩ ⟨(R : ℕ) % 128, by omega⟩

/-- What a sample row mixes: the steps of its sequence of four up to itself. -/
def mixS (R : Fin 8704) (j : Fin 1024) : EReal :=
  (∑ s : Fin 4, (if (s : ℕ) ≤ (R : ℕ) % 4 then WS ⟨(j : ℕ) / 128, by omega⟩ ⟨(R : ℕ) % 4, by omega⟩ ⟨s, by omega⟩ else 0)
      * vln X G W L B ⟨4 * ((R : ℕ) / 4) + s, by omega⟩ j)
    + BS ⟨(j : ℕ) / 128, by omega⟩ ⟨(R : ℕ) % 4, by omega⟩

/-- The first result. -/
def yc (R : Fin 8704) (j : Fin 1024) : EReal :=
  gated X G W R j (if (R : ℕ) < 8192 then mixP X G W L B WS BS R j else mixS X G W L B WS BS R j)

/-- The coefficient of the row `k` steps back, for the row at place `a` of eight: the mixing weight of that step, if the
    sequence of four has it. -/
def coefR (w : Fin 8 → Fin 128 → Fin 128 → EReal) (k : Fin 4) (a : Fin 8) (j : Fin 1024) : EReal :=
  ∑ x : Fin 4, if (x : ℕ) + k = (a : ℕ) % 4 then w ⟨(j : ℕ) / 128, by omega⟩ ⟨(a : ℕ) % 4, by omega⟩ ⟨x, by omega⟩ else 0

theorem tile_lt (t : Fin 17) (r : Fin 512) : 512 * (t : ℕ) + r < 8704 := by omega

/-- A tile of prompt rows computes its share of the first result. -/
theorem yAt_tile (t : Fin 17) (ht : (t : ℕ) < 16) (r : Fin 512) (j : Fin 1024) :
    yAt (fun r => hx X G ⟨512 * t + r, tile_lt t r⟩) (fun n k => W k ⟨n, by omega⟩) (tri WS) (fun g a _ => BS g a)
        (fun r => vln X G W L B ⟨512 * t + r, tile_lt t r⟩) r j
      = yc X G W L B WS BS ⟨512 * t + r, tile_lt t r⟩ j := by
  have e : (⟨(r : ℕ) % 128, by omega⟩ : Fin 128) = ⟨(512 * (t : ℕ) + r) % 128, by omega⟩ := Fin.ext (by simp only; omega)
  have f : ∀ s : Fin 128, (⟨512 * (t : ℕ) + (128 * ((r : ℕ) / 128) + s), by omega⟩ : Fin 8704)
      = ⟨128 * ((512 * (t : ℕ) + r) / 128) + s, by omega⟩ := fun s => Fin.ext (by simp only; omega)
  unfold yc
  rw [if_pos (by simp only; omega)]
  unfold yAt gated mixP proj
  rw [e]
  simp only [f]

/-- Steps back along a sequence of four, weighted by place, are the steps up to the place: the mixing of one entry. -/
theorem steps (V : Fin 512 → EReal) (w : Fin 128 → EReal) (b : EReal) (r : Fin 512) :
    V r * (∑ x : Fin 4, if (x : ℕ) + 0 = (r : ℕ) % 8 % 4 then w ⟨x, by omega⟩ else 0) + b
        + V ⟨((r : ℕ) + 512 - 1) % 512, by omega⟩ * (∑ x : Fin 4, if (x : ℕ) + 1 = (r : ℕ) % 8 % 4 then w ⟨x, by omega⟩ else 0)
        + V ⟨((r : ℕ) + 512 - 2) % 512, by omega⟩ * (∑ x : Fin 4, if (x : ℕ) + 2 = (r : ℕ) % 8 % 4 then w ⟨x, by omega⟩ else 0)
        + V ⟨((r : ℕ) + 512 - 3) % 512, by omega⟩ * (∑ x : Fin 4, if (x : ℕ) + 3 = (r : ℕ) % 8 % 4 then w ⟨x, by omega⟩ else 0)
      = (∑ s : Fin 4, (if (s : ℕ) ≤ (r : ℕ) % 4 then w ⟨s, by omega⟩ else 0) * V ⟨4 * ((r : ℕ) / 4) + s, by omega⟩) + b := by
  have e4 : (r : ℕ) % 8 % 4 = (r : ℕ) % 4 := by omega
  rw [e4]
  simp only [Fin.sum_univ_four]
  have h : (r : ℕ) % 4 = 0 ∨ (r : ℕ) % 4 = 1 ∨ (r : ℕ) % 4 = 2 ∨ (r : ℕ) % 4 = 3 := by omega
  rcases h with h | h | h | h
  · have e0 : V r = V ⟨4 * ((r : ℕ) / 4) + 0, by omega⟩ := congrArg V (Fin.ext (by simp only; omega))
    rw [e0]
    simp [h, mul_comm]
  · have e0 : V r = V ⟨4 * ((r : ℕ) / 4) + 1, by omega⟩ := congrArg V (Fin.ext (by simp only; omega))
    have e1 : V ⟨((r : ℕ) + 512 - 1) % 512, by omega⟩ = V ⟨4 * ((r : ℕ) / 4) + 0, by omega⟩ := congrArg V (Fin.ext (by simp only; omega))
    rw [e0, e1]
    simp [h]
    ac_rfl
  · have e0 : V r = V ⟨4 * ((r : ℕ) / 4) + 2, by omega⟩ := congrArg V (Fin.ext (by simp only; omega))
    have e1 : V ⟨((r : ℕ) + 512 - 1) % 512, by omega⟩ = V ⟨4 * ((r : ℕ) / 4) + 1, by omega⟩ := congrArg V (Fin.ext (by simp only; omega))
    have e2 : V ⟨((r : ℕ) + 512 - 2) % 512, by omega⟩ = V ⟨4 * ((r : ℕ) / 4) + 0, by omega⟩ := congrArg V (Fin.ext (by simp only; omega))
    rw [e0, e1, e2]
    simp [h]
    ac_rfl
  · have e0 : V r = V ⟨4 * ((r : ℕ) / 4) + ((3 : Fin 4) : ℕ), by omega⟩ := congrArg V (Fin.ext (by simp only [show ((3 : Fin 4) : ℕ) = 3 from rfl]; omega))
    have e1 : V ⟨((r : ℕ) + 512 - 1) % 512, by omega⟩ = V ⟨4 * ((r : ℕ) / 4) + 2, by omega⟩ := congrArg V (Fin.ext (by simp only; omega))
    have e2 : V ⟨((r : ℕ) + 512 - 2) % 512, by omega⟩ = V ⟨4 * ((r : ℕ) / 4) + 1, by omega⟩ := congrArg V (Fin.ext (by simp only; omega))
    have e3 : V ⟨((r : ℕ) + 512 - 3) % 512, by omega⟩ = V ⟨4 * ((r : ℕ) / 4) + 0, by omega⟩ := congrArg V (Fin.ext (by simp only; omega))
    rw [e0, e1, e2, e3]
    simp [h]
    ac_rfl

/-- The tile of sample rows computes its share of the first result. -/
theorem ysAt_tile (r : Fin 512) (j : Fin 1024) :
    ysAt (fun r => hx X G ⟨512 * 16 + r, by omega⟩) (fun n k => W k ⟨n, by omega⟩) (coefR WS)
        (fun a j => BS ⟨(j : ℕ) / 128, by omega⟩ ⟨(a : ℕ) % 4, by omega⟩)
        (fun r => vln X G W L B ⟨512 * 16 + r, by omega⟩) r j
      = yc X G W L B WS BS ⟨512 * 16 + r, by omega⟩ j := by
  have f : ∀ s : Fin 4, (⟨4 * ((512 * 16 + (r : ℕ)) / 4) + s, by omega⟩ : Fin 8704)
      = ⟨512 * 16 + (4 * ((r : ℕ) / 4) + s), by omega⟩ := fun s => Fin.ext (by simp only; omega)
  have e2 : (512 * 16 + (r : ℕ)) % 4 = (r : ℕ) % 4 := by omega
  unfold yc
  rw [if_neg (by simp only; omega)]
  unfold ysAt gated mixS proj
  refine congrArg₂ (fun a b : EReal => a * b) (congrArg₂ (fun a b : EReal => a * b) rfl ?_) rfl
  refine Eq.trans (steps (fun r => vln X G W L B ⟨512 * 16 + r, by omega⟩ j)
    (fun x => WS ⟨(j : ℕ) / 128, by omega⟩ ⟨(r : ℕ) % 8 % 4, by omega⟩ x)
    (BS ⟨(j : ℕ) / 128, by omega⟩ ⟨(r : ℕ) % 8 % 4, by omega⟩) r) ?_
  have e3 : (r : ℕ) % 8 % 4 = (r : ℕ) % 4 := by omega
  simp only [f, e2, e3]

end Cert.Cmlp
end
-- ==== Proof.Cmlp.Blocks.lean ====
module

public import proofs.«01_k».proof.Proof.Cmlp.Whole
public import proofs.«01_k».proof.Proof.Gen.KernelIdeal.Value

/-!
What the windows of the kernel bring in, in terms of the seven arguments: point `t` reads rows `512 t …` of the
activations; every other window is the same block at all points, of an argument or of an array the host prepares from one.
-/

@[expose] public section
set_option maxRecDepth 16384
noncomputable section
namespace Cert.Cmlp
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The block numbers of the windows the points read. -/
theorem idx : ∀ t : Fin cfg0.N,
    win0_0.index t = ![t.val, 0] ∧ win0_1.index t = ![0, 0] ∧ win0_2.index t = ![0, 0] ∧ win0_3.index t = ![0, 0]
    ∧ win0_4.index t = ![0, 0] ∧ win0_5.index t = ![0, 0, 0] ∧ win0_6.index t = ![0, 0] ∧ win0_7.index t = ![0, 0, 0]
    ∧ win0_8.index t = ![0, 0] :=
  (by decide +kernel : ∀ t : Fin grid0.N, _)

/-! ## What the host prepares -/

theorem V13 : V m c main_v13 = shapeCast (s := S2048) S1x2048 (m ((c : Thread nD τ).loc main_arg1)) := by
  unfold V
  simp only [List.flatten_cons, List.flatten_nil, List.append_nil, hostOps0, hostOps0_1, hostOps0_2, List.cons_append, List.nil_append]
  after_results
  rfl

theorem V15 : V m c main_v15 = shapeCast (s := S1024) S1x1024 (m ((c : Thread nD τ).loc main_arg3)) := by
  unfold V
  simp only [List.flatten_cons, List.flatten_nil, List.append_nil, hostOps0, hostOps0_1, hostOps0_2, List.cons_append, List.nil_append]
  after_results
  rfl

theorem V16 : V m c main_v16 = shapeCast (s := S1024) S1x1024 (m ((c : Thread nD τ).loc main_arg4)) := by
  unfold V
  simp only [List.flatten_cons, List.flatten_nil, List.append_nil, hostOps0, hostOps0_1, hostOps0_2, List.cons_append, List.nil_append]
  after_results
  rfl

theorem V14 (j : Fin 5648) (k : Fin 2048) : V m c main_v14 (ix2 j k) = m ((c : Thread nD τ).loc main_arg2) (ix2 k j) := by
  unfold V
  simp only [List.flatten_cons, List.flatten_nil, List.append_nil, hostOps0, hostOps0_1, hostOps0_2, List.cons_append, List.nil_append]
  entry_read
  pointwise []

theorem V17 (a : Fin 8) (j : Fin 1024) :
    V m c main_v17 (ix2 a j) = m ((c : Thread nD τ).loc main_arg6) (ix2 ⟨(j : ℕ) / 128, by omega⟩ ⟨(a : ℕ) % 4, by omega⟩) := by
  unfold V
  simp only [List.flatten_cons, List.flatten_nil, List.append_nil, hostOps0, hostOps0_1, hostOps0_2, List.cons_append, List.nil_append]
  entry_read
  pointwise []
  split
  · blk_ext []
  · blk_ext []

/-- The table of places the host compares: step `x` is `k` steps before step `a`. -/
theorem lit_at (k a x : Fin 4) : lit0 (S4x4x4.rowMajor (ix3 k a x)) = if (x : ℕ) + k = a then 1#1 else 0#1 := by
  revert k a x
  decide +kernel

theorem sel_at {p : Prop} [Decidable p] {q : Prop} [Decidable q] {x y : EReal} (hpq : p ↔ q) (h : x = y) :
    Scalar.select (if p then 1#1 else 0#1) x (0 : EReal) = if q then y else 0 := by
  subst h
  by_cases hp : p
  · rw [if_pos hp, if_pos (hpq.mp hp)]; rfl
  · rw [if_neg hp, if_neg (fun h => hp (hpq.mpr h))]; rfl

theorem V8 (k : Fin 4) (a : Fin 8) (j : Fin 1024) :
    V m c main_v8 (ix3 k a j) = coefR (fun g a b => m ((c : Thread nD τ).loc main_arg5) (ix3 g a b)) k a j := by
  unfold V
  simp only [List.flatten_cons, List.flatten_nil, List.append_nil, hostOps0, hostOps0_1, hostOps0_2, List.cons_append, List.nil_append]
  entry_read
  pointwise []
  simp only [StableHlo.TRef.toBuf, StableHlo.TRef.ofBuf, cast_cast, cast_eq]
  pointwise [lit_at]
  unfold coefR
  split
  · refine Finset.sum_congr (M := EReal) rfl fun x _ => sel_at (by omega) ?_
    blk_ext []
  · refine Finset.sum_congr (M := EReal) rfl fun x _ => sel_at (by omega) ?_
    blk_ext []

/-! ## The blocks -/

theorem blk0 (t : Fin cfg0.N) (r : Fin 512) (k : Fin 2048) (h : 512 * t.val + r.val < 8704) :
    iblk m c 0 t (ix2 r k) = m ((c : Thread nD τ).loc main_arg0) (ix2 ⟨512 * t.val + r.val, h⟩ k) := by
  blk_ext [iblk, V, idx t]

theorem blk1 (t : Fin cfg0.N) (k : Fin 2048) :
    iblk m c 1 t (ix2 0 k) = m ((c : Thread nD τ).loc main_arg1) (ix1 k) := by
  refine Eq.trans (b := V m c main_v13 (ix2 0 k)) ?_ ?_
  · blk_ext [iblk, idx t]
  · rw [V13]
    pointwise []

theorem blk2 (t : Fin cfg0.N) (j : Fin 3072) (k : Fin 2048) :
    X0_2 m c t (ix2 j k) = m ((c : Thread nD τ).loc main_arg2) (ix2 k ⟨j, Nat.lt_trans j.isLt (by decide)⟩) := by
  unfold X0_2 Pipeline.Window.fill
  rw [dif_pos (moved0_2 t _)]
  refine Eq.trans (b := V m c main_v14 (ix2 ⟨j, Nat.lt_trans j.isLt (by decide)⟩ k)) ?_ (V14 m c _ k)
  blk_ext [iblk, idx t]

theorem blk3 (t : Fin cfg0.N) (k : Fin 1024) :
    iblk m c 3 t (ix2 0 k) = m ((c : Thread nD τ).loc main_arg3) (ix1 k) := by
  refine Eq.trans (b := V m c main_v15 (ix2 0 k)) ?_ ?_
  · blk_ext [iblk, idx t]
  · rw [V15]
    pointwise []

theorem blk4 (t : Fin cfg0.N) (k : Fin 1024) :
    iblk m c 4 t (ix2 0 k) = m ((c : Thread nD τ).loc main_arg4) (ix1 k) := by
  refine Eq.trans (b := V m c main_v16 (ix2 0 k)) ?_ ?_
  · blk_ext [iblk, idx t]
  · rw [V16]
    pointwise []

theorem blk5 (t : Fin cfg0.N) (g : Fin 8) (a b : Fin 128) :
    iblk m c 5 t (ix3 g a b) = m ((c : Thread nD τ).loc main_arg5) (ix3 g a b) := by
  blk_ext [iblk, V, idx t]

theorem blk6 (t : Fin cfg0.N) (g : Fin 8) (a : Fin 128) :
    iblk m c 6 t (ix2 g a) = m ((c : Thread nD τ).loc main_arg6) (ix2 g a) := by
  blk_ext [iblk, V, idx t]

theorem blk8 (t : Fin cfg0.N) (a : Fin 8) (j : Fin 1024) :
    iblk m c 8 t (ix2 a j) = m ((c : Thread nD τ).loc main_arg6) (ix2 ⟨(j : ℕ) / 128, by omega⟩ ⟨(a : ℕ) % 4, by omega⟩) := by
  refine Eq.trans (b := V m c main_v17 (ix2 a j)) ?_ (V17 m c a j)
  blk_ext [iblk, idx t]

theorem blk7 (t : Fin cfg0.N) (k : Fin 4) (a : Fin 8) (j : Fin 1024) :
    iblk m c 7 t (ix3 k a j) = coefR (fun g a b => m ((c : Thread nD τ).loc main_arg5) (ix3 g a b)) k a j := by
  refine Eq.trans (b := V m c main_v8 (ix3 k a j)) ?_ (V8 m c k a j)
  blk_ext [iblk, idx t]

end Cert.Cmlp
end
-- ==== Proof.Cmlp.Points.lean ====
module

public import proofs.«01_k».proof.Proof.Cmlp.Pay
public import proofs.«01_k».proof.Proof.Cmlp.TileA
public import proofs.«01_k».proof.Proof.Cmlp.TileC
public import proofs.«01_k».proof.Proof.Cmlp.Blocks

/-!
What the kernel's three result arrays end holding: the entries of `Whole.lean` at the launch arguments.
-/

@[expose] public section
set_option maxRecDepth 16384
noncomputable section
namespace Cert.Cmlp
open Idealize.ShloMosaic Idealize.ShloMosaic.TcCoe Idealize.SL.Sem
open Cert.KernelIdeal Cert.KernelIdeal.Gen

variable (m : (ℓ : Loc nD τ sig) → Buf (Elt Ideal) ℓ) (c : Dev nD)

/-! ## The arguments -/

abbrev aX (R : Fin 8704) (k : Fin 2048) : EReal := m ((c : Thread nD τ).loc main_arg0) (ix2 R k)
abbrev aG (k : Fin 2048) : EReal := m ((c : Thread nD τ).loc main_arg1) (ix1 k)
abbrev aW (k : Fin 2048) (n : Fin 5648) : EReal := m ((c : Thread nD τ).loc main_arg2) (ix2 k n)
abbrev aL (k : Fin 1024) : EReal := m ((c : Thread nD τ).loc main_arg3) (ix1 k)
abbrev aB (k : Fin 1024) : EReal := m ((c : Thread nD τ).loc main_arg4) (ix1 k)
abbrev aWS (g : Fin 8) (a b : Fin 128) : EReal := m ((c : Thread nD τ).loc main_arg5) (ix3 g a b)
abbrev aBS (g : Fin 8) (a : Fin 128) : EReal := m ((c : Thread nD τ).loc main_arg6) (ix2 g a)

theorem N17 (t : Fin cfg0.N) : t.val < 17 := lt_of_lt_of_eq t.isLt N_0

/-- The point as one of 17. -/
abbrev pt (t : Fin cfg0.N) : Fin 17 := ⟨t.val, N17 t⟩

/-! ## The rows a tile works on -/

theorem rowX (t : Fin cfg0.N) (r : Fin 512) :
    (fun k => iblk m c 0 t (ix2 r k)) = aX m c ⟨512 * pt t + r, tile_lt _ r⟩ := funext fun k => blk0 m c t r k _
theorem rowG (t : Fin cfg0.N) : (fun k => iblk m c 1 t (ix2 0 k)) = aG m c := funext fun k => blk1 m c t k
theorem rowL (t : Fin cfg0.N) : (fun k => iblk m c 3 t (ix2 0 k)) = aL m c := funext fun k => blk3 m c t k
theorem rowB (t : Fin cfg0.N) : (fun k => iblk m c 4 t (ix2 0 k)) = aB m c := funext fun k => blk4 m c t k

theorem rowW (t : Fin cfg0.N) :
    (fun (n : Fin 3072) k => X0_2 m c t (ix2 n k)) = fun (n : Fin 3072) k => aW m c k ⟨n, by omega⟩ :=
  funext fun n => funext fun k => blk2 m c t n k

/-- The block of the projection's rows the branch `v` reads. -/
abbrev wV (t : Fin cfg0.N) : Vec Ideal S1024x2048 .f32 :=
  View.ld (X0_2 m c t) (Rect.unit ![1024, 0] S1024x2048.size inb_S3072x2048_S1024x2048_1024_0)

theorem ld_at (x : Vec Ideal S3072x2048 .f32) (j : Fin 1024) (k : Fin 2048) :
    View.ld x (Rect.unit ![1024, 0] S1024x2048.size inb_S3072x2048_S1024x2048_1024_0) (ix2 j k)
      = x (ix2 ⟨1024 + j, by omega⟩ k) := by
  first
    | (pointwise []; done)
    | (blk_simp; blk_ext)
    | (refine congrArg x ?_; blk_ext)

theorem wV_at (t : Fin cfg0.N) (j : Fin 1024) (k : Fin 2048) : wV m c t (ix2 j k) = aW m c k ⟨1024 + j, by omega⟩ := by
  exact (ld_at _ j k).trans (blk2 m c t _ k)

theorem vRow_at (t : Fin cfg0.N) (r : Fin 512) (j : Fin 1024) :
    vRow (iblk m c 0 t) (iblk m c 1 t) (wV m c t) r j
      = proj (aX m c) (aG m c) (aW m c) ⟨512 * pt t + r, tile_lt _ r⟩ ⟨1024 + j, by omega⟩ := by
  unfold vRow proj hx
  rw [rowX m c t r, rowG m c t]
  exact congrArg _ (funext fun k => wV_at m c t j k)

theorem h21 (t : Fin cfg0.N) : (fun r k => k0_pay21 (iblk m c 0 t) (iblk m c 1 t) (ix2 r k))
    = fun (r : Fin 512) => hx (aX m c) (aG m c) ⟨512 * pt t + r, tile_lt _ r⟩ := by
  funext r k
  rw [pay21_at, rowX m c t r, rowG m c t]
  rfl

theorem h74 (t : Fin cfg0.N) : (fun r k => k0_pay74 (iblk m c 0 t) (iblk m c 1 t) (ix2 r k))
    = fun (r : Fin 512) => hx (aX m c) (aG m c) ⟨512 * pt t + r, tile_lt _ r⟩ := by
  funext r k
  rw [pay74_at, rowX m c t r, rowG m c t]
  rfl

theorem v26 (t : Fin cfg0.N) :
    (fun r j => k0_pay26 (k0_pay22 (iblk m c 3 t)) (k0_pay23 (iblk m c 4 t)) (k0_pay24 (iblk m c 0 t) (iblk m c 1 t) (wV m c t))
        (k0_pay25 (iblk m c 0 t) (iblk m c 1 t) (wV m c t)) (ix2 r j))
      = fun (r : Fin 512) => vln (aX m c) (aG m c) (aW m c) (aL m c) (aB m c) ⟨512 * pt t + r, tile_lt _ r⟩ := by
  funext r j
  rw [pay26_at, rowL m c t, rowB m c t, funext (vRow_at m c t r)]
  rfl

theorem v80 (t : Fin cfg0.N) :
    (fun r j => k0_pay80 (k0_pay76 (iblk m c 3 t)) (k0_pay77 (iblk m c 4 t)) (k0_pay78 (iblk m c 0 t) (iblk m c 1 t) (wV m c t))
        (k0_pay79 (iblk m c 0 t) (iblk m c 1 t) (wV m c t)) (ix2 r j))
      = fun (r : Fin 512) => vln (aX m c) (aG m c) (aW m c) (aL m c) (aB m c) ⟨512 * pt t + r, tile_lt _ r⟩ := by
  funext r j
  rw [pay80_at, rowL m c t, rowB m c t, funext (vRow_at m c t r)]
  rfl

/-! ## The scratch after the first point -/

/-- From the first point to the last prompt tile the scratch holds the cleared mixing matrices and the spread offsets. -/
theorem scratch : ∀ (n : ℕ) (hn : n < cfg0.N), n < 16 →
    (∀ g a b, (outsAt0 m c n hn).2.2.2.1 (ix3 g a b) = tri (aWS m c) g a b)
    ∧ (∀ g a b, (outsAt0 m c n hn).2.2.2.2 (ix3 g a b) = aBS m c g a) := by
  intro n
  induction n with
  | zero =>
    intro hn _
    have e := outsAt0_A m c ⟨0, hn⟩ (by simp only; omega) (by simp only) (by simp only; omega)
    dsimp only at e
    rw [e]
    refine ⟨fun g a b => ?_, fun g a b => ?_⟩
    · dsimp only
      rw [soutA_1]
      exact congrArg (fun W => tri W g a b) (funext fun g => funext fun a => funext fun b => blk5 m c _ g a b)
    · dsimp only
      rw [soutA_2]
      exact blk6 m c _ g a
  | succ n ih =>
    intro hn h16
    have e := outsAt0_B m c ⟨n + 1, hn⟩ h16 (by simp only; omega) (by simp only; omega)
    dsimp only at e
    rw [e]
    exact ih (Nat.lt_of_succ_lt hn) (by omega)

end Cert.Cmlp
end
-- ==== Proof.Cmlp.Final.lean ====
module

public import proofs.«01_k».proof.Proof.Cmlp.Points

/-!
What the kernel's three result arrays end holding: the entries of `Whole.lean` at the launch arguments.
-/

@[expose] public section
set_option maxRecDepth 16384
noncomputable section
namespace Cert.Cmlp
open Idealize.ShloMosaic Idealize.ShloMosaic.TcCoe Idealize.SL.Sem
open Cert.KernelIdeal Cert.KernelIdeal.Gen

variable (m : (ℓ : Loc nD τ sig) → Buf (Elt Ideal) ℓ) (c : Dev nD)

/-- The entries of the first result at the launch arguments. -/
abbrev kY (R : Fin 8704) (j : Fin 1024) : EReal := yc (aX m c) (aG m c) (aW m c) (aL m c) (aB m c) (aWS m c) (aBS m c) R j
abbrev kH (R : Fin 8704) (d : Fin 2048) : EReal := hx (aX m c) (aG m c) R d
abbrev kV (R : Fin 8704) (j : Fin 1024) : EReal := vln (aX m c) (aG m c) (aW m c) (aL m c) (aB m c) R j

theorem yAt_congr {H H' : Fin 512 → Fin 2048 → EReal} {w w' : Fin 3072 → Fin 2048 → EReal}
    {ws ws' bs bs' : Fin 8 → Fin 128 → Fin 128 → EReal} {V V' : Fin 512 → Fin 1024 → EReal} (r : Fin 512) (j : Fin 1024)
    (h1 : H = H') (h2 : w = w') (h3 : ws = ws') (h4 : bs = bs') (h5 : V = V') :
    yAt H w ws bs V r j = yAt H' w' ws' bs' V' r j := by subst h1 h2 h3 h4 h5; rfl

theorem ysAt_congr {H H' : Fin 512 → Fin 2048 → EReal} {w w' : Fin 3072 → Fin 2048 → EReal}
    {co co' : Fin 4 → Fin 8 → Fin 1024 → EReal} {bi bi' : Fin 8 → Fin 1024 → EReal} {V V' : Fin 512 → Fin 1024 → EReal}
    (r : Fin 512) (j : Fin 1024)
    (h1 : H = H') (h2 : w = w') (h3 : co = co') (h4 : bi = bi') (h5 : V = V') :
    ysAt H w co bi V r j = ysAt H' w' co' bi' V' r j := by subst h1 h2 h3 h4 h5; rfl

/-- A later point, at which the scratch is read. -/
abbrev p1 : Fin cfg0.N := ⟨1, lt_of_lt_of_eq (by decide) N_0.symm⟩

/-- What point `t` leaves in its tile of the first result. -/
theorem point9 (t : Fin cfg0.N) (r : Fin 512) (j : Fin 1024) :
    (outsAt0 m c t.val t.isLt).1 (ix2 r j) = kY m c ⟨512 * pt t + r, tile_lt _ r⟩ j := by
  have hN := N17 t
  by_cases h0 : t.val < 16
  · by_cases h1 : t.val % 17 = 0
    · rw [outsAt0_A m c t h0 h1 (by omega)]
      dsimp only
      rw [outA_9 (i' := grid0.coords p1) (hc0' := (hcond0_0 p1).mpr (by simp only; omega))
        (hc1' := fun h => absurd ((hcond0_1 p1).mp h) (by simp only; omega)) (hc2' := fun h => absurd ((hcond0_2 p1).mp h) (by simp only; omega))]
      refine (yAt_congr r j (h21 m c t) (rowW m c t) ?_ ?_ (v26 m c t)).trans (yAt_tile _ _ _ _ _ _ _ (pt t) h0 r j)
      · exact congrArg tri (funext fun g => funext fun a => funext fun b => blk5 m c t g a b)
      · exact funext fun g => funext fun a => funext fun _ => blk6 m c t g a
    · rw [outsAt0_B m c t h0 h1 (by omega)]
      dsimp only
      rw [outB_9]
      obtain ⟨e1, e2⟩ := scratch m c (t.val - 1) (Nat.lt_of_le_of_lt (Nat.sub_le _ _) t.isLt) (by omega)
      refine (yAt_congr r j (h21 m c t) (rowW m c t) ?_ ?_ (v26 m c t)).trans (yAt_tile _ _ _ _ _ _ _ (pt t) h0 r j)
      · exact funext fun g => funext fun a => funext fun b => e1 g a b
      · exact funext fun g => funext fun a => funext fun b => e2 g a b
  · obtain ⟨n, hn⟩ := t
    obtain rfl : n = 16 := by simp only at h0 hN; omega
    rw [outsAt0_C m c ⟨16, hn⟩ h0 (by simp only)]
    dsimp only
    rw [outC_9]
    refine (ysAt_congr r j (h74 m c ⟨16, hn⟩) (rowW m c ⟨16, hn⟩) ?_ ?_ (v80 m c ⟨16, hn⟩)).trans (ysAt_tile _ _ _ _ _ _ _ r j)
    · exact funext fun k => funext fun a => funext fun j => blk7 m c _ k a j
    · exact funext fun a => funext fun j => blk8 m c _ a j

/-- What point `t` leaves in its tile of the second result. -/
theorem point10 (t : Fin cfg0.N) (r : Fin 512) (k : Fin 2048) :
    (outsAt0 m c t.val t.isLt).2.1 (ix2 r k) = kH m c ⟨512 * pt t + r, tile_lt _ r⟩ k := by
  have hN := N17 t
  by_cases h0 : t.val < 16
  · by_cases h1 : t.val % 17 = 0
    · rw [outsAt0_A m c t h0 h1 (by omega)]
      dsimp only
      rw [outA_10]
      exact congrFun (congrFun (h21 m c t) r) k
    · rw [outsAt0_B m c t h0 h1 (by omega)]
      dsimp only
      rw [outB_10]
      exact congrFun (congrFun (h21 m c t) r) k
  · rw [outsAt0_C m c t h0 (by omega)]
    dsimp only
    rw [outC_10]
    exact congrFun (congrFun (h74 m c t) r) k

/-- What the last point leaves in the third result. -/
theorem point11 (hn : 16 < cfg0.N) (s : Fin 128) (q : Fin 4) (j : Fin 1024) :
    (outsAt0 m c 16 hn).2.2.1 (ix3 s q j) = kV m c ⟨8192 + (s * 4 + q), by omega⟩ j := by
  have e := outsAt0_C m c ⟨16, hn⟩ (by simp only; omega) (by simp only)
  dsimp only at e
  rw [e]
  dsimp only
  rw [outC_11]
  exact congrFun (congrFun (v80 m c ⟨16, hn⟩) _) j

/-! ## The arrays -/

theorem G9_at (R : Fin 8704) (j : Fin 1024) : Value.G9 m c (ix2 R j) = kY m c R j := by
  have key : ∀ (n : ℕ) (hn : n < cfg0.N) (l : S512x1024.Idx), n = (R : ℕ) / 512 → l = ix2 ⟨(R : ℕ) % 512, by omega⟩ j →
      (outsAt0 m c n hn).1 l = kY m c R j := by
    intro n hn l e1 e2
    subst e1 e2
    refine (point9 m c ⟨_, hn⟩ _ j).trans (congrArg (fun R => kY m c R j) (Fin.ext ?_))
    simp only
    omega
  have hp : Value.pt9Of (ix2 R j) = (R : ℕ) / 512 := by
    show 1 * ((R : ℕ) / 512 - 0) + 1 * ((j : ℕ) / 1024 - 0) = _
    omega
  have hlt : Value.pt9Of (ix2 R j) < cfg0.N := by rw [hp, show cfg0.N = 17 from N_0]; omega
  unfold Value.G9
  rw [dif_pos hlt, ← Value.outsAt0_sweep m c _ hlt]
  exact key _ _ _ hp (funext fun a => match a with
    | ⟨0, _⟩ => rfl
    | ⟨1, _⟩ => Fin.ext (Nat.mod_eq_of_lt j.isLt))

theorem G10_at (R : Fin 8704) (k : Fin 2048) : Value.G10 m c (ix2 R k) = kH m c R k := by
  have key : ∀ (n : ℕ) (hn : n < cfg0.N) (l : S512x2048.Idx), n = (R : ℕ) / 512 → l = ix2 ⟨(R : ℕ) % 512, by omega⟩ k →
      (outsAt0 m c n hn).2.1 l = kH m c R k := by
    intro n hn l e1 e2
    subst e1 e2
    refine (point10 m c ⟨_, hn⟩ _ k).trans (congrArg (fun R => kH m c R k) (Fin.ext ?_))
    simp only
    omega
  have hp : Value.pt10Of (ix2 R k) = (R : ℕ) / 512 := by
    show 1 * ((R : ℕ) / 512 - 0) + 1 * ((k : ℕ) / 2048 - 0) = _
    omega
  have hlt : Value.pt10Of (ix2 R k) < cfg0.N := by rw [hp, show cfg0.N = 17 from N_0]; omega
  unfold Value.G10
  rw [dif_pos hlt, ← Value.outsAt0_sweep m c _ hlt]
  exact key _ _ _ hp (funext fun a => match a with
    | ⟨0, _⟩ => rfl
    | ⟨1, _⟩ => Fin.ext (Nat.mod_eq_of_lt k.isLt))

theorem G11_at (s : Fin 128) (q : Fin 4) (j : Fin 1024) :
    Value.G11 m c (ix3 s q j) = kV m c ⟨8192 + (s * 4 + q), by omega⟩ j := by
  rw [Value.G11_last, ← Value.outsAt0_sweep m c 16 (lt_of_lt_of_eq (by decide) N_0.symm)]
  exact point11 m c _ s q j

end Cert.Cmlp
end
-- ==== Proof.Cmlp.Ref.lean ====
module

public import proofs.«01_k».proof.Proof.Cmlp.Whole
public import proofs.«01_k».proof.Proof.Gen.ReferenceIdeal.Read

/-!
The reference's results, entry by entry: the entries of `Whole.lean` at its arguments.
-/

@[expose] public section
set_option maxRecDepth 16384
noncomputable section
namespace Cert.Cmlp.Ref
open Idealize.ShloMosaic Idealize.ShloMosaic.TcCoe Idealize.SL.Sem
open Cert.ReferenceIdeal Cert.ReferenceIdeal.Read

variable (x0 : (⟨S8704x2048, .f32⟩ : BufTy).Contents (Elt Ideal)) (x1 : (⟨S2048, .f32⟩ : BufTy).Contents (Elt Ideal))
  (x2 : (⟨S2048x5648, .f32⟩ : BufTy).Contents (Elt Ideal)) (x3 x4 : (⟨S1024, .f32⟩ : BufTy).Contents (Elt Ideal))
  (x5 : (⟨S8x128x128, .f32⟩ : BufTy).Contents (Elt Ideal)) (x6 : (⟨S8x128, .f32⟩ : BufTy).Contents (Elt Ideal))

abbrev fX (R : Fin 8704) (k : Fin 2048) : EReal := x0 (ix2 R k)
abbrev fG (k : Fin 2048) : EReal := x1 (ix1 k)
abbrev fW (k : Fin 2048) (n : Fin 5648) : EReal := x2 (ix2 k n)
abbrev fL (k : Fin 1024) : EReal := x3 (ix1 k)
abbrev fWS (g : Fin 8) (a b : Fin 128) : EReal := x5 (ix3 g a b)
abbrev fBS (g : Fin 8) (a : Fin 128) : EReal := x6 (ix2 g a)

/-! ## The prompt rows -/

theorem v16_at (R : Fin 8192) (d : Fin 2048) :
    val_main_v16 (F := Ideal) x0 x1 (ix3 0 R d) = hx (fX x0) (fG x1) ⟨R, by omega⟩ d := by
  unfold hx rmsR
  pointwise [val_main_v0, val_main_v1, val_main_v4, val_main_v5, val_main_v6, val_main_v7, val_main_v8, val_main_v9, val_main_v10, val_main_v11, val_main_v12, val_main_v13, val_main_v14, val_main_v15, val_main_v16, val_main_cst, val_main_cst_0, val_main_cst_1]

theorem v17_at (R : Fin 8192) (n : Fin 5648) :
    val_main_v17 (F := Ideal) x0 x1 x2 (ix3 0 R n) = proj (fX x0) (fG x1) (fW x2) ⟨R, by omega⟩ n := by
  unfold proj dotR
  pointwise [val_main_v17, v16_at]

theorem v42_at (R : Fin 8192) (j : Fin 1024) :
    val_main_v42 (F := Ideal) x0 x1 x2 x3 x4 (ix3 0 R j) = vln (fX x0) (fG x1) (fW x2) (fL x3) (fL x4) ⟨R, by omega⟩ j := by
  unfold vln lnR mean
  pointwise [val_main_v19, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_cst_2, val_main_cst_3, val_main_cst_4, val_main_cst_5, val_main_cst_6, v17_at]

theorem v44_at (g : Fin 8) (a b : Fin 128) : val_main_v44 (F := Ideal) x5 (ix3 g a b) = tri (fWS x5) g a b := by
  unfold tri
  pointwise [val_main_v44, val_main_call0_v0, val_main_call0_c, val_main_call0_v1, val_main_call0_v2, val_main_call0_v3, val_main_call0_v4, val_main_call0_v5, val_main_call0_cst, val_main_call0_v6]
  rw [show IntOp.addi (BitVec.ofNat 32 (a : ℕ)) 0#32 = BitVec.ofNat 32 (a : ℕ) by simp [IntOp.addi]]
  exact select_sge a b _

theorem v54_at (R : Fin 8192) (j : Fin 1024) :
    val_main_v54 (F := Ideal) x0 x1 x2 x3 x4 x5 x6 (ix3 0 R j)
      = yc (fX x0) (fG x1) (fW x2) (fL x3) (fL x4) (fWS x5) (fBS x6) ⟨R, by omega⟩ j := by
  unfold yc
  rw [if_pos R.isLt]
  unfold gated mixP silu Ideal.logistic
  pointwise [val_main_v18, val_main_v20, val_main_v43, val_main_v45, val_main_v46, val_main_v47, val_main_v48, val_main_v49, val_main_v50, val_main_v51, val_main_v52, val_main_v53, val_main_v54, val_main_call1_v0, val_main_call1_v1, val_main_call1_cst, val_main_call1_v2, val_main_call1_v3, val_main_call1_cst_0, val_main_call1_v4, val_main_call1_v5, v17_at, v42_at, v44_at]
  refine congrArg₂ (fun a b : EReal => a * b) (congrArg₂ (fun a b : EReal => a * b) rfl
    (congrArg₂ (fun a b : EReal => a + b) (Finset.sum_congr rfl fun x _ => ?_) rfl)) rfl
  rw [mul_comm]
  exact congrArg₂ (fun a b : EReal => a * b) rfl
    (congrArg (fun R => vln (fX x0) (fG x1) (fW x2) (fL x3) (fL x4) R j) (Fin.ext (by simp only; omega)))

/-! ## The sample rows -/

theorem v67_at (s : Fin 128) (q : Fin 4) (d : Fin 2048) :
    val_main_v67 (F := Ideal) x0 x1 (ix3 s q d) = hx (fX x0) (fG x1) ⟨8192 + (s * 4 + q), by omega⟩ d := by
  unfold hx rmsR
  pointwise [val_main_v2, val_main_v3, val_main_v55, val_main_v56, val_main_v57, val_main_v58, val_main_v59, val_main_v60, val_main_v61, val_main_v62, val_main_v63, val_main_v64, val_main_v65, val_main_v66, val_main_v67, val_main_cst_7, val_main_cst_8, val_main_cst_9]

theorem v68_at (s : Fin 128) (q : Fin 4) (n : Fin 5648) :
    val_main_v68 (F := Ideal) x0 x1 x2 (ix3 s q n) = proj (fX x0) (fG x1) (fW x2) ⟨8192 + (s * 4 + q), by omega⟩ n := by
  unfold proj dotR
  pointwise [val_main_v68, v67_at]

theorem v93_at (s : Fin 128) (q : Fin 4) (j : Fin 1024) :
    val_main_v93 (F := Ideal) x0 x1 x2 x3 x4 (ix3 s q j)
      = vln (fX x0) (fG x1) (fW x2) (fL x3) (fL x4) ⟨8192 + (s * 4 + q), by omega⟩ j := by
  unfold vln lnR mean
  pointwise [val_main_v70, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_cst_10, val_main_cst_11, val_main_cst_12, val_main_cst_13, val_main_cst_14, v68_at]

theorem v96_at (g : Fin 8) (a b : Fin 4) : val_main_v96 (F := Ideal) x5 (ix3 g a b)
    = if (b : ℕ) ≤ a then fWS x5 g ⟨a, by omega⟩ ⟨b, by omega⟩ else 0 := by
  pointwise [val_main_v95, val_main_v96, val_main_call2_v0, val_main_call2_c, val_main_call2_v1, val_main_call2_v2, val_main_call2_v3, val_main_call2_v4, val_main_call2_v5, val_main_call2_cst, val_main_call2_v6]
  rw [show IntOp.addi (BitVec.ofNat 32 (a : ℕ)) 0#32 = BitVec.ofNat 32 (a : ℕ) by simp [IntOp.addi]]
  exact select_sge ⟨a, by omega⟩ ⟨b, by omega⟩ _

theorem v107_at (s : Fin 128) (q : Fin 4) (j : Fin 1024) :
    val_main_v107 (F := Ideal) x0 x1 x2 x3 x4 x5 x6 (ix3 s q j)
      = yc (fX x0) (fG x1) (fW x2) (fL x3) (fL x4) (fWS x5) (fBS x6) ⟨8192 + (s * 4 + q), by omega⟩ j := by
  unfold yc
  rw [if_neg (by simp only; omega)]
  unfold gated mixS silu Ideal.logistic
  pointwise [val_main_v69, val_main_v71, val_main_v94, val_main_v97, val_main_v98, val_main_v99, val_main_v100, val_main_v101, val_main_v102, val_main_v103, val_main_v104, val_main_v105, val_main_v106, val_main_v107, val_main_call3_v0, val_main_call3_v1, val_main_call3_cst, val_main_call3_v2, val_main_call3_v3, val_main_call3_cst_0, val_main_call3_v4, val_main_call3_v5, v68_at, v93_at, v96_at]
  have e1 : (8192 + ((s : ℕ) * 4 + q)) % 4 = q := by omega
  have e2 : ∀ x : Fin 4, (⟨4 * ((8192 + ((s : ℕ) * 4 + q)) / 4) + x, by omega⟩ : Fin 8704) = ⟨8192 + (s * 4 + x), by omega⟩ :=
    fun x => Fin.ext (by simp only; omega)
  simp only [e1, e2]
  refine congrArg₂ (fun a b : EReal => a * b) (congrArg₂ (fun a b : EReal => a * b) rfl
    (congrArg₂ (fun a b : EReal => a + b) (Finset.sum_congr rfl fun x _ => ?_) rfl)) rfl
  exact mul_comm _ _

/-! ## The results -/

theorem v114_at (R : Fin 8704) (j : Fin 1024) :
    val_main_v114 (F := Ideal) x0 x1 x2 x3 x4 x5 x6 (ix2 R j) = yc (fX x0) (fG x1) (fW x2) (fL x3) (fL x4) (fWS x5) (fBS x6) R j := by
  pointwise [val_main_v114, val_main_v110, val_main_v109, val_main_v108, v54_at, v107_at]
  split
  · rfl
  · exact congrArg (fun R => yc (fX x0) (fG x1) (fW x2) (fL x3) (fL x4) (fWS x5) (fBS x6) R j) (Fin.ext (by simp only; omega))

theorem v115_at (R : Fin 8704) (k : Fin 2048) :
    val_main_v115 (F := Ideal) x0 x1 (ix2 R k) = hx (fX x0) (fG x1) R k := by
  pointwise [val_main_v115, val_main_v113, val_main_v112, val_main_v111, v16_at, v67_at]
  split
  · rfl
  · exact congrArg (fun R => hx (fX x0) (fG x1) R k) (Fin.ext (by simp only; omega))

end Cert.Cmlp.Ref
end
-- ==== Proof.Cmlp.Match.lean ====
module

public import proofs.«01_k».proof.Proof.Cmlp.Final
public import proofs.«01_k».proof.Proof.Cmlp.Ref

/-!
The kernel's result arrays against the reference's, over memories that agree on the arguments.
-/

@[expose] public section
set_option maxRecDepth 16384
noncomputable section
namespace Cert.Cmlp
open Idealize.ShloMosaic Idealize.ShloMosaic.TcCoe Idealize.SL.Sem

variable (m : (ℓ : Loc KernelIdeal.nD KernelIdeal.τ KernelIdeal.sig) → Buf (Elt Ideal) ℓ) (c : Dev KernelIdeal.nD)

theorem res0 : ReferenceIdeal.Read.val_main_v114 (F := Ideal) (m (c.tc.loc KernelIdeal.main_arg0)) (m (c.tc.loc KernelIdeal.main_arg1))
      (m (c.tc.loc KernelIdeal.main_arg2)) (m (c.tc.loc KernelIdeal.main_arg3)) (m (c.tc.loc KernelIdeal.main_arg4))
      (m (c.tc.loc KernelIdeal.main_arg5)) (m (c.tc.loc KernelIdeal.main_arg6))
    = KernelIdeal.Value.G9 m c := by
  funext i
  idx_vars i
  exact (Ref.v114_at _ _ _ _ _ _ _ _ _).trans (G9_at m c _ _).symm

theorem res1 : ReferenceIdeal.Read.val_main_v115 (F := Ideal) (m (c.tc.loc KernelIdeal.main_arg0)) (m (c.tc.loc KernelIdeal.main_arg1))
    = KernelIdeal.Value.G10 m c := by
  funext i
  idx_vars i
  exact (Ref.v115_at _ _ _ _).trans (G10_at m c _ _).symm

theorem res2 : ReferenceIdeal.Read.val_main_v93 (F := Ideal) (m (c.tc.loc KernelIdeal.main_arg0)) (m (c.tc.loc KernelIdeal.main_arg1))
      (m (c.tc.loc KernelIdeal.main_arg2)) (m (c.tc.loc KernelIdeal.main_arg3)) (m (c.tc.loc KernelIdeal.main_arg4))
    = KernelIdeal.Value.G11 m c := by
  funext i
  idx_vars i
  exact (Ref.v93_at _ _ _ _ _ _ _ _).trans (G11_at m c _ _ _).symm

end Cert.Cmlp
end
-- ==== Proof.OutProj.Spec.lean ====
module

public import proofs.«01_k».proof.Proof.Cmlp.Spec

/-!
The mathematics of the output projection, one row at a time, over the extended reals: two half rows against the two halves
of the weight, the root-mean-square normalisation of the product, and the residual sum.
-/

@[expose] public section
noncomputable section
namespace Cert.OutProj
open Idealize.ShloMosaic

/-- Entry `d` of the product: the half row `a` against the weight's rows 0 to 1023, the half row `b` against the rest. -/
def prod (a b : Fin 1024 → EReal) (w : Fin 2048 → Fin 2048 → EReal) (d : Fin 2048) : EReal :=
  (∑ k : Fin 1024, a k * w ⟨k, by omega⟩ d) + ∑ k : Fin 1024, b k * w ⟨1024 + k, by omega⟩ d

/-- Entry `d` of the result row: the row `x` plus the normalised product. -/
def row (x : Fin 2048 → EReal) (a b : Fin 1024 → EReal) (w : Fin 2048 → Fin 2048 → EReal) (g : Fin 2048 → EReal)
    (d : Fin 2048) : EReal :=
  x d + Cmlp.rmsR (prod a b w) g d

/-- A sum over 2048 places, in two halves. -/
theorem sum_halves (f : Fin 2048 → EReal) :
    (∑ k, f k) = (∑ k : Fin 1024, f ⟨k, by omega⟩) + ∑ k : Fin 1024, f ⟨1024 + k, by omega⟩ :=
  Fin.sum_univ_add (M := EReal) (a := 1024) (b := 1024) f

/-- The product of a whole row whose halves are `a` and `b`. -/
theorem prod_whole (v : Fin 2048 → EReal) (a b : Fin 1024 → EReal) (w : Fin 2048 → Fin 2048 → EReal) (d : Fin 2048)
    (ha : ∀ k : Fin 1024, v ⟨k, by omega⟩ = a k) (hb : ∀ k : Fin 1024, v ⟨1024 + k, by omega⟩ = b k) :
    (∑ k, v k * w k d) = prod a b w d := by
  rw [sum_halves]
  unfold prod
  exact congrArg₂ (fun x y : EReal => x + y) (Finset.sum_congr (M := EReal) rfl fun k _ => congrArg (· * _) (ha k))
    (Finset.sum_congr (M := EReal) rfl fun k _ => congrArg (· * _) (hb k))

/-- Row `R` of 8704: one of 8192 prompt rows, or one of 512 sample rows. -/
def pick {n : ℕ} (P : Fin 8192 → Fin n → EReal) (S : Fin 512 → Fin n → EReal) (R : Fin 8704) : Fin n → EReal :=
  if h : (R : ℕ) < 8192 then P ⟨R, h⟩ else S ⟨R - 8192, by omega⟩

theorem pick_prompt {n : ℕ} (P : Fin 8192 → Fin n → EReal) (S : Fin 512 → Fin n → EReal) (R : Fin 8704) (Q : Fin 8192)
    (h : (R : ℕ) = Q) : pick P S R = P Q := by
  unfold pick
  rw [dif_pos (by omega)]
  exact congrArg P (Fin.ext h)

theorem pick_sample {n : ℕ} (P : Fin 8192 → Fin n → EReal) (S : Fin 512 → Fin n → EReal) (R : Fin 8704) (Q : Fin 512)
    (h : (R : ℕ) = 8192 + Q) : pick P S R = S Q := by
  unfold pick
  rw [dif_neg (by omega)]
  exact congrArg S (Fin.ext (by simp only; omega))

theorem tile_lt (t : Fin 17) (r : Fin 512) : 512 * (t : ℕ) + r < 8704 := by omega

theorem row_congr {x x' : Fin 2048 → EReal} {a a' b b' : Fin 1024 → EReal} {w w' : Fin 2048 → Fin 2048 → EReal}
    {g g' : Fin 2048 → EReal} (d : Fin 2048) (h1 : x = x') (h2 : a = a') (h3 : b = b') (h4 : w = w') (h5 : g = g') :
    row x a b w g d = row x' a' b' w' g' d := by subst h1 h2 h3 h4 h5; rfl

end Cert.OutProj
end
-- ==== Proof.OutProj.TileL0.lean ====
module

public import proofs.«01_k».proof.Proof.Gen.Kernel3Ideal.Value
public import proofs.«01_k».proof.Proof.OutProj.Spec

/-!
What the body of the first layer's output projection computes for one tile of 512 rows, read at an index.
-/

@[expose] public section
set_option maxRecDepth 16384
noncomputable section
namespace Cert.OutProj.L0
open Idealize.ShloMosaic Idealize.ShloMosaic.TcCoe Idealize.SL.Sem
open Cert.Kernel3Ideal Cert.Kernel3Ideal.Gen

/-! ## The arithmetic -/

theorem pay1_at (a b : Vec Ideal S512x1024 .bf16) (u v : Vec Ideal S1024x2048 .f32) (x : Vec Ideal S512x2048 .f32)
    (g : Vec Ideal S1x2048 .f32) (w : Fin 2048 → Fin 2048 → EReal) (hu : ∀ (k : Fin 1024) d, u (ix2 k d) = w ⟨k, by omega⟩ d)
    (hv : ∀ (k : Fin 1024) d, v (ix2 k d) = w ⟨1024 + k, by omega⟩ d) (r : Fin 512) (d : Fin 2048) :
    k0_pay1 a u b v x g (ix2 r d)
      = row (fun k => x (ix2 r k)) (fun k => a (ix2 r k)) (fun k => b (ix2 r k)) w (fun k => g (ix2 0 k)) d := by
  unfold row Cmlp.rmsR prod
  simp only [← hu, ← hv]
  pointwise [k0_pay1]

theorem pay2_at (a b : Vec Ideal S512x1024 .bf16) (u v : Vec Ideal S1024x2048 .f32) (x : Vec Ideal S128x4x2048 .f32)
    (g : Vec Ideal S1x2048 .f32) (w : Fin 2048 → Fin 2048 → EReal) (hu : ∀ (k : Fin 1024) d, u (ix2 k d) = w ⟨k, by omega⟩ d)
    (hv : ∀ (k : Fin 1024) d, v (ix2 k d) = w ⟨1024 + k, by omega⟩ d) (r : Fin 512) (d : Fin 2048) :
    k0_pay2 a u b v x g (ix2 r d)
      = row (fun k => x (ix3 ⟨(r : ℕ) / 4, by omega⟩ ⟨(r : ℕ) % 4, by omega⟩ k)) (fun k => a (ix2 r k)) (fun k => b (ix2 r k)) w
          (fun k => g (ix2 0 k)) d := by
  unfold row Cmlp.rmsR prod
  simp only [← hu, ← hv]
  pointwise [k0_pay2]

theorem ld0 (x : Vec Ideal S2048x2048 .f32) (k : Fin 1024) (d : Fin 2048) :
    View.ld x (Rect.unit ![0, 0] S1024x2048.size inb_S2048x2048_S1024x2048_0_0) (ix2 k d) = x (ix2 ⟨k, by omega⟩ d) := by
  first
    | (pointwise []; done)
    | (blk_simp; blk_ext)
    | (refine congrArg x ?_; blk_ext)

theorem ld1 (x : Vec Ideal S2048x2048 .f32) (k : Fin 1024) (d : Fin 2048) :
    View.ld x (Rect.unit ![1024, 0] S1024x2048.size inb_S2048x2048_S1024x2048_1024_0) (ix2 k d)
      = x (ix2 ⟨1024 + k, by omega⟩ d) := by
  first
    | (pointwise []; done)
    | (blk_simp; blk_ext)
    | (refine congrArg x ?_; blk_ext)

/-! ## What the two cases store -/

theorem outA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S128x4x2048 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S512x2048 .f32) (harg8 : arg8.IsWhole) (hc0 : cond0_0 i) (hc1 : ¬cond0_1 i)
    (x0 : Vec Ideal S512x1024 .bf16) (x1 : Vec Ideal S512x1024 .bf16) (x2 : Vec Ideal S512x1024 .bf16) (x3 : Vec Ideal S512x2048 .f32) (x4 : Vec Ideal S128x4x2048 .f32) (x5 : Vec Ideal S2048x2048 .f32) (x6 : Vec Ideal S1x2048 .f32) (r : Fin 512) (d : Fin 2048) :
    out0_A_7 (F := Ideal) c i arg1 harg1 arg2 harg2 arg3 harg3 arg4 harg4 arg5 harg5 arg6 harg6 arg7 harg7 arg8 harg8 hc0 hc1 x0 x1 x2 x3 x4 x5 x6 (ix2 r d)
      = k0_pay1 x0 (View.ld x5 (Rect.unit ![0, 0] S1024x2048.size inb_S2048x2048_S1024x2048_0_0)) x1 (View.ld x5 (Rect.unit ![1024, 0] S1024x2048.size inb_S2048x2048_S1024x2048_1024_0)) x3 x6 (ix2 r d) := by
  frame_out

theorem outB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S128x4x2048 .f32) (harg5 : arg5.IsWhole) (arg6 : Memref sig .tc .vmem S2048x2048 .f32) (harg6 : arg6.IsWhole) (arg7 : Memref sig .tc .vmem S1x2048 .f32) (harg7 : arg7.IsWhole) (arg8 : Memref sig .tc .vmem S512x2048 .f32) (harg8 : arg8.IsWhole) (hc0 : ¬cond0_0 i) (hc1 : cond0_1 i)
    (x0 : Vec Ideal S512x1024 .bf16) (x1 : Vec Ideal S512x1024 .bf16) (x2 : Vec Ideal S512x1024 .bf16) (x3 : Vec Ideal S512x2048 .f32) (x4 : Vec Ideal S128x4x2048 .f32) (x5 : Vec Ideal S2048x2048 .f32) (x6 : Vec Ideal S1x2048 .f32) (r : Fin 512) (d : Fin 2048) :
    out0_B_7 (F := Ideal) c i arg1 harg1 arg2 harg2 arg3 harg3 arg4 harg4 arg5 harg5 arg6 harg6 arg7 harg7 arg8 harg8 hc0 hc1 x0 x1 x2 x3 x4 x5 x6 (ix2 r d)
      = k0_pay2 x0 (View.ld x5 (Rect.unit ![0, 0] S1024x2048.size inb_S2048x2048_S1024x2048_0_0)) x2 (View.ld x5 (Rect.unit ![1024, 0] S1024x2048.size inb_S2048x2048_S1024x2048_1024_0)) x4 x6 (ix2 r d) := by
  frame_out

end Cert.OutProj.L0
end
-- ==== Proof.OutProj.FinalL0.lean ====
module

public import proofs.«01_k».proof.Proof.OutProj.TileL0

/-!
The first layer's output projection: what its windows bring in, what each point leaves, and the result array.
-/

@[expose] public section
set_option maxRecDepth 16384
noncomputable section
namespace Cert.OutProj.L0
open Idealize.ShloMosaic Idealize.ShloMosaic.TcCoe Idealize.SL.Sem
open Cert.Kernel3Ideal Cert.Kernel3Ideal.Gen

variable (m : (ℓ : Loc nD τ sig) → Buf (Elt Ideal) ℓ) (c : Dev nD)

/-- The block numbers of the windows at a prompt tile. -/
theorem idxP : ∀ t : Fin cfg0.N, t.val < 16 → win0_1.index t = ![t.val, 0] ∧ win0_3.index t = ![t.val, 0] :=
  (by decide +kernel : ∀ t : Fin grid0.N, _)

theorem idx : ∀ t : Fin cfg0.N, win0_0.index t = ![t.val, 0] ∧ win0_2.index t = ![0, 0] ∧ win0_4.index t = ![0, 0, 0]
    ∧ win0_5.index t = ![0, 0] ∧ win0_6.index t = ![0, 0] ∧ win0_7.index t = ![t.val, 0] :=
  (by decide +kernel : ∀ t : Fin grid0.N, _)

theorem N17 (t : Fin cfg0.N) : t.val < 17 := lt_of_lt_of_eq t.isLt N_0

/-- The point as one of 17. -/
abbrev pt (t : Fin cfg0.N) : Fin 17 := ⟨t.val, N17 t⟩

/-! ## The arguments -/

abbrev aA (R : Fin 8704) (k : Fin 1024) : EReal := m ((c : Thread nD τ).loc main_arg0) (ix2 R k)
abbrev aP (R : Fin 8192) (k : Fin 1024) : EReal := m ((c : Thread nD τ).loc main_arg1) (ix2 R k)
abbrev aS (R : Fin 512) (k : Fin 1024) : EReal := m ((c : Thread nD τ).loc main_arg2) (ix2 R k)
abbrev aXP (R : Fin 8192) (k : Fin 2048) : EReal := m ((c : Thread nD τ).loc main_arg3) (ix3 0 R k)
abbrev aXS (R : Fin 512) (k : Fin 2048) : EReal :=
  m ((c : Thread nD τ).loc main_arg4) (ix3 ⟨(R : ℕ) / 4, by omega⟩ ⟨(R : ℕ) % 4, by omega⟩ k)
abbrev aW (k d : Fin 2048) : EReal := m ((c : Thread nD τ).loc main_arg5) (ix2 k d)
abbrev aG (k : Fin 2048) : EReal := m ((c : Thread nD τ).loc main_arg6) (ix1 k)

/-- Entry `(R, d)` of the result. -/
abbrev kY (R : Fin 8704) (d : Fin 2048) : EReal :=
  row (pick (aXP m c) (aXS m c) R) (aA m c R) (pick (aP m c) (aS m c) R) (aW m c) (aG m c) d

/-! ## The blocks -/

theorem V0 : V m c main_v0 = shapeCast (s := S1x8192x2048) S8192x2048 (m ((c : Thread nD τ).loc main_arg3)) := by
  unfold V
  simp only [List.flatten_cons, List.flatten_nil, List.append_nil, hostOps0, List.cons_append, List.nil_append]
  after_results
  rfl

theorem V1 : V m c main_v1 = shapeCast (s := S2048) S1x2048 (m ((c : Thread nD τ).loc main_arg6)) := by
  unfold V
  simp only [List.flatten_cons, List.flatten_nil, List.append_nil, hostOps0, List.cons_append, List.nil_append]
  after_results
  rfl

theorem blk0 (t : Fin cfg0.N) (r : Fin 512) (k : Fin 1024) :
    iblk m c 0 t (ix2 r k) = aA m c ⟨512 * pt t + r, tile_lt _ r⟩ k := by
  blk_ext [iblk, V, idx t]

theorem blk1 (t : Fin cfg0.N) (ht : t.val < 16) (r : Fin 512) (k : Fin 1024) :
    iblk m c 1 t (ix2 r k) = aP m c ⟨512 * pt t + r, by simp only; omega⟩ k := by
  blk_ext [iblk, V, idxP t ht]

theorem blk2 (t : Fin cfg0.N) (r : Fin 512) (k : Fin 1024) : iblk m c 2 t (ix2 r k) = aS m c r k := by
  blk_ext [iblk, V, idx t]

theorem blk3 (t : Fin cfg0.N) (ht : t.val < 16) (r : Fin 512) (k : Fin 2048) :
    iblk m c 3 t (ix2 r k) = aXP m c ⟨512 * pt t + r, by simp only; omega⟩ k := by
  refine Eq.trans (b := V m c main_v0 (ix2 ⟨512 * pt t + r, by simp only; omega⟩ k)) ?_ ?_
  · blk_ext [iblk, idxP t ht]
  · rw [V0]
    pointwise []

theorem blk4 (t : Fin cfg0.N) (s : Fin 128) (q : Fin 4) (k : Fin 2048) :
    iblk m c 4 t (ix3 s q k) = m ((c : Thread nD τ).loc main_arg4) (ix3 s q k) := by
  blk_ext [iblk, V, idx t]

theorem blk5 (t : Fin cfg0.N) (k d : Fin 2048) : iblk m c 5 t (ix2 k d) = aW m c k d := by
  blk_ext [iblk, V, idx t]

theorem blk6 (t : Fin cfg0.N) (k : Fin 2048) : iblk m c 6 t (ix2 0 k) = aG m c k := by
  refine Eq.trans (b := V m c main_v1 (ix2 0 k)) ?_ ?_
  · blk_ext [iblk, idx t]
  · rw [V1]
    pointwise []

/-! ## The points -/

/-- What point `t` leaves in its tile. -/
theorem point (t : Fin cfg0.N) (r : Fin 512) (d : Fin 2048) :
    outsAt0 m c t.val t.isLt (ix2 r d) = kY m c ⟨512 * pt t + r, tile_lt _ r⟩ d := by
  have hN := N17 t
  by_cases h0 : t.val < 16
  · rw [outsAt0_A m c t h0 (by omega), outA]
    refine (pay1_at _ _ _ _ _ _ (aW m c) (fun k d => (ld0 _ k d).trans (blk5 m c t _ d))
      (fun k d => (ld1 _ k d).trans (blk5 m c t _ d)) r d).trans (row_congr d ?_ ?_ ?_ rfl ?_)
    · rw [pick_prompt _ _ _ ⟨512 * pt t + r, by simp only; omega⟩ rfl]
      exact funext fun k => blk3 m c t h0 r k
    · exact funext fun k => blk0 m c t r k
    · rw [pick_prompt _ _ _ ⟨512 * pt t + r, by simp only; omega⟩ rfl]
      exact funext fun k => blk1 m c t h0 r k
    · exact funext fun k => blk6 m c t k
  · have e : t.val = 16 := by omega
    rw [outsAt0_B m c t h0 (by omega), outB]
    refine (pay2_at _ _ _ _ _ _ (aW m c) (fun k d => (ld0 _ k d).trans (blk5 m c t _ d))
      (fun k d => (ld1 _ k d).trans (blk5 m c t _ d)) r d).trans (row_congr d ?_ ?_ ?_ rfl ?_)
    · rw [pick_sample _ _ _ r (by simp only; omega)]
      exact funext fun k => blk4 m c t _ _ k
    · exact funext fun k => blk0 m c t r k
    · rw [pick_sample _ _ _ r (by simp only; omega)]
      exact funext fun k => blk2 m c t r k
    · exact funext fun k => blk6 m c t k

/-! ## The array -/

theorem flush7 : ∀ t : Fin cfg0.N, (cfg0.win 7).flush t = true := (by decide +kernel : ∀ t : Fin grid0.N, win0_7.flush t = true)

theorem array_at (R : Fin 8704) (d : Fin 2048) : (dats m 0 c).arrAt 7 cfg0.N (ix2 R d) = kY m c R d := by
  have hN : cfg0.N = 17 := N_0
  have ht : (R : ℕ) / 512 < cfg0.N := by omega
  have h := congrFun (Value.blocks7 m c ⟨(R : ℕ) / 512, ht⟩ (flush7 _)) (ix2 ⟨(R : ℕ) % 512, by omega⟩ d)
  rw [Value.flushed7] at h
  refine Eq.trans ?_ (h.trans (Eq.trans ?_ ((point m c ⟨(R : ℕ) / 512, ht⟩ ⟨(R : ℕ) % 512, by omega⟩ d).trans
    (congrArg (fun R => kY m c R d) (Fin.ext (by simp only; omega))))))
  · blk_ext [idx ⟨(R : ℕ) / 512, ht⟩]
  · rfl

end Cert.OutProj.L0
end
-- ==== Proof.OutProj.RefL0.lean ====
module

public import proofs.«01_k».proof.Proof.OutProj.Spec
public import proofs.«01_k».proof.Proof.Gen.Reference3Ideal.Read

/-!
The first layer's output projection in the reference, entry by entry.
-/

@[expose] public section
set_option maxRecDepth 16384
noncomputable section
namespace Cert.OutProj.RefL0
open Idealize.ShloMosaic Idealize.ShloMosaic.TcCoe Idealize.SL.Sem
open Cert.Reference3Ideal Cert.Reference3Ideal.Read

variable (x0 : (⟨S8704x1024, .bf16⟩ : BufTy).Contents (Elt Ideal)) (x1 : (⟨S8192x1024, .bf16⟩ : BufTy).Contents (Elt Ideal))
  (x2 : (⟨S512x1024, .bf16⟩ : BufTy).Contents (Elt Ideal)) (x3 : (⟨S1x8192x2048, .f32⟩ : BufTy).Contents (Elt Ideal))
  (x4 : (⟨S128x4x2048, .f32⟩ : BufTy).Contents (Elt Ideal)) (x5 : (⟨S2048x2048, .f32⟩ : BufTy).Contents (Elt Ideal))
  (x6 : (⟨S2048, .f32⟩ : BufTy).Contents (Elt Ideal))

abbrev fA (R : Fin 8704) (k : Fin 1024) : EReal := x0 (ix2 R k)
abbrev fP (R : Fin 8192) (k : Fin 1024) : EReal := x1 (ix2 R k)
abbrev fS (R : Fin 512) (k : Fin 1024) : EReal := x2 (ix2 R k)
abbrev fXP (R : Fin 8192) (k : Fin 2048) : EReal := x3 (ix3 0 R k)
abbrev fXS (R : Fin 512) (k : Fin 2048) : EReal := x4 (ix3 ⟨(R : ℕ) / 4, by omega⟩ ⟨(R : ℕ) % 4, by omega⟩ k)
abbrev fW (k d : Fin 2048) : EReal := x5 (ix2 k d)
abbrev fG (k : Fin 2048) : EReal := x6 (ix1 k)

/-! ## The prompt rows -/

theorem v5_lo (R : Fin 8192) (k : Fin 1024) :
    val_main_v5 (F := Ideal) x0 x1 (ix3 0 R ⟨k, by omega⟩) = fA x0 ⟨R, by omega⟩ k := by
  pointwise [val_main_v0, val_main_v1, val_main_v2, val_main_v3, val_main_v4, val_main_v5]

theorem v5_hi (R : Fin 8192) (k : Fin 1024) :
    val_main_v5 (F := Ideal) x0 x1 (ix3 0 R ⟨1024 + k, by omega⟩) = fP x1 R k := by
  pointwise [val_main_v0, val_main_v1, val_main_v2, val_main_v3, val_main_v4, val_main_v5]

theorem v6_at (R : Fin 8192) (d : Fin 2048) :
    val_main_v6 (F := Ideal) x0 x1 x5 (ix3 0 R d) = prod (fA x0 ⟨R, by omega⟩) (fP x1 R) (fW x5) d := by
  refine Eq.trans ?_ (prod_whole (fun k => val_main_v5 (F := Ideal) x0 x1 (ix3 0 R k)) _ _ (fW x5) d
    (fun k => v5_lo x0 x1 R k) (fun k => v5_hi x0 x1 R k))
  pointwise [val_main_v6]

theorem v20_at (R : Fin 8192) (d : Fin 2048) : val_main_v20 (F := Ideal) x0 x1 x3 x5 x6 (ix3 0 R d)
    = row (fXP x3 R) (fA x0 ⟨R, by omega⟩) (fP x1 R) (fW x5) (fG x6) d := by
  unfold row Cmlp.rmsR
  pointwise [val_main_v7, val_main_v8, val_main_v9, val_main_v10, val_main_v11, val_main_v12, val_main_v13, val_main_v14, val_main_v15, val_main_v16, val_main_v17, val_main_v18, val_main_v19, val_main_v20, val_main_cst, val_main_cst_0, val_main_cst_1, v6_at]

/-! ## The sample rows -/

theorem v26_lo (s : Fin 128) (q : Fin 4) (k : Fin 1024) :
    val_main_v26 (F := Ideal) x0 x2 (ix3 s q ⟨k, by omega⟩) = fA x0 ⟨8192 + (s * 4 + q), by omega⟩ k := by
  pointwise [val_main_v21, val_main_v22, val_main_v23, val_main_v24, val_main_v25, val_main_v26]

theorem v26_hi (s : Fin 128) (q : Fin 4) (k : Fin 1024) :
    val_main_v26 (F := Ideal) x0 x2 (ix3 s q ⟨1024 + k, by omega⟩) = fS x2 ⟨s * 4 + q, by omega⟩ k := by
  pointwise [val_main_v21, val_main_v22, val_main_v23, val_main_v24, val_main_v25, val_main_v26]

theorem v27_at (s : Fin 128) (q : Fin 4) (d : Fin 2048) : val_main_v27 (F := Ideal) x0 x2 x5 (ix3 s q d)
    = prod (fA x0 ⟨8192 + (s * 4 + q), by omega⟩) (fS x2 ⟨s * 4 + q, by omega⟩) (fW x5) d := by
  refine Eq.trans ?_ (prod_whole (fun k => val_main_v26 (F := Ideal) x0 x2 (ix3 s q k)) _ _ (fW x5) d
    (fun k => v26_lo x0 x2 s q k) (fun k => v26_hi x0 x2 s q k))
  pointwise [val_main_v27]

theorem v41_at (s : Fin 128) (q : Fin 4) (d : Fin 2048) : val_main_v41 (F := Ideal) x0 x2 x4 x5 x6 (ix3 s q d)
    = row (fun k => x4 (ix3 s q k)) (fA x0 ⟨8192 + (s * 4 + q), by omega⟩) (fS x2 ⟨s * 4 + q, by omega⟩) (fW x5) (fG x6) d := by
  unfold row Cmlp.rmsR
  pointwise [val_main_v28, val_main_v29, val_main_v30, val_main_v31, val_main_v32, val_main_v33, val_main_v34, val_main_v35, val_main_v36, val_main_v37, val_main_v38, val_main_v39, val_main_v40, val_main_v41, val_main_cst_2, val_main_cst_3, val_main_cst_4, v27_at]

/-! ## The result -/

theorem v44_prompt (R : Fin 8704) (h : (R : ℕ) < 8192) (d : Fin 2048) :
    val_main_v44 (F := Ideal) x0 x1 x2 x3 x4 x5 x6 (ix2 R d) = val_main_v20 (F := Ideal) x0 x1 x3 x5 x6 (ix3 0 ⟨R, h⟩ d) := by
  pointwise [val_main_v42, val_main_v43, val_main_v44]
  first
    | done
    | (rw [dif_pos h])
    | (rw [if_pos h])

theorem v44_sample (R : Fin 8704) (h : ¬(R : ℕ) < 8192) (d : Fin 2048) :
    val_main_v44 (F := Ideal) x0 x1 x2 x3 x4 x5 x6 (ix2 R d)
      = val_main_v41 (F := Ideal) x0 x2 x4 x5 x6 (ix3 ⟨((R : ℕ) - 8192) / 4, by omega⟩ ⟨((R : ℕ) - 8192) % 4, by omega⟩ d) := by
  pointwise [val_main_v42, val_main_v43, val_main_v44]
  first
    | done
    | (rw [dif_neg h])
    | (rw [if_neg h])

theorem v44_at (R : Fin 8704) (d : Fin 2048) : val_main_v44 (F := Ideal) x0 x1 x2 x3 x4 x5 x6 (ix2 R d)
    = row (pick (fXP x3) (fXS x4) R) (fA x0 R) (pick (fP x1) (fS x2) R) (fW x5) (fG x6) d := by
  by_cases h : (R : ℕ) < 8192
  · rw [v44_prompt _ _ _ _ _ _ _ R h, v20_at, pick_prompt _ _ R ⟨R, h⟩ rfl, pick_prompt _ _ R ⟨R, h⟩ rfl]
  · rw [v44_sample _ _ _ _ _ _ _ R h, v41_at, pick_sample _ _ R ⟨R - 8192, by omega⟩ (by simp only; omega),
      pick_sample _ _ R ⟨R - 8192, by omega⟩ (by simp only; omega)]
    refine row_congr d rfl (congrArg (fA x0) (Fin.ext ?_)) (congrArg (fS x2) (Fin.ext ?_)) rfl rfl <;> (simp only; omega)

end Cert.OutProj.RefL0
end
-- ==== Proof.OutProj.MatchL0.lean ====
module

public import proofs.«01_k».proof.Proof.OutProj.FinalL0
public import proofs.«01_k».proof.Proof.OutProj.RefL0

/-!
The first layer's output projection: the kernel's result array against the reference's.
-/

@[expose] public section
set_option maxRecDepth 16384
noncomputable section
namespace Cert.OutProj.L0
open Idealize.ShloMosaic Idealize.ShloMosaic.TcCoe Idealize.SL.Sem

variable (m : (ℓ : Loc Kernel3Ideal.nD Kernel3Ideal.τ Kernel3Ideal.sig) → Buf (Elt Ideal) ℓ) (c : Dev Kernel3Ideal.nD)

theorem res : Reference3Ideal.Read.val_main_v44 (F := Ideal) (m (c.tc.loc Kernel3Ideal.main_arg0)) (m (c.tc.loc Kernel3Ideal.main_arg1))
      (m (c.tc.loc Kernel3Ideal.main_arg2)) (m (c.tc.loc Kernel3Ideal.main_arg3)) (m (c.tc.loc Kernel3Ideal.main_arg4))
      (m (c.tc.loc Kernel3Ideal.main_arg5)) (m (c.tc.loc Kernel3Ideal.main_arg6))
    = (Kernel3Ideal.Gen.dats m 0 c).arrAt 7 Kernel3Ideal.cfg0.N := by
  refine funext fun (i : Kernel3Ideal.S8704x2048.Idx) => ?_
  idx_vars i
  exact (RefL0.v44_at _ _ _ _ _ _ _ _ _).trans (array_at m c _ _).symm

end Cert.OutProj.L0
end
-- ==== Proof.OutProj.BodyL1.lean ====
module

public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Skeleton
public import Idealize.ShloMosaic.Lib.Claim

/-!
The body of the second layer's output projection (over the extended reals): its two cases, what each leaves in the result tiles, the
proof data and the run. The prompt's result tile is written at points 0 to 15 and still standing, unwritten, at
point 16, where it is sent back; the sample's result is written at point 16 alone.
-/

@[expose] public section
set_option maxRecDepth 16384
noncomputable section
namespace Cert.Kernel2Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N17 (t : Fin cfg0.N) : t.val < 17 := lt_of_lt_of_eq t.isLt N_0

/-- The last point. -/
abbrev last : Fin cfg0.N := ⟨16, lt_of_lt_of_eq (by decide) N_0.symm⟩

theorem eq_last (t : Fin cfg0.N) (h : ¬t.val < 16) : t = last := Fin.ext (by have := N17 t; simp only; omega)

theorem prompt_yes : ∀ t : Fin cfg0.N, t.val < 16 → k0_cond1 (grid0.coords t) = 1#1 :=
  (by decide +kernel : ∀ t : Fin grid0.N, _)
theorem prompt_no : ∀ t : Fin cfg0.N, t.val < 16 → ¬k0_cond2 (grid0.coords t) = 1#1 :=
  (by decide +kernel : ∀ t : Fin grid0.N, _)
theorem sample_no : ¬k0_cond1 (grid0.coords last) = 1#1 := by decide +kernel
theorem sample_yes : k0_cond2 (grid0.coords last) = 1#1 := by decide +kernel

theorem live6 : ∀ t : Fin cfg0.N, t.val < 16 → cfg0.idle 6 (grid0.coords t) = false :=
  (by decide +kernel : ∀ t : Fin grid0.N, t.val < 16 → idle0 6 (grid0.coords t) = false)
theorem idle6 : cfg0.idle 6 (grid0.coords last) = true := by decide +kernel
theorem sent6 : (cfg0.win 6).flush last = true := by decide +kernel
theorem held6 : ∀ t : Fin cfg0.N, t.val = 15 → (cfg0.win 6).flush t = false :=
  (by decide +kernel : ∀ t : Fin grid0.N, t.val = 15 → win0_6.flush t = false)
theorem idle7 : ∀ t : Fin cfg0.N, t.val < 16 → cfg0.idle 7 (grid0.coords t) = true :=
  (by decide +kernel : ∀ t : Fin grid0.N, t.val < 16 → idle0 7 (grid0.coords t) = true)
theorem live7 : cfg0.idle 7 (grid0.coords last) = false := by decide +kernel
theorem held7 (t : Fin cfg0.N) (h : t.val < 16) : (cfg0.win 7).flush t = false :=
  Bool.eq_false_iff.mpr fun e => by have := (flush0_7 t).mp e; omega

/-! ## The two cases -/

/-- Staging buffers of the two results, through which their contents are stated. -/
abbrev V6 : View sig .tc .vmem S512x2048 .f32 := (Memref.whole cc0_stg6_0 : Memref sig .tc .vmem S512x2048 .f32).view
abbrev V7 : View sig .tc .vmem S128x4x2048 .f32 := (Memref.whole cc0_stg7_0 : Memref sig .tc .vmem S128x4x2048 .f32).view

set_option maxHeartbeats 1000000 in
/-- A prompt point: what is stored into the prompt's tile, with the run that stores it; the sample's tile is untouched. -/
def runA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : k0_cond1 i = 1#1) (hc1 : ¬k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) :
    { L : List (View.Piece (Elt F) S512x2048 .f32) //
      ∀ (d7 : Vec F S128x4x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare d7
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L) ∗ owns (c : Thread nD τ) arg8 fullShare d7) -∗ K ⟨⟩))
          ⊢ wp frame (wpE (defs₀ (F := F)) Variants.none c none) E (cc0_out_proj i arg1 harg1 arg2 harg2 arg3 harg3 arg4 harg4 arg5 harg5 arg6 harg6 arg7 harg7 arg8 harg8) K } := by
  refine ⟨?_, fun d7 E K => ?run⟩
  case run =>
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    iexists _; isplitr; · ipureintro; exact harg8.read_unread _
    iexact H7

set_option maxHeartbeats 1000000 in
/-- The last point: what is stored into the sample's result; the prompt's tile is untouched. -/
def runB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : ¬k0_cond1 i = 1#1) (hc1 : k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) :
    { L : List (View.Piece (Elt F) S128x4x2048 .f32) //
      ∀ (d6 : Vec F S512x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare d6 ∗ (∃ f, arg8.view.loc (c : Thread nD τ) ↦[arg8.view.set]{fullShare} arg8.view.writes (Elt F) f L)) -∗ K ⟨⟩))
          ⊢ wp frame (wpE (defs₀ (F := F)) Variants.none c none) E (cc0_out_proj i arg1 harg1 arg2 harg2 arg3 harg3 arg4 harg4 arg5 harg5 arg6 harg6 arg7 harg7 arg8 harg8) K } := by
  refine ⟨?_, fun d6 E K => ?run⟩
  case run =>
    simp only [cc0_out_proj_eq_skeleton]; unfold cc0_out_proj_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    iexists _; iexact H7

/-- The one store of each case covers its tile. -/
theorem coverA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : k0_cond1 i = 1#1) (hc1 : ¬k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) (y : S512x2048.Idx) :
    ∃ pc ∈ (runA c i arg1 harg1 arg2 harg2 arg3 harg3 arg4 harg4 arg5 harg5 arg6 harg6 arg7 harg7 arg8 harg8 hc0 hc1 x0 x1 x2 x3 x4 x5).1, y ∈ pc.1.set :=
  View.cover_of_tiledL (runA c i arg1 harg1 arg2 harg2 arg3 harg3 arg4 harg4 arg5 harg5 arg6 harg6 arg7 harg7 arg8 harg8 hc0 hc1 x0 x1 x2 x3 x4 x5).1 S512x2048.size (by sl_kernel_rfl) y

theorem coverB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : ¬k0_cond1 i = 1#1) (hc1 : k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) (y : S128x4x2048.Idx) :
    ∃ pc ∈ (runB c i arg1 harg1 arg2 harg2 arg3 harg3 arg4 harg4 arg5 harg5 arg6 harg6 arg7 harg7 arg8 harg8 hc0 hc1 x0 x1 x2 x3 x4 x5).1, y ∈ pc.1.set :=
  View.cover_of_tiledL (runB c i arg1 harg1 arg2 harg2 arg3 harg3 arg4 harg4 arg5 harg5 arg6 harg6 arg7 harg7 arg8 harg8 hc0 hc1 x0 x1 x2 x3 x4 x5).1 S128x4x2048.size (by sl_kernel_rfl) y

/-- What a prompt point leaves in the prompt's tile, -/
def outA (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : k0_cond1 i = 1#1) (hc1 : ¬k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) : Vec F S512x2048 .f32 :=
  V6.read (Elt F) (V6.writes (Elt F) V6.junk (runA c i arg1 harg1 arg2 harg2 arg3 harg3 arg4 harg4 arg5 harg5 arg6 harg6 arg7 harg7 arg8 harg8 hc0 hc1 x0 x1 x2 x3 x4 x5).1)

/-- and the last point in the sample's result. -/
def outB (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : ¬k0_cond1 i = 1#1) (hc1 : k0_cond2 i = 1#1)
    (x0 : Vec F S512x1024 .bf16) (x1 : Vec F S512x1024 .bf16) (x2 : Vec F S512x1024 .bf16) (x3 : Vec F S512x2048 .f32) (x4 : Vec F S2048x2048 .f32) (x5 : Vec F S1x2048 .f32) : Vec F S128x4x2048 .f32 :=
  V7.read (Elt F) (V7.writes (Elt F) V7.junk (runB c i arg1 harg1 arg2 harg2 arg3 harg3 arg4 harg4 arg5 harg5 arg6 harg6 arg7 harg7 arg8 harg8 hc0 hc1 x0 x1 x2 x3 x4 x5).1)

/-! ## Point by point -/

/-- The prompt's tile after prompt point `t`. -/
def tileA (c : Dev nD) (t : Fin cfg0.N) (h : t.val < 16) : Vec F S512x2048 .f32 :=
  outA c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (prompt_yes t h) (prompt_no t h) (iblk m c 0 t) (iblk m c 1 t) (iblk m c 2 t) (iblk m c 3 t) (iblk m c 4 t) (iblk m c 5 t)

/-- The sample's result after the last point. -/
def tileB (c : Dev nD) : Vec F S128x4x2048 .f32 :=
  outB c (grid0.coords last) (st0_0 last) (hstage0_0 ((cfg0.slots last 0).cast nbuf0_0)) (st0_1 last) (hstage0_1 ((cfg0.slots last 1).cast nbuf0_1)) (st0_2 last) (hstage0_2 ((cfg0.slots last 2).cast nbuf0_2)) (st0_3 last) (hstage0_3 ((cfg0.slots last 3).cast nbuf0_3)) (st0_4 last) (hstage0_4 ((cfg0.slots last 4).cast nbuf0_4)) (st0_5 last) (hstage0_5 ((cfg0.slots last 5).cast nbuf0_5)) (st0_6 last) (hstage0_6 ((cfg0.slots last 6).cast nbuf0_6)) (st0_7 last) (hstage0_7 ((cfg0.slots last 7).cast nbuf0_7)) sample_no sample_yes (iblk m c 0 last) (iblk m c 1 last) (iblk m c 2 last) (iblk m c 3 last) (iblk m c 4 last) (iblk m c 5 last)

/-- The prompt's tile after any point: at the last one as the point before left it. -/
def tile6 (c : Dev nD) (t : Fin cfg0.N) : Vec F S512x2048 .f32 :=
  if h : t.val < 16 then tileA m c t h else tileA m c ⟨15, lt_of_lt_of_eq (by decide) N_0.symm⟩ (by decide)

/-- The proof data: inputs stay at their blocks, the prompt's tile is `tile6`, the sample's `tileB`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile6 m c t
    | ⟨7, _⟩ => tileB m c
  Φ _ := Pipeline.ΦA spec0 c
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = tile6 m c t := by dsimp only [dats]
theorem after7 (c : Dev nD) (t : Fin cfg0.N) : (dats m 0 c).after 7 t = tileB m c := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the last point the prompt's buffer still holds what the point before left. -/
theorem before6 (c : Dev nD) (d) : (dats m 0 c).before 6 last d = tile6 m c last := by
  rw [Dat.before_of_pos _ 6 last (by decide) ((cfg0.win 6).fetch_out rfl last), held6 _ rfl, if_neg Bool.false_ne_true]
  unfold Dat.left
  rw [live6 _ (by decide)]
  dsimp only
  unfold Dat.kept
  rw [Pipeline.fill_of_clip_none 6 _ (fun _ => rfl) d ((dats m 0 c).after 6 _), Window.fill_cut, after6]
  rfl

/-! ## The obligation -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

theorem leaves0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (st0_3 t) fullShare (iblk m c 3 t) := by
  unfold Dat.leavesExact; rw [show cfg0.idle 3 (grid0.coords t) = false from rfl, after3]
theorem leaves4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after5]
theorem leaves6 (c : Dev nD) (t : Fin cfg0.N) (h : t.val < 16) :
    (dats m 0 c).leavesExact 6 t = owns (c : Thread nD τ) (st0_6 t) fullShare (tileA m c t h) := by
  unfold Dat.leavesExact; rw [live6 t h, after6, tile6, dif_pos h]
theorem leaves6_last (c : Dev nD) :
    (dats m 0 c).leavesExact 6 last = owns (c : Thread nD τ) (st0_6 last) fullShare (tile6 m c last) := by
  unfold Dat.leavesExact; rw [idle6, sent6, after6]
theorem leaves7_last (c : Dev nD) :
    (dats m 0 c).leavesExact 7 last = owns (c : Thread nD τ) (st0_7 last) fullShare (tileB m c) := by
  unfold Dat.leavesExact; rw [live7, after7]

set_option maxHeartbeats 1600000 in
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, leaves0, leaves1, leaves2, leaves3, leaves4, leaves5]
  rw [show (dats m 0 c).Φ t.succ = (dats m 0 c).Φ t.castSucc from rfl,
    show (dats m 0 c).owesAt () t.succ = (dats m 0 c).owesAt () t.castSucc from rfl]
  by_cases h : t.val < 16
  · rw [leaves6 m c t h, (dats m 0 c).leavesExact_idle 7 t (idle7 t h) (held7 t h)]
    unfold tileA outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runA c (grid0.coords t) _ _ _ _ _ _ _ _ _ _ _ _ _ _ _ _ (prompt_yes t h) (prompt_no t h) (iblk m c 0 t) (iblk m c 1 t) (iblk m c 2 t) (iblk m c 3 t) (iblk m c 4 t) (iblk m c 5 t)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverA c _ _ _ _ _ _ _ _ _ _ _ _ _ _ _ _ _ _ _ _ _ _ _ _ _)
    iexists _; iexact H7
  · obtain rfl := eq_last t h
    rw [leaves6_last, leaves7_last]
    simp only [before6]
    unfold tileB outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runB c (grid0.coords last) _ _ _ _ _ _ _ _ _ _ _ _ _ _ _ _ sample_no sample_yes (iblk m c 0 last) (iblk m c 1 last) (iblk m c 2 last) (iblk m c 3 last) (iblk m c 4 last) (iblk m c 5 last)).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (coverB c _ _ _ _ _ _ _ _ _ _ _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

set_option backward.isDefEq.respectTransparency.types false in
theorem run_quiet : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run : θ_run defs (onTc (τ := τ) (main (F := F))) (s₀ m ρ) (Pipeline.FramePost cfgs (dats m) 0 (V m)) :=
  (θ_run defs _ _).mono (fun _ h => h.1) (run_quiet m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Kernel2Ideal.Body
end
-- ==== Proof.OutProj.TileL1.lean ====
module

public import proofs.«01_k».proof.Proof.OutProj.BodyL1
public import proofs.«01_k».proof.Proof.OutProj.Spec
public import Idealize.ShloMosaic.Lib.Pipeline.Value

/-!
What the body of the second layer's output projection computes for one tile of 512 rows, read at an index.
-/

@[expose] public section
set_option maxRecDepth 16384
noncomputable section
namespace Cert.OutProj.L1
open Idealize.ShloMosaic Idealize.ShloMosaic.TcCoe Idealize.SL.Sem
open Cert.Kernel2Ideal Cert.Kernel2Ideal.Gen Cert.Kernel2Ideal.Body

/-! ## The arithmetic -/

theorem pay1_at (a b : Vec Ideal S512x1024 .bf16) (u v : Vec Ideal S1024x2048 .f32) (x : Vec Ideal S512x2048 .f32)
    (g : Vec Ideal S1x2048 .f32) (w : Fin 2048 → Fin 2048 → EReal) (hu : ∀ (k : Fin 1024) d, u (ix2 k d) = w ⟨k, by omega⟩ d)
    (hv : ∀ (k : Fin 1024) d, v (ix2 k d) = w ⟨1024 + k, by omega⟩ d) (r : Fin 512) (d : Fin 2048) :
    k0_pay1 a u b v x g (ix2 r d)
      = row (fun k => x (ix2 r k)) (fun k => a (ix2 r k)) (fun k => b (ix2 r k)) w (fun k => g (ix2 0 k)) d := by
  unfold row Cmlp.rmsR prod
  simp only [← hu, ← hv]
  pointwise [k0_pay1]

/-- The last tile's result is the same rows, in groups of four. -/
theorem pay2_at (a b : Vec Ideal S512x1024 .bf16) (u v : Vec Ideal S1024x2048 .f32) (x : Vec Ideal S512x2048 .f32)
    (g : Vec Ideal S1x2048 .f32) (s : Fin 128) (q : Fin 4) (d : Fin 2048) :
    k0_pay2 a u b v x g (ix3 s q d) = k0_pay1 a u b v x g (ix2 ⟨s * 4 + q, by omega⟩ d) := by
  show shapeCast S128x4x2048 (k0_pay1 a u b v x g) shapeCasts_S512x2048_S128x4x2048 (ix3 s q d) = _
  generalize k0_pay1 a u b v x g = z
  pointwise []

theorem ld0 (x : Vec Ideal S2048x2048 .f32) (k : Fin 1024) (d : Fin 2048) :
    View.ld x (Rect.unit ![0, 0] S1024x2048.size inb_S2048x2048_S1024x2048_0_0) (ix2 k d) = x (ix2 ⟨k, by omega⟩ d) := by
  first
    | (pointwise []; done)
    | (blk_simp; blk_ext)
    | (refine congrArg x ?_; blk_ext)

theorem ld1 (x : Vec Ideal S2048x2048 .f32) (k : Fin 1024) (d : Fin 2048) :
    View.ld x (Rect.unit ![1024, 0] S1024x2048.size inb_S2048x2048_S1024x2048_1024_0) (ix2 k d)
      = x (ix2 ⟨1024 + k, by omega⟩ d) := by
  first
    | (pointwise []; done)
    | (blk_simp; blk_ext)
    | (refine congrArg x ?_; blk_ext)

/-! ## What the two cases store -/

theorem outA_at (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : k0_cond1 i = 1#1) (hc1 : ¬k0_cond2 i = 1#1)
    (x0 : Vec Ideal S512x1024 .bf16) (x1 : Vec Ideal S512x1024 .bf16) (x2 : Vec Ideal S512x1024 .bf16) (x3 : Vec Ideal S512x2048 .f32) (x4 : Vec Ideal S2048x2048 .f32) (x5 : Vec Ideal S1x2048 .f32) (r : Fin 512) (d : Fin 2048) :
    outA (F := Ideal) c i arg1 harg1 arg2 harg2 arg3 harg3 arg4 harg4 arg5 harg5 arg6 harg6 arg7 harg7 arg8 harg8 hc0 hc1 x0 x1 x2 x3 x4 x5 (ix2 r d)
      = k0_pay1 x0 (View.ld x4 (Rect.unit ![0, 0] S1024x2048.size inb_S2048x2048_S1024x2048_0_0)) x1 (View.ld x4 (Rect.unit ![1024, 0] S1024x2048.size inb_S2048x2048_S1024x2048_1024_0)) x3 x5 (ix2 r d) := by
  frame_out

theorem outB_at (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x2048 .f32) (harg4 : arg4.IsWhole) (arg5 : Memref sig .tc .vmem S2048x2048 .f32) (harg5 : arg5.IsWhole) (arg6 : Memref sig .tc .vmem S1x2048 .f32) (harg6 : arg6.IsWhole) (arg7 : Memref sig .tc .vmem S512x2048 .f32) (harg7 : arg7.IsWhole) (arg8 : Memref sig .tc .vmem S128x4x2048 .f32) (harg8 : arg8.IsWhole) (hc0 : ¬k0_cond1 i = 1#1) (hc1 : k0_cond2 i = 1#1)
    (x0 : Vec Ideal S512x1024 .bf16) (x1 : Vec Ideal S512x1024 .bf16) (x2 : Vec Ideal S512x1024 .bf16) (x3 : Vec Ideal S512x2048 .f32) (x4 : Vec Ideal S2048x2048 .f32) (x5 : Vec Ideal S1x2048 .f32) (s : Fin 128) (q : Fin 4) (d : Fin 2048) :
    outB (F := Ideal) c i arg1 harg1 arg2 harg2 arg3 harg3 arg4 harg4 arg5 harg5 arg6 harg6 arg7 harg7 arg8 harg8 hc0 hc1 x0 x1 x2 x3 x4 x5 (ix3 s q d)
      = k0_pay2 x0 (View.ld x4 (Rect.unit ![0, 0] S1024x2048.size inb_S2048x2048_S1024x2048_0_0)) x2 (View.ld x4 (Rect.unit ![1024, 0] S1024x2048.size inb_S2048x2048_S1024x2048_1024_0)) x3 x5 (ix3 s q d) := by
  frame_out

end Cert.OutProj.L1
end
-- ==== Proof.OutProj.FinalL1.lean ====
module

public import proofs.«01_k».proof.Proof.OutProj.TileL1

/-!
The second layer's output projection: what its windows bring in, what each point leaves, and the two result arrays.
-/

@[expose] public section
set_option maxRecDepth 16384
noncomputable section
namespace Cert.OutProj.L1
open Idealize.ShloMosaic Idealize.ShloMosaic.TcCoe Idealize.SL.Sem
open Cert.Kernel2Ideal Cert.Kernel2Ideal.Gen Cert.Kernel2Ideal.Body

variable (m : (ℓ : Loc nD τ sig) → Buf (Elt Ideal) ℓ) (c : Dev nD)

/-- The block numbers of the windows. -/
theorem idx : ∀ t : Fin cfg0.N, win0_0.index t = ![t.val, 0] ∧ win0_2.index t = ![0, 0] ∧ win0_3.index t = ![t.val, 0]
    ∧ win0_4.index t = ![0, 0] ∧ win0_5.index t = ![0, 0] ∧ win0_7.index t = ![0, 0, 0] :=
  (by decide +kernel : ∀ t : Fin grid0.N, _)

theorem idxP : ∀ t : Fin cfg0.N, t.val < 16 → win0_1.index t = ![t.val, 0] ∧ win0_6.index t = ![t.val, 0] :=
  (by decide +kernel : ∀ t : Fin grid0.N, _)

theorem idxL : win0_6.index last = ![15, 0] := by decide +kernel

/-- The point as one of 17. -/
abbrev pt (t : Fin cfg0.N) : Fin 17 := ⟨t.val, N17 t⟩

/-! ## The arguments -/

abbrev aA (R : Fin 8704) (k : Fin 1024) : EReal := m ((c : Thread nD τ).loc main_arg0) (ix2 R k)
abbrev aP (R : Fin 8192) (k : Fin 1024) : EReal := m ((c : Thread nD τ).loc main_arg1) (ix2 R k)
abbrev aS (R : Fin 512) (k : Fin 1024) : EReal := m ((c : Thread nD τ).loc main_arg2) (ix2 R k)
abbrev aX (R : Fin 8704) (k : Fin 2048) : EReal := m ((c : Thread nD τ).loc main_arg3) (ix2 R k)
abbrev aW (k d : Fin 2048) : EReal := m ((c : Thread nD τ).loc main_arg4) (ix2 k d)
abbrev aG (k : Fin 2048) : EReal := m ((c : Thread nD τ).loc main_arg5) (ix1 k)

/-- Entry `(R, d)` of the prompt's result, -/
abbrev kP (R : Fin 8192) (d : Fin 2048) : EReal :=
  row (aX m c ⟨R, by omega⟩) (aA m c ⟨R, by omega⟩) (aP m c R) (aW m c) (aG m c) d

/-- and entry `(R, d)` of the sample's, its rows counted through. -/
abbrev kS (R : Fin 512) (d : Fin 2048) : EReal :=
  row (aX m c ⟨8192 + R, by omega⟩) (aA m c ⟨8192 + R, by omega⟩) (aS m c R) (aW m c) (aG m c) d

/-! ## The blocks -/

theorem V0 : V m c main_v0 = shapeCast (s := S2048) S1x2048 (m ((c : Thread nD τ).loc main_arg5)) := by
  unfold V
  simp only [List.flatten_cons, List.flatten_nil, List.append_nil, hostOps0, List.cons_append, List.nil_append]
  after_results
  rfl

theorem blk0 (t : Fin cfg0.N) (r : Fin 512) (k : Fin 1024) :
    iblk m c 0 t (ix2 r k) = aA m c ⟨512 * pt t + r, tile_lt _ r⟩ k := by
  blk_ext [iblk, V, idx t]

theorem blk1 (t : Fin cfg0.N) (ht : t.val < 16) (r : Fin 512) (k : Fin 1024) :
    iblk m c 1 t (ix2 r k) = aP m c ⟨512 * pt t + r, by simp only; omega⟩ k := by
  blk_ext [iblk, V, idxP t ht]

theorem blk2 (t : Fin cfg0.N) (r : Fin 512) (k : Fin 1024) : iblk m c 2 t (ix2 r k) = aS m c r k := by
  blk_ext [iblk, V, idx t]

theorem blk3 (t : Fin cfg0.N) (r : Fin 512) (k : Fin 2048) :
    iblk m c 3 t (ix2 r k) = aX m c ⟨512 * pt t + r, tile_lt _ r⟩ k := by
  blk_ext [iblk, V, idx t]

theorem blk4 (t : Fin cfg0.N) (k d : Fin 2048) : iblk m c 4 t (ix2 k d) = aW m c k d := by
  blk_ext [iblk, V, idx t]

theorem blk5 (t : Fin cfg0.N) (k : Fin 2048) : iblk m c 5 t (ix2 0 k) = aG m c k := by
  refine Eq.trans (b := V m c main_v0 (ix2 0 k)) ?_ ?_
  · blk_ext [iblk, idx t]
  · rw [V0]
    pointwise []

/-! ## The points -/

/-- What prompt point `t` leaves in its tile. -/
theorem tileA_at (t : Fin cfg0.N) (h : t.val < 16) (r : Fin 512) (d : Fin 2048) :
    tileA m c t h (ix2 r d) = kP m c ⟨512 * pt t + r, by simp only; omega⟩ d := by
  unfold tileA
  rw [outA_at]
  refine (pay1_at _ _ _ _ _ _ (aW m c) (fun k d => (ld0 _ k d).trans (blk4 m c t _ d))
    (fun k d => (ld1 _ k d).trans (blk4 m c t _ d)) r d).trans (row_congr d ?_ ?_ ?_ rfl ?_)
  · exact funext fun k => blk3 m c t r k
  · exact funext fun k => blk0 m c t r k
  · exact funext fun k => blk1 m c t h r k
  · exact funext fun k => blk5 m c t k

/-- What the last point leaves in the sample's result. -/
theorem tileB_at (s : Fin 128) (q : Fin 4) (d : Fin 2048) :
    tileB m c (ix3 s q d) = kS m c ⟨s * 4 + q, by omega⟩ d := by
  unfold tileB
  rw [outB_at, pay2_at]
  refine (pay1_at _ _ _ _ _ _ (aW m c) (fun k d => (ld0 _ k d).trans (blk4 m c last _ d))
    (fun k d => (ld1 _ k d).trans (blk4 m c last _ d)) _ d).trans (row_congr d ?_ ?_ ?_ rfl ?_)
  · exact funext fun k => blk3 m c last _ k
  · exact funext fun k => blk0 m c last _ k
  · exact funext fun k => blk2 m c last _ k
  · exact funext fun k => blk5 m c last k

/-! ## The arrays -/

theorem apart6 : ∀ t t' : Fin cfg0.N, (cfg0.win 6).flush t = true → (cfg0.win 6).flush t' = true → t ≠ t' →
    Disjoint ((cfg0.win 6).blk t).view.set ((cfg0.win 6).blk t').view.set :=
  (cfg0.win 6).hdisj_of_index_inj (by decide +kernel : ∀ t t' : Fin grid0.N, win0_6.flush t = true → win0_6.flush t' = true →
    win0_6.index t = win0_6.index t' → t = t')

theorem apart7 : ∀ t t' : Fin cfg0.N, (cfg0.win 7).flush t = true → (cfg0.win 7).flush t' = true → t ≠ t' →
    Disjoint ((cfg0.win 7).blk t).view.set ((cfg0.win 7).blk t').view.set :=
  fun t t' h h' hne => absurd (Fin.ext (by
    have := (flush0_7 t).mp h; have := (flush0_7 t').mp h'; have := N17 t; have := N17 t'; omega)) hne

theorem sent6_early : ∀ t : Fin cfg0.N, t.val < 15 → (cfg0.win 6).flush t = true :=
  (by decide +kernel : ∀ t : Fin grid0.N, t.val < 15 → win0_6.flush t = true)

theorem flushed6 (t : Fin cfg0.N) : (dats m 0 c).flushed 6 t = (cfg0.win 6).cut (grid0.coords t) (tile6 m c t) := by
  show (cfg0.win 6).cut (grid0.coords t) ((dats m 0 c).after 6 t) = _
  rw [after6]

theorem flushed7 (t : Fin cfg0.N) : (dats m 0 c).flushed 7 t = (cfg0.win 7).cut (grid0.coords t) (tileB m c) := by
  show (cfg0.win 7).cut (grid0.coords t) ((dats m 0 c).after 7 t) = _
  rw [after7]

/-- The prompt's result. -/
theorem prompt_at (R : Fin 8192) (d : Fin 2048) : (dats m 0 c).arrAt 6 cfg0.N (ix2 R d) = kP m c R d := by
  have hN : cfg0.N = 17 := N_0
  by_cases hR : (R : ℕ) / 512 < 15
  · have ht : (R : ℕ) / 512 < cfg0.N := by omega
    have h := congrFun ((dats m 0 c).read_blk_arrAt_eq_flushed 6 apart6 cfg0.N ⟨(R : ℕ) / 512, ht⟩ ht (sent6_early _ hR))
      (ix2 ⟨(R : ℕ) % 512, by omega⟩ d)
    rw [flushed6, tile6, dif_pos (by simp only; omega)] at h
    refine Eq.trans ?_ (h.trans (Eq.trans ?_ ((tileA_at m c ⟨(R : ℕ) / 512, ht⟩ (by simp only; omega) ⟨(R : ℕ) % 512, by omega⟩ d).trans
      (congrArg (fun R => kP m c R d) (Fin.ext (by simp only; omega))))))
    · blk_ext [idxP ⟨(R : ℕ) / 512, ht⟩ (by simp only; omega)]
    · rfl
  · have ht : 15 < cfg0.N := by omega
    have h := congrFun ((dats m 0 c).read_blk_arrAt_eq_flushed 6 apart6 cfg0.N last last.isLt sent6)
      (ix2 ⟨(R : ℕ) % 512, by omega⟩ d)
    rw [flushed6, tile6, dif_neg (by simp only; omega)] at h
    refine Eq.trans ?_ (h.trans (Eq.trans ?_ ((tileA_at m c ⟨15, ht⟩ (by simp only; omega) ⟨(R : ℕ) % 512, by omega⟩ d).trans
      (congrArg (fun R => kP m c R d) (Fin.ext (by simp only; omega))))))
    · blk_ext [idxL]
    · rfl

/-- The sample's result. -/
theorem sample_at (s : Fin 128) (q : Fin 4) (d : Fin 2048) :
    (dats m 0 c).arrAt 7 cfg0.N (ix3 s q d) = kS m c ⟨s * 4 + q, by omega⟩ d := by
  have h := congrFun ((dats m 0 c).read_blk_arrAt_eq_flushed 7 apart7 cfg0.N last last.isLt ((flush0_7 last).mpr (by decide))) (ix3 s q d)
  rw [flushed7] at h
  refine Eq.trans ?_ (h.trans (Eq.trans ?_ (tileB_at m c s q d)))
  · blk_ext [idx last]
  · rfl

end Cert.OutProj.L1
end
-- ==== Proof.OutProj.RefL1.lean ====
module

public import proofs.«01_k».proof.Proof.OutProj.Spec
public import proofs.«01_k».proof.Proof.Gen.Reference2Ideal.Read

/-!
The second layer's output projection in the reference, entry by entry.
-/

@[expose] public section
set_option maxRecDepth 16384
noncomputable section
namespace Cert.OutProj.RefL1
open Idealize.ShloMosaic Idealize.ShloMosaic.TcCoe Idealize.SL.Sem
open Cert.Reference2Ideal Cert.Reference2Ideal.Read

variable (x0 : (⟨S8704x1024, .bf16⟩ : BufTy).Contents (Elt Ideal)) (x1 : (⟨S8192x1024, .bf16⟩ : BufTy).Contents (Elt Ideal))
  (x2 : (⟨S512x1024, .bf16⟩ : BufTy).Contents (Elt Ideal)) (x3 : (⟨S8704x2048, .f32⟩ : BufTy).Contents (Elt Ideal))
  (x4 : (⟨S2048x2048, .f32⟩ : BufTy).Contents (Elt Ideal)) (x5 : (⟨S2048, .f32⟩ : BufTy).Contents (Elt Ideal))

abbrev fA (R : Fin 8704) (k : Fin 1024) : EReal := x0 (ix2 R k)
abbrev fP (R : Fin 8192) (k : Fin 1024) : EReal := x1 (ix2 R k)
abbrev fS (R : Fin 512) (k : Fin 1024) : EReal := x2 (ix2 R k)
abbrev fX (R : Fin 8704) (k : Fin 2048) : EReal := x3 (ix2 R k)
abbrev fW (k d : Fin 2048) : EReal := x4 (ix2 k d)
abbrev fG (k : Fin 2048) : EReal := x5 (ix1 k)

/-! ## The prompt rows -/

theorem v4_lo (R : Fin 8192) (k : Fin 1024) :
    val_main_v4 (F := Ideal) x0 x1 (ix2 R ⟨k, by omega⟩) = fA x0 ⟨R, by omega⟩ k := by
  pointwise [val_main_v1, val_main_v2, val_main_v3, val_main_v4]

theorem v4_hi (R : Fin 8192) (k : Fin 1024) :
    val_main_v4 (F := Ideal) x0 x1 (ix2 R ⟨1024 + k, by omega⟩) = fP x1 R k := by
  pointwise [val_main_v1, val_main_v2, val_main_v3, val_main_v4]

theorem v5_at (R : Fin 8192) (d : Fin 2048) :
    val_main_v5 (F := Ideal) x0 x1 x4 (ix2 R d) = prod (fA x0 ⟨R, by omega⟩) (fP x1 R) (fW x4) d := by
  refine Eq.trans ?_ (prod_whole (fun k => val_main_v4 (F := Ideal) x0 x1 (ix2 R k)) _ _ (fW x4) d
    (fun k => v4_lo x0 x1 R k) (fun k => v4_hi x0 x1 R k))
  pointwise [val_main_v5]

theorem v19_at (R : Fin 8192) (d : Fin 2048) : val_main_v19 (F := Ideal) x0 x1 x3 x4 x5 (ix2 R d)
    = row (fX x3 ⟨R, by omega⟩) (fA x0 ⟨R, by omega⟩) (fP x1 R) (fW x4) (fG x5) d := by
  unfold row Cmlp.rmsR
  pointwise [val_main_v0, val_main_v6, val_main_v7, val_main_v8, val_main_v9, val_main_v10, val_main_v11, val_main_v12, val_main_v13, val_main_v14, val_main_v15, val_main_v16, val_main_v17, val_main_v18, val_main_v19, val_main_cst, val_main_cst_0, val_main_cst_1, v5_at]

/-! ## The sample rows -/

theorem v27_lo (s : Fin 128) (q : Fin 4) (k : Fin 1024) :
    val_main_v27 (F := Ideal) x0 x2 (ix3 s q ⟨k, by omega⟩) = fA x0 ⟨8192 + (s * 4 + q), by omega⟩ k := by
  pointwise [val_main_v22, val_main_v23, val_main_v24, val_main_v25, val_main_v26, val_main_v27]

theorem v27_hi (s : Fin 128) (q : Fin 4) (k : Fin 1024) :
    val_main_v27 (F := Ideal) x0 x2 (ix3 s q ⟨1024 + k, by omega⟩) = fS x2 ⟨s * 4 + q, by omega⟩ k := by
  pointwise [val_main_v22, val_main_v23, val_main_v24, val_main_v25, val_main_v26, val_main_v27]

theorem v28_at (s : Fin 128) (q : Fin 4) (d : Fin 2048) : val_main_v28 (F := Ideal) x0 x2 x4 (ix3 s q d)
    = prod (fA x0 ⟨8192 + (s * 4 + q), by omega⟩) (fS x2 ⟨s * 4 + q, by omega⟩) (fW x4) d := by
  refine Eq.trans ?_ (prod_whole (fun k => val_main_v27 (F := Ideal) x0 x2 (ix3 s q k)) _ _ (fW x4) d
    (fun k => v27_lo x0 x2 s q k) (fun k => v27_hi x0 x2 s q k))
  pointwise [val_main_v28]

theorem v21_at (s : Fin 128) (q : Fin 4) (k : Fin 2048) :
    val_main_v21 (F := Ideal) x3 (ix3 s q k) = fX x3 ⟨8192 + (s * 4 + q), by omega⟩ k := by
  pointwise [val_main_v20, val_main_v21]

theorem v42_at (s : Fin 128) (q : Fin 4) (d : Fin 2048) : val_main_v42 (F := Ideal) x0 x2 x3 x4 x5 (ix3 s q d)
    = row (fX x3 ⟨8192 + (s * 4 + q), by omega⟩) (fA x0 ⟨8192 + (s * 4 + q), by omega⟩) (fS x2 ⟨s * 4 + q, by omega⟩) (fW x4)
        (fG x5) d := by
  unfold row Cmlp.rmsR
  pointwise [val_main_v29, val_main_v30, val_main_v31, val_main_v32, val_main_v33, val_main_v34, val_main_v35, val_main_v36, val_main_v37, val_main_v38, val_main_v39, val_main_v40, val_main_v41, val_main_v42, val_main_cst_2, val_main_cst_3, val_main_cst_4, v28_at, v21_at]

end Cert.OutProj.RefL1
end
-- ==== Proof.OutProj.MatchL1.lean ====
module

public import proofs.«01_k».proof.Proof.OutProj.FinalL1
public import proofs.«01_k».proof.Proof.OutProj.RefL1

/-!
The second layer's output projection: the kernel's two result arrays against the reference's, and its run.
-/

@[expose] public section
set_option maxRecDepth 16384
noncomputable section
namespace Cert.OutProj.L1
open Idealize.ShloMosaic Idealize.ShloMosaic.TcCoe Idealize.SL.Sem

variable (m : (ℓ : Loc Kernel2Ideal.nD Kernel2Ideal.τ Kernel2Ideal.sig) → Buf (Elt Ideal) ℓ) (c : Dev Kernel2Ideal.nD)

theorem prompt : Reference2Ideal.Read.val_main_v19 (F := Ideal) (m (c.tc.loc Kernel2Ideal.main_arg0)) (m (c.tc.loc Kernel2Ideal.main_arg1))
      (m (c.tc.loc Kernel2Ideal.main_arg3)) (m (c.tc.loc Kernel2Ideal.main_arg4)) (m (c.tc.loc Kernel2Ideal.main_arg5))
    = (Kernel2Ideal.Body.dats m 0 c).arrAt 6 Kernel2Ideal.cfg0.N := by
  refine funext fun (i : Kernel2Ideal.S8192x2048.Idx) => ?_
  idx_vars i
  exact (RefL1.v19_at _ _ _ _ _ _ _).trans (prompt_at m c _ _).symm

theorem sample : Reference2Ideal.Read.val_main_v42 (F := Ideal) (m (c.tc.loc Kernel2Ideal.main_arg0)) (m (c.tc.loc Kernel2Ideal.main_arg2))
      (m (c.tc.loc Kernel2Ideal.main_arg3)) (m (c.tc.loc Kernel2Ideal.main_arg4)) (m (c.tc.loc Kernel2Ideal.main_arg5))
    = (Kernel2Ideal.Body.dats m 0 c).arrAt 7 Kernel2Ideal.cfg0.N := by
  refine funext fun (i : Kernel2Ideal.S128x4x2048.Idx) => ?_
  idx_vars i
  exact (RefL1.v42_at _ _ _ _ _ _ _ _).trans (sample_at m c _ _ _).symm

open Kernel2Ideal Kernel2Ideal.Gen in
/-- The run with its two result arrays named. -/
theorem run (ρ : Dev Kernel2Ideal.nD → PrngReg) :
    θ_run Kernel2Ideal.defs (onTc (τ := Kernel2Ideal.τ) (Kernel2Ideal.main (F := Ideal))) ⟨m, fun _ => 0, ρ⟩ fun r => ∀ c : Dev Kernel2Ideal.nD,
      r.2.mem ((c.tc : Thread nD τ).loc main_v1_0) = (Body.dats m 0 c).arrAt 6 cfg0.N
      ∧ r.2.mem ((c.tc : Thread nD τ).loc main_v1_1) = (Body.dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h.2 c).1 6, (h.2 c).1 7, h.1 c⟩)
    (θ_run_and (frame_of m ρ (Body.dats m) (Body.A_eq m) (Body.run m ρ)) (Body.run m ρ))

end Cert.OutProj.L1
end
-- ==== Proof.ConvA.Base.lean ====
module

public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Skeleton
public import Idealize.ShloMosaic.Lib.Claim

/-!
The gated convolution (over the extended reals): the buffers and the first point's condition.
-/

@[expose] public section
set_option maxRecDepth 16384
noncomputable section
namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the first point, where the carried rows are set to zero. -/
abbrev first (i : grid0.Coords) : Prop := (Scalar.cmpi .ne (Scalar.extui (Scalar.cmpi .eq (BitVec.ofNat 32 (i 0).val) 0#32)) 0#32) = 1#1

/-- The two scratch buffers: the shifted rows and the carried rows. -/
abbrev shifted : Memref sig .tc .vmem S520x256 .f32 := Memref.whole cc0_scratch0
abbrev carried : Memref sig .tc .vmem S8x1024 .f32 := Memref.whole cc0_scratch1

/-- One staging buffer of each output, and the carried rows, through which their contents are stated. -/
abbrev V7 : View sig .tc .vmem S512x1024 .bf16 := (Memref.whole cc0_stg6_0 : Memref sig .tc .vmem S512x1024 .bf16).view
abbrev V8 : View sig .tc .vmem S1x2x1024 .f32 := (Memref.whole cc0_stg7_0 : Memref sig .tc .vmem S1x2x1024 .f32).view
abbrev V9 : View sig .tc .vmem S128x2x1024 .f32 := (Memref.whole cc0_stg8_0 : Memref sig .tc .vmem S128x2x1024 .f32).view
abbrev V10 : View sig .tc .vmem S512x2048 .bf16 := (Memref.whole cc0_stg9_0 : Memref sig .tc .vmem S512x2048 .bf16).view
abbrev V12 : View sig .tc .vmem S8x1024 .f32 := carried.view

end Cert.Kernel4Ideal.Body
end
-- ==== Proof.ConvA.RunA.lean ====
module

public import proofs.«01_k».proof.Proof.ConvA.Base

/-!
The body of the gated convolution (over the extended reals). The first point: the carried rows start at zero.
-/

@[expose] public section
set_option maxRecDepth 16384
noncomputable section
namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The first point: the carried rows start at zero. What is stored into each output and into the carried rows, with the run that stores it. -/
def runA (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) :
    Σ' (L7 : List (View.Piece (Elt F) S512x1024 .bf16)), Σ' (L8 : List (View.Piece (Elt F) S1x2x1024 .f32)), Σ' (L10 : List (View.Piece (Elt F) S512x2048 .bf16)), { L12 : List (View.Piece (Elt F) S8x1024 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg10 fullShare d) ∗ (∃ d, owns (c : Thread nD τ) arg12 fullShare d) ∗ (∃ d, owns (c : Thread nD τ) arg11 fullShare d)
            ∗ (iprop(owns (c : Thread nD τ) arg1 fullShare x1 ∗ owns (c : Thread nD τ) arg3 fullShare x3 ∗ owns (c : Thread nD τ) arg4 fullShare x4 ∗ owns (c : Thread nD τ) arg5 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ d, owns (c : Thread nD τ) arg11 fullShare d)) -∗ K ⟨⟩))
          ⊢ wp frame (wpE (defs₀ (F := F)) Variants.none c none) E (cc0_conv_a i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_conv_a_eq_skeleton]; unfold cc0_conv_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f1, %hf1, H1⟩, ⟨%f3, %hf3, H3⟩, ⟨%f4, %hf4, H4⟩, ⟨%f5, %hf5, H5⟩, ⟨%d7, %f7, -, H7⟩, ⟨%d8, %f8, -, H8⟩, ⟨%d10, %f10, -, H10⟩, ⟨%d12, %f12, -, H12⟩, ⟨%d11, %f11, -, H11⟩, Hk⟩
    obtain rfl := harg1.eq_unread hf1; obtain rfl := harg3.eq_unread hf3; obtain rfl := harg4.eq_unread hf4; obtain rfl := harg5.eq_unread hf5
    sl_exec (disch := first | sl_exact hc0 | sl_exact hc1 | sl_exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; iexact H7
    isplitl [H8]
    · iexists _; iexact H8
    isplitl [H10]
    · iexists _; iexact H10
    isplitl [H12]
    · iexists _; iexact H12
    iexists _; iexists _; isplitr; swap; · iexact H11
    ipureintro; rfl

theorem coverA7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) (y : S512x1024.Idx) :
    ∃ pc ∈ (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).1 S512x256.size (by sl_kernel_rfl) y

def outA7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) : Vec F S512x1024 .bf16 :=
  V7.read (Elt F) (V7.writes (Elt F) V7.junk (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).1)

theorem coverA8 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) (y : S1x2x1024.Idx) :
    ∃ pc ∈ (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.1 S1x2x256.size (by sl_kernel_rfl) y

def outA8 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) : Vec F S1x2x1024 .f32 :=
  V8.read (Elt F) (V8.writes (Elt F) V8.junk (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.1)

theorem coverA10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) (y : S512x2048.Idx) :
    ∃ pc ∈ (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.1 S512x2048.size (by sl_kernel_rfl) y

def outA10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) : Vec F S512x2048 .bf16 :=
  V10.read (Elt F) (V10.writes (Elt F) V10.junk (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.1)

theorem coverA12 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) (y : S8x1024.Idx) :
    ∃ pc ∈ (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.2.1, y ∈ pc.1.set :=
  View.cover_of_tiledL (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.2.1 S8x256.size (by sl_kernel_rfl) y

def outA12 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1)
    (x1 : Vec F S512x2048 .f32) (x3 : Vec F S1x2048 .f32) (x4 : Vec F S2048x4096 .f32) (x5 : Vec F S3x1024 .f32) : Vec F S8x1024 .f32 :=
  V12.read (Elt F) (V12.writes (Elt F) V12.junk (runA c i arg1 harg1 arg2 harg2 arg3 harg3 arg4 harg4 arg5 harg5 arg6 harg6 arg7 harg7 arg8 harg8 arg9 harg9 arg10 harg10 arg11 harg11 arg12 harg12 hc0 hc1 hc2 x1 x3 x4 x5).2.2.2.1)

end Cert.Kernel4Ideal.Body
end
-- ==== Proof.ConvA.RunB.lean ====
module

public import proofs.«01_k».proof.Proof.ConvA.Base

/-!
The body of the gated convolution (over the extended reals). A later prompt point: the carried rows are what the point before left, `xs`.
-/

@[expose] public section
set_option maxRecDepth 16384
noncomputable section
namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- A later prompt point: the carried rows are what the point before left, `xs`. What is stored into each output and into the carried rows, with the run that stores it. -/
def runB (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) :
    Σ' (L7 : List (View.Piece (Elt F) S512x1024 .bf16)), Σ' (L8 : List (View.Piece (Elt F) S1x2x1024 .f32)), Σ' (L10 : List (View.Piece (Elt F) S512x2048 .bf16)), { L12 : List (View.Piece (Elt F) S8x1024 .f32) //
      ∀ (E : Set ℕ) (K : PUnit → sProp 𝕄),
        iprop(owns (c : Thread nD τ) arg1 fullShare x1 ∗ owns (c : Thread nD τ) arg3 fullShare x3 ∗ owns (c : Thread nD τ) arg4 fullShare x4 ∗ owns (c : Thread nD τ) arg5 fullShare x5 ∗ (∃ d, owns (c : Thread nD τ) arg7 fullShare d) ∗ (∃ d, owns (c : Thread nD τ) arg8 fullShare d) ∗ (∃ d, owns (c : Thread nD τ) arg10 fullShare d) ∗ owns (c : Thread nD τ) arg12 fullShare xs ∗ (∃ d, owns (c : Thread nD τ) arg11 fullShare d)
            ∗ (iprop(owns (c : Thread nD τ) arg1 fullShare x1 ∗ owns (c : Thread nD τ) arg3 fullShare x3 ∗ owns (c : Thread nD τ) arg4 fullShare x4 ∗ owns (c : Thread nD τ) arg5 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg10.view.loc (c : Thread nD τ) ↦[arg10.view.set]{fullShare} arg10.view.writes (Elt F) f L10) ∗ (∃ f, arg12.view.loc (c : Thread nD τ) ↦[arg12.view.set]{fullShare} arg12.view.writes (Elt F) f L12) ∗ (∃ d, owns (c : Thread nD τ) arg11 fullShare d)) -∗ K ⟨⟩))
          ⊢ wp frame (wpE (defs₀ (F := F)) Variants.none c none) E (cc0_conv_a i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_conv_a_eq_skeleton]; unfold cc0_conv_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f1, %hf1, H1⟩, ⟨%f3, %hf3, H3⟩, ⟨%f4, %hf4, H4⟩, ⟨%f5, %hf5, H5⟩, ⟨%d7, %f7, -, H7⟩, ⟨%d8, %f8, -, H8⟩, ⟨%d10, %f10, -, H10⟩, ⟨%f12, %hf12, H12⟩, ⟨%d11, %f11, -, H11⟩, Hk⟩
    obtain rfl := harg1.eq_unread hf1; obtain rfl := harg3.eq_unread hf3; obtain rfl := harg4.eq_unread hf4; obtain rfl := harg5.eq_unread hf5; obtain rfl := harg12.eq_unread hf12
    sl_exec (disch := first | sl_exact hc0 | sl_exact hc1 | sl_exact hc2)
    sl_step
    iapply Hk
    isplitl [H1]
    · iexists _; isplitr; · ipureintro; exact harg1.read_unread _
      iexact H1
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H7]
    · iexists _; iexact H7
    isplitl [H8]
    · iexists _; iexact H8
    isplitl [H10]
    · iexists _; iexact H10
    isplitl [H12]
    · iexists _; iexact H12
    iexists _; iexists _; isplitr; swap; · iexact H11
    ipureintro; rfl

theorem coverB7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) (y : S512x1024.Idx) :
    ∃ pc ∈ (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).1 S512x256.size (by sl_kernel_rfl) y

def outB7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) : Vec F S512x1024 .bf16 :=
  V7.read (Elt F) (V7.writes (Elt F) V7.junk (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).1)

theorem coverB8 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) (y : S1x2x1024.Idx) :
    ∃ pc ∈ (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.1 S1x2x256.size (by sl_kernel_rfl) y

def outB8 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) : Vec F S1x2x1024 .f32 :=
  V8.read (Elt F) (V8.writes (Elt F) V8.junk (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.1)

theorem coverB10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) (y : S512x2048.Idx) :
    ∃ pc ∈ (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.1 S512x2048.size (by sl_kernel_rfl) y

def outB10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) : Vec F S512x2048 .bf16 :=
  V10.read (Elt F) (V10.writes (Elt F) V10.junk (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.1)

theorem coverB12 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) (y : S8x1024.Idx) :
    ∃ pc ∈ (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.2.1, y ∈ pc.1.set :=
  View.cover_of_tiledL (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.2.1 S8x256.size (by sl_kernel_rfl) y

def outB12 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1)
    (x1 : Vec F S512x2048 .f32) (x3 : Vec F S1x2048 .f32) (x4 : Vec F S2048x4096 .f32) (x5 : Vec F S3x1024 .f32) (xs : Vec F S8x1024 .f32) : Vec F S8x1024 .f32 :=
  V12.read (Elt F) (V12.writes (Elt F) V12.junk (runB c i arg1 harg1 arg2 harg2 arg3 harg3 arg4 harg4 arg5 harg5 arg6 harg6 arg7 harg7 arg8 harg8 arg9 harg9 arg10 harg10 arg11 harg11 arg12 harg12 hc0 hc1 hc2 x1 x3 x4 x5 xs).2.2.2.1)

end Cert.Kernel4Ideal.Body
end
-- ==== Proof.ConvA.RunC.lean ====
module

public import proofs.«01_k».proof.Proof.ConvA.Base

/-!
The body of the gated convolution (over the extended reals). The last point: the sample rows.
-/

@[expose] public section
set_option maxRecDepth 16384
noncomputable section
namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 4000000 in
/-- The last point: the sample rows. What is stored into each output and into the carried rows, with the run that stores it. -/
def runC (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) :
    Σ' (L7 : List (View.Piece (Elt F) S512x1024 .bf16)), Σ' (L9 : List (View.Piece (Elt F) S128x2x1024 .f32)), { L10 : List (View.Piece (Elt F) S512x2048 .bf16) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg9 fullShare d) ∗ (∃ d, owns (c : Thread nD τ) arg10 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ f, arg7.view.loc (c : Thread nD τ) ↦[arg7.view.set]{fullShare} arg7.view.writes (Elt F) f L7) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10)) -∗ K ⟨⟩))
          ⊢ wp frame (wpE (defs₀ (F := F)) Variants.none c none) E (cc0_conv_a i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0_conv_a_eq_skeleton]; unfold cc0_conv_a_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d9, %f9, -, H9⟩, ⟨%d10, %f10, -, H10⟩, Hk⟩
    obtain rfl := harg2.eq_unread hf2; obtain rfl := harg3.eq_unread hf3; obtain rfl := harg4.eq_unread hf4; obtain rfl := harg5.eq_unread hf5; obtain rfl := harg6.eq_unread hf6
    sl_exec (disch := first | sl_exact hc0 | sl_exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; iexact H7
    isplitl [H9]
    · iexists _; iexact H9
    iexists _; iexact H10

theorem coverC7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) (y : S512x1024.Idx) :
    ∃ pc ∈ (runC c i arg1 harg1 arg2 harg2 arg3 harg3 arg4 harg4 arg5 harg5 arg6 harg6 arg7 harg7 arg8 harg8 arg9 harg9 arg10 harg10 arg11 harg11 arg12 harg12 hc0 hc2 x2 x3 x4 x5 x6).1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 hc0 hc2 x2 x3 x4 x5 x6).1 S512x256.size (by sl_kernel_rfl) y

def outC7 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) : Vec F S512x1024 .bf16 :=
  V7.read (Elt F) (V7.writes (Elt F) V7.junk (runC c i arg1 harg1 arg2 harg2 arg3 harg3 arg4 harg4 arg5 harg5 arg6 harg6 arg7 harg7 arg8 harg8 arg9 harg9 arg10 harg10 arg11 harg11 arg12 harg12 hc0 hc2 x2 x3 x4 x5 x6).1)

theorem coverC9 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) (y : S128x2x1024.Idx) :
    ∃ pc ∈ (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.1 S128x2x256.size (by sl_kernel_rfl) y

def outC9 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) : Vec F S128x2x1024 .f32 :=
  V9.read (Elt F) (V9.writes (Elt F) V9.junk (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.1)

theorem coverC10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) (y : S512x2048.Idx) :
    ∃ pc ∈ (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.2.1, y ∈ pc.1.set :=
  View.cover_of_tiledL (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.2.1 S512x2048.size (by sl_kernel_rfl) y

def outC10 (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1)
    (x2 : Vec F S128x4x2048 .f32) (x3 : Vec F S1x2048 .f32) (x4 : Vec F S2048x4096 .f32) (x5 : Vec F S3x1024 .f32) (x6 : Vec F S128x2x1024 .f32) : Vec F S512x2048 .bf16 :=
  V10.read (Elt F) (V10.writes (Elt F) V10.junk (runC c i arg1 harg1 arg2 harg2 arg3 harg3 arg4 harg4 arg5 harg5 arg6 harg6 arg7 harg7 arg8 harg8 arg9 harg9 arg10 harg10 arg11 harg11 arg12 harg12 hc0 hc2 x2 x3 x4 x5 x6).2.2.1)

end Cert.Kernel4Ideal.Body
end
-- ==== Proof.ConvA.Body.lean ====
module

public import proofs.«01_k».proof.Proof.ConvA.RunA
public import proofs.«01_k».proof.Proof.ConvA.RunB
public import proofs.«01_k».proof.Proof.ConvA.RunC

/-!
The gated convolution (over the extended reals): what each point leaves in the outputs and in the carried rows, and the run. The
prompt's state is written at points 0 to 15 and still standing, unwritten, at point 16, where it is sent back.
-/

@[expose] public section
set_option maxRecDepth 16384
noncomputable section
namespace Cert.Kernel4Ideal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

theorem N17 (t : Fin cfg0.N) : t.val < 17 := lt_of_lt_of_eq t.isLt N_0

/-- The last point, and prompt point `n`. -/
abbrev last : Fin cfg0.N := ⟨16, lt_of_lt_of_eq (by decide) N_0.symm⟩
abbrev pt (n : ℕ) (h : n < 16) : Fin cfg0.N := ⟨n, lt_of_lt_of_eq (by omega) N_0.symm⟩

theorem eq_last (t : Fin cfg0.N) (h : ¬t.val < 16) : t = last := Fin.ext (by have := N17 t; simp only; omega)

theorem prompt_yes : ∀ t : Fin cfg0.N, t.val < 16 → k0_cond1 (grid0.coords t) = 1#1 :=
  (by decide +kernel : ∀ t : Fin grid0.N, _)
theorem prompt_no : ∀ t : Fin cfg0.N, t.val < 16 → ¬k0_cond3 (grid0.coords t) = 1#1 :=
  (by decide +kernel : ∀ t : Fin grid0.N, _)
theorem first_yes : ∀ t : Fin cfg0.N, t.val = 0 → first (grid0.coords t) :=
  (by decide +kernel : ∀ t : Fin grid0.N, _)
theorem first_no : ∀ t : Fin cfg0.N, ¬t.val = 0 → ¬first (grid0.coords t) :=
  (by decide +kernel : ∀ t : Fin grid0.N, _)
theorem sample_no : ¬k0_cond1 (grid0.coords last) = 1#1 := by decide +kernel
theorem sample_yes : k0_cond3 (grid0.coords last) = 1#1 := by decide +kernel

theorem live6 : ∀ t : Fin cfg0.N, cfg0.idle 6 (grid0.coords t) = false :=
  (by decide +kernel : ∀ t : Fin grid0.N, idle0 6 (grid0.coords t) = false)
theorem live9 : ∀ t : Fin cfg0.N, cfg0.idle 9 (grid0.coords t) = false :=
  (by decide +kernel : ∀ t : Fin grid0.N, idle0 9 (grid0.coords t) = false)
theorem live7 : ∀ t : Fin cfg0.N, t.val < 16 → cfg0.idle 7 (grid0.coords t) = false :=
  (by decide +kernel : ∀ t : Fin grid0.N, t.val < 16 → idle0 7 (grid0.coords t) = false)
theorem idle7 : cfg0.idle 7 (grid0.coords last) = true := by decide +kernel
theorem sent7 : (cfg0.win 7).flush last = true := (flush0_7 last).mpr rfl
theorem held7 (t : Fin cfg0.N) (h : t.val = 15) : (cfg0.win 7).flush t = false :=
  Bool.eq_false_iff.mpr fun e => by have := (flush0_7 t).mp e; omega
theorem idle8 : ∀ t : Fin cfg0.N, t.val < 16 → cfg0.idle 8 (grid0.coords t) = true :=
  (by decide +kernel : ∀ t : Fin grid0.N, t.val < 16 → idle0 8 (grid0.coords t) = true)
theorem live8 : cfg0.idle 8 (grid0.coords last) = false := by decide +kernel
theorem held8 (t : Fin cfg0.N) (h : t.val < 16) : (cfg0.win 8).flush t = false :=
  Bool.eq_false_iff.mpr fun e => by have := (flush0_8 t).mp e; omega

/-! ## What each point leaves -/

def yA (c : Dev nD) (t : Fin cfg0.N) (h : t.val < 16) (h0 : t.val = 0) : Vec F S512x1024 .bf16 :=
  outA7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_yes t h0) (prompt_no t h) (iblk m c 0 t) (iblk m c 2 t) (X0_3 m c t) (iblk m c 4 t)

def sA (c : Dev nD) (t : Fin cfg0.N) (h : t.val < 16) (h0 : t.val = 0) : Vec F S1x2x1024 .f32 :=
  outA8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_yes t h0) (prompt_no t h) (iblk m c 0 t) (iblk m c 2 t) (X0_3 m c t) (iblk m c 4 t)

def hA (c : Dev nD) (t : Fin cfg0.N) (h : t.val < 16) (h0 : t.val = 0) : Vec F S512x2048 .bf16 :=
  outA10 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_yes t h0) (prompt_no t h) (iblk m c 0 t) (iblk m c 2 t) (X0_3 m c t) (iblk m c 4 t)

def kA (c : Dev nD) (t : Fin cfg0.N) (h : t.val < 16) (h0 : t.val = 0) : Vec F S8x1024 .f32 :=
  outA12 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_yes t h0) (prompt_no t h) (iblk m c 0 t) (iblk m c 2 t) (X0_3 m c t) (iblk m c 4 t)

def yB (c : Dev nD) (t : Fin cfg0.N) (h : t.val < 16) (h0 : ¬t.val = 0) (xs : Vec F S8x1024 .f32) : Vec F S512x1024 .bf16 :=
  outB7 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_no t h0) (prompt_no t h) (iblk m c 0 t) (iblk m c 2 t) (X0_3 m c t) (iblk m c 4 t) xs

def sB (c : Dev nD) (t : Fin cfg0.N) (h : t.val < 16) (h0 : ¬t.val = 0) (xs : Vec F S8x1024 .f32) : Vec F S1x2x1024 .f32 :=
  outB8 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_no t h0) (prompt_no t h) (iblk m c 0 t) (iblk m c 2 t) (X0_3 m c t) (iblk m c 4 t) xs

def hB (c : Dev nD) (t : Fin cfg0.N) (h : t.val < 16) (h0 : ¬t.val = 0) (xs : Vec F S8x1024 .f32) : Vec F S512x2048 .bf16 :=
  outB10 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_no t h0) (prompt_no t h) (iblk m c 0 t) (iblk m c 2 t) (X0_3 m c t) (iblk m c 4 t) xs

def kB (c : Dev nD) (t : Fin cfg0.N) (h : t.val < 16) (h0 : ¬t.val = 0) (xs : Vec F S8x1024 .f32) : Vec F S8x1024 .f32 :=
  outB12 c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) shifted (Memref.isWhole_whole _) carried (Memref.isWhole_whole _) (prompt_yes t h) (first_no t h0) (prompt_no t h) (iblk m c 0 t) (iblk m c 2 t) (X0_3 m c t) (iblk m c 4 t) xs

def yC (c : Dev nD)  : Vec F S512x1024 .bf16 :=
  outC7 c (grid0.coords last) (st0_0 last) (hstage0_0 ((cfg0.slots last 0).cast nbuf0_0)) (st0_1 last) (hstage0_1 ((cfg0.slots last 1).cast nbuf0_1)) (st0_2 last) (hstage0_2 ((cfg0.slots last 2).cast nbuf0_2)) (st0_3 last) (hstage0_3 ((cfg0.slots last 3).cast nbuf0_3)) (st0_4 last) (hstage0_4 ((cfg0.slots last 4).cast nbuf0_4)) (st0_5 last) (hstage0_5 ((cfg0.slots last 5).cast nbuf0_5)) (st0_6 last) (hstage0_6 ((cfg0.slots last 6).cast nbuf0_6)) (st0_7 last) (hstage0_7 ((cfg0.slots last 7).cast nbuf0_7)) (st0_8 last) (hstage0_8 ((cfg0.slots last 8).cast nbuf0_8)) (st0_9 last) (hstage0_9 ((cfg0.slots last 9).cast nbuf0_9)) shifted (Memref.isWhole_whole _) carried (Memref.isWhole_whole _) sample_no sample_yes (iblk m c 1 last) (iblk m c 2 last) (X0_3 m c last) (iblk m c 4 last) (iblk m c 5 last)

def uC (c : Dev nD)  : Vec F S128x2x1024 .f32 :=
  outC9 c (grid0.coords last) (st0_0 last) (hstage0_0 ((cfg0.slots last 0).cast nbuf0_0)) (st0_1 last) (hstage0_1 ((cfg0.slots last 1).cast nbuf0_1)) (st0_2 last) (hstage0_2 ((cfg0.slots last 2).cast nbuf0_2)) (st0_3 last) (hstage0_3 ((cfg0.slots last 3).cast nbuf0_3)) (st0_4 last) (hstage0_4 ((cfg0.slots last 4).cast nbuf0_4)) (st0_5 last) (hstage0_5 ((cfg0.slots last 5).cast nbuf0_5)) (st0_6 last) (hstage0_6 ((cfg0.slots last 6).cast nbuf0_6)) (st0_7 last) (hstage0_7 ((cfg0.slots last 7).cast nbuf0_7)) (st0_8 last) (hstage0_8 ((cfg0.slots last 8).cast nbuf0_8)) (st0_9 last) (hstage0_9 ((cfg0.slots last 9).cast nbuf0_9)) shifted (Memref.isWhole_whole _) carried (Memref.isWhole_whole _) sample_no sample_yes (iblk m c 1 last) (iblk m c 2 last) (X0_3 m c last) (iblk m c 4 last) (iblk m c 5 last)

def hC (c : Dev nD)  : Vec F S512x2048 .bf16 :=
  outC10 c (grid0.coords last) (st0_0 last) (hstage0_0 ((cfg0.slots last 0).cast nbuf0_0)) (st0_1 last) (hstage0_1 ((cfg0.slots last 1).cast nbuf0_1)) (st0_2 last) (hstage0_2 ((cfg0.slots last 2).cast nbuf0_2)) (st0_3 last) (hstage0_3 ((cfg0.slots last 3).cast nbuf0_3)) (st0_4 last) (hstage0_4 ((cfg0.slots last 4).cast nbuf0_4)) (st0_5 last) (hstage0_5 ((cfg0.slots last 5).cast nbuf0_5)) (st0_6 last) (hstage0_6 ((cfg0.slots last 6).cast nbuf0_6)) (st0_7 last) (hstage0_7 ((cfg0.slots last 7).cast nbuf0_7)) (st0_8 last) (hstage0_8 ((cfg0.slots last 8).cast nbuf0_8)) (st0_9 last) (hstage0_9 ((cfg0.slots last 9).cast nbuf0_9)) shifted (Memref.isWhole_whole _) carried (Memref.isWhole_whole _) sample_no sample_yes (iblk m c 1 last) (iblk m c 2 last) (X0_3 m c last) (iblk m c 4 last) (iblk m c 5 last)

/-- The carried rows after prompt point `n`. -/
def carry (c : Dev nD) : (n : ℕ) → n < 16 → Vec F S8x1024 .f32
  | 0, h => kA m c (pt 0 h) h rfl
  | n + 1, h => kB m c (pt (n + 1) h) h (Nat.succ_ne_zero n) (carry c n (Nat.lt_of_succ_lt h))

/-- The carried rows before prompt point `t` that is not the first. -/
def before (c : Dev nD) (t : Fin cfg0.N) (h : t.val < 16) : Vec F S8x1024 .f32 := carry m c (t.val - 1) (by omega)

theorem carry_first (c : Dev nD) (t : Fin cfg0.N) (h : t.val < 16) (h0 : t.val = 0) : carry m c t.val h = kA m c t h h0 := by
  obtain ⟨n, hn⟩ := t; simp only at h0; subst h0; rfl
theorem carry_later (c : Dev nD) (t : Fin cfg0.N) (h : t.val < 16) (h0 : ¬t.val = 0) :
    carry m c t.val h = kB m c t h h0 (before m c t h) := by
  obtain ⟨n, hn⟩ := t
  cases n with
  | zero => exact absurd rfl h0
  | succ n => rfl

/-- The output rows, the prompt's state and the normalised rows after point `t`. -/
def tile6 (c : Dev nD) (t : Fin cfg0.N) : Vec F S512x1024 .bf16 :=
  if h : t.val < 16 then if h0 : t.val = 0 then yA m c t h h0 else yB m c t h h0 (before m c t h) else yC m c
def state (c : Dev nD) (t : Fin cfg0.N) (h : t.val < 16) : Vec F S1x2x1024 .f32 :=
  if h0 : t.val = 0 then sA m c t h h0 else sB m c t h h0 (before m c t h)
def tile7 (c : Dev nD) (t : Fin cfg0.N) : Vec F S1x2x1024 .f32 :=
  if h : t.val < 16 then state m c t h else state m c (pt 15 (by decide)) (by decide)
def tile9 (c : Dev nD) (t : Fin cfg0.N) : Vec F S512x2048 .bf16 :=
  if h : t.val < 16 then if h0 : t.val = 0 then hA m c t h h0 else hB m c t h h0 (before m c t h) else hC m c

/-- Between the points: the shifted rows at anything, the carried rows as the last prompt point left them. -/
def Phi (c : Dev nD) (n : ℕ) : sProp 𝕄 :=
  if n = 0 then Pipeline.ΦA spec0 c else
    iprop(iprop((∃ d, owns (c : Thread nD τ) shifted fullShare d)
      ∗ owns (c : Thread nD τ) carried fullShare (carry m c (min (n - 1) 15) (by omega))) ∗ (∃ r, prngReg c r))

theorem Phi_any (c : Dev nD) :
    (Pipeline.ΦA spec0 c : sProp 𝕄)
      = iprop(iprop((∃ d, owns (c : Thread nD τ) shifted fullShare d) ∗ (∃ d, owns (c : Thread nD τ) carried fullShare d)) ∗ (∃ r, prngReg c r)) := by
  unfold Pipeline.ΦA; rw [scopedRest0_eq]; simp only [shifted, carried, owns_whole]; try rfl

theorem Phi_zero (c : Dev nD) (n : ℕ) (h : n = 0) : (Phi m c n : sProp 𝕄) = Pipeline.ΦA spec0 c := by
  unfold Phi; rw [if_pos h]
theorem Phi_pos (c : Dev nD) (n : ℕ) (h : ¬n = 0) (k : ℕ) (hk : k < 16) (e : min (n - 1) 15 = k) : (Phi m c n : sProp 𝕄)
      = iprop(iprop((∃ d, owns (c : Thread nD τ) shifted fullShare d)
      ∗ owns (c : Thread nD τ) carried fullShare (carry m c k hk)) ∗ (∃ r, prngReg c r)) := by
  subst e; unfold Phi; rw [if_neg h]

/-- The proof data: the inputs stay at their blocks, the outputs at the tiles above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => tile6 m c t
    | ⟨7, _⟩ => tile7 m c t
    | ⟨8, _⟩ => uC m c
    | ⟨9, _⟩ => tile9 m c t
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = tile6 m c t := by dsimp only [dats]
theorem after7 (c : Dev nD) (t : Fin cfg0.N) : (dats m 0 c).after 7 t = tile7 m c t := by dsimp only [dats]
theorem after8 (c : Dev nD) (t : Fin cfg0.N) : (dats m 0 c).after 8 t = uC m c := by dsimp only [dats]
theorem after9 (c : Dev nD) (t : Fin cfg0.N) : (dats m 0 c).after 9 t = tile9 m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = X0_3 m c t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- At the last point the buffer of the prompt's state still holds what the point before left. -/
theorem before7 (c : Dev nD) (d) : (dats m 0 c).before 7 last d = tile7 m c last := by
  rw [Dat.before_of_pos _ 7 last (by decide) ((cfg0.win 7).fetch_out rfl last), held7 _ rfl, if_neg Bool.false_ne_true]
  unfold Dat.left
  rw [live7 _ (by decide)]
  dsimp only
  unfold Dat.kept
  rw [Pipeline.fill_of_clip_none 7 _ (fun _ => rfl) d ((dats m 0 c).after 7 _), Window.fill_cut, after7]
  rfl

/-! ## The obligation -/

def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0 (c : Dev nD) (t : Fin cfg0.N) :
    (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) :
    (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) :
    (dats m 0 c).leavesExact 2 t = owns (c : Thread nD τ) (st0_2 t) fullShare (iblk m c 2 t) := by
  unfold Dat.leavesExact; rw [show cfg0.idle 2 (grid0.coords t) = false from rfl, after2]
theorem leaves3 (c : Dev nD) (t : Fin cfg0.N) :
    (dats m 0 c).leavesExact 3 t = owns (c : Thread nD τ) (st0_3 t) fullShare (X0_3 m c t) := by
  unfold Dat.leavesExact; rw [show cfg0.idle 3 (grid0.coords t) = false from rfl, after3]
theorem leaves4 (c : Dev nD) (t : Fin cfg0.N) :
    (dats m 0 c).leavesExact 4 t = owns (c : Thread nD τ) (st0_4 t) fullShare (iblk m c 4 t) := by
  unfold Dat.leavesExact; rw [show cfg0.idle 4 (grid0.coords t) = false from rfl, after4]
theorem leaves5 (c : Dev nD) (t : Fin cfg0.N) :
    (dats m 0 c).leavesExact 5 t = owns (c : Thread nD τ) (st0_5 t) fullShare (iblk m c 5 t) := by
  unfold Dat.leavesExact; rw [show cfg0.idle 5 (grid0.coords t) = false from rfl, after5]
theorem leaves6 (c : Dev nD) (t : Fin cfg0.N) :
    (dats m 0 c).leavesExact 6 t = owns (c : Thread nD τ) (st0_6 t) fullShare (tile6 m c t) := by
  unfold Dat.leavesExact; rw [live6 t, after6]
theorem leaves9 (c : Dev nD) (t : Fin cfg0.N) :
    (dats m 0 c).leavesExact 9 t = owns (c : Thread nD τ) (st0_9 t) fullShare (tile9 m c t) := by
  unfold Dat.leavesExact; rw [live9 t, after9]
theorem leaves7 (c : Dev nD) (t : Fin cfg0.N) (h : t.val < 16) :
    (dats m 0 c).leavesExact 7 t = owns (c : Thread nD τ) (st0_7 t) fullShare (state m c t h) := by
  unfold Dat.leavesExact; rw [live7 t h, after7, tile7, dif_pos h]
theorem leaves7_last (c : Dev nD) :
    (dats m 0 c).leavesExact 7 last = owns (c : Thread nD τ) (st0_7 last) fullShare (tile7 m c last) := by
  unfold Dat.leavesExact; rw [idle7, sent7, after7]
theorem leaves8_last (c : Dev nD) :
    (dats m 0 c).leavesExact 8 last = owns (c : Thread nD τ) (st0_8 last) fullShare (uC m c) := by
  unfold Dat.leavesExact; rw [live8, after8]

set_option maxHeartbeats 14400000 in
theorem sound (c : Dev nD) (t : Fin cfg0.N) :
    pre m c t ⊢ wp frame (wpE (defs₀ (F := F)) Variants.none c none) Set.univ (bodyAt0 t) (fun _ => post m c t) := by
  unfold pre post bodyAt0
  simp only [before0, before1, before2, before3, before4, before5, leaves0, leaves1, leaves2, leaves3, leaves4, leaves5, leaves6, leaves9]
  rw [show (dats m 0 c).Φ t.succ = Phi m c (t.val + 1) from rfl, show (dats m 0 c).Φ t.castSucc = Phi m c t.val from rfl,
    show (dats m 0 c).owesAt () t.succ = (dats m 0 c).owesAt () t.castSucc from rfl]
  by_cases h : t.val < 16
  · rw [leaves7 m c t h, (dats m 0 c).leavesExact_idle 8 t (idle8 t h) (held8 t h),
      Phi_pos m c (t.val + 1) (Nat.succ_ne_zero _) t.val h (by omega)]
    by_cases h0 : t.val = 0
    · rw [Phi_zero m c t.val h0, Phi_any, carry_first m c t h h0, tile6, dif_pos h, dif_pos h0, state, dif_pos h0, tile9, dif_pos h, dif_pos h0]
      unfold yA sA hA kA outA7 outA8 outA10 outA12
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA c (grid0.coords t) _ _ _ _ _ _ _ _ _ _ _ _ _ _ _ _ _ _ _ _ _ _ _ _ (prompt_yes t h) (first_yes t h0) (prompt_no t h) (iblk m c 0 t) (iblk m c 2 t) (X0_3 m c t) (iblk m c 4 t)).2.2.2.2 Set.univ _)
      isplitl [H0]; · iexact H0
      isplitl [H2]; · iexact H2
      isplitl [H3]; · iexact H3
      isplitl [H4]; · iexact H4
      isplitl [H6]; · iexists _; iexact H6
      isplitl [H7]; · iexists _; iexact H7
      isplitl [H9]; · iexists _; iexact H9
      isplitl [HS1]; · iexact HS1
      isplitl [HS0]; · iexact HS0
      iintro ⟨H0, H2, H3, H4, ⟨%e6, H6⟩, ⟨%e7, H7⟩, ⟨%e9, H9⟩, ⟨%es, HS1⟩, HS0⟩
      isplitl [HS0 HS1 Hg]
      · isplitl [HS0 HS1]
        · isplitl [HS0]; · iexact HS0
          unfold owns; iexists _; isplitr
          swap; · iexact HS1
          ipureintro; exact View.read_writes_of_cover _ _ _ _ _ (coverA12 _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverA7 _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverA8 _ _ _ _ _ _ _ _ _ _ _ _ _ _ _ _ _ _ _ _ _ _ _ _ _ _ _ _ _ _ _ _ _)
      isplitl [H8]; · iexists _; iexact H8
      unfold owns; iexists _; isplitr
      swap; · iexact H9
      ipureintro; exact View.read_writes_of_cover _ _ _ _ _ (coverA10 _ _ _ _ _ _ _ _ _ _ _ _ _ _ _ _ _ _ _ _ _ _ _ _ _ _ _ _ _ _ _ _ _)
    · rw [Phi_pos m c t.val h0 (t.val - 1) (by omega) (by omega), carry_later m c t h h0, tile6, dif_pos h, dif_neg h0, state, dif_neg h0, tile9, dif_pos h, dif_neg h0]
      unfold yB sB hB kB outB7 outB8 outB10 outB12
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB c (grid0.coords t) _ _ _ _ _ _ _ _ _ _ _ _ _ _ _ _ _ _ _ _ _ _ _ _ (prompt_yes t h) (first_no t h0) (prompt_no t h) (iblk m c 0 t) (iblk m c 2 t) (X0_3 m c t) (iblk m c 4 t) (before m c t h)).2.2.2.2 Set.univ _)
      isplitl [H0]; · iexact H0
      isplitl [H2]; · iexact H2
      isplitl [H3]; · iexact H3
      isplitl [H4]; · iexact H4
      isplitl [H6]; · iexists _; iexact H6
      isplitl [H7]; · iexists _; iexact H7
      isplitl [H9]; · iexists _; iexact H9
      isplitl [HS1]; · iexact HS1
      isplitl [HS0]; · iexact HS0
      iintro ⟨H0, H2, H3, H4, ⟨%e6, H6⟩, ⟨%e7, H7⟩, ⟨%e9, H9⟩, ⟨%es, HS1⟩, HS0⟩
      isplitl [HS0 HS1 Hg]
      · isplitl [HS0 HS1]
        · isplitl [HS0]; · iexact HS0
          unfold owns; iexists _; isplitr
          swap; · iexact HS1
          ipureintro; exact View.read_writes_of_cover _ _ _ _ _ (coverB12 _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverB7 _ _ _ _ _ _ _ _ _ _ _ _ _ _ _ _ _ _ _ _ _ _ _ _ _ _ _ _ _ _ _ _ _ _)
      isplitl [H7]
      · unfold owns; iexists _; isplitr
        swap; · iexact H7
        ipureintro; exact View.read_writes_of_cover _ _ _ _ _ (coverB8 _ _ _ _ _ _ _ _ _ _ _ _ _ _ _ _ _ _ _ _ _ _ _ _ _ _ _ _ _ _ _ _ _ _)
      isplitl [H8]; · iexists _; iexact H8
      unfold owns; iexists _; isplitr
      swap; · iexact H9
      ipureintro; exact View.read_writes_of_cover _ _ _ _ _ (coverB10 _ _ _ _ _ _ _ _ _ _ _ _ _ _ _ _ _ _ _ _ _ _ _ _ _ _ _ _ _ _ _ _ _ _)
  · obtain rfl := eq_last t h
    rw [leaves7_last, leaves8_last, Phi_pos m c 16 (by decide) 15 (by decide) (by decide), Phi_pos m c (16 + 1) (by decide) 15 (by decide) (by decide), tile6, dif_neg h, tile9, dif_neg h]
    simp only [before7]
    unfold yC uC hC outC7 outC9 outC10
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runC c (grid0.coords last) _ _ _ _ _ _ _ _ _ _ _ _ _ _ _ _ _ _ _ _ _ _ _ _ sample_no sample_yes (iblk m c 1 last) (iblk m c 2 last) (X0_3 m c last) (iblk m c 4 last) (iblk m c 5 last)).2.2.2 Set.univ _)
    isplitl [H1]; · iexact H1
    isplitl [H2]; · iexact H2
    isplitl [H3]; · iexact H3
    isplitl [H4]; · iexact H4
    isplitl [H5]; · iexact H5
    isplitl [H6]; · iexists _; iexact H6
    isplitl [H8]; · iexists _; iexact H8
    isplitl [H9]; · iexists _; iexact H9
    iintro ⟨H1, H2, H3, H4, H5, ⟨%e6, H6⟩, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (coverC7 _ _ _ _ _ _ _ _ _ _ _ _ _ _ _ _ _ _ _ _ _ _ _ _ _ _ _ _ _ _ _ _ _)
    isplitl [H7]; · iexact H7
    isplitl [H8]
    · unfold owns; iexists _; isplitr
      swap; · iexact H8
      ipureintro; exact View.read_writes_of_cover _ _ _ _ _ (coverC9 _ _ _ _ _ _ _ _ _ _ _ _ _ _ _ _ _ _ _ _ _ _ _ _ _ _ _ _ _ _ _ _ _)
    unfold owns; iexists _; isplitr
    swap; · iexact H9
    ipureintro; exact View.read_writes_of_cover _ _ _ _ _ (coverC10 _ _ _ _ _ _ _ _ _ _ _ _ _ _ _ _ _ _ _ _ _ _ _ _ _ _ _ _ _ _ _ _ _)

theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row]
  exact triple_restated (sound m c t) rfl .rfl fun _ => .rfl

/-! ## The run -/

theorem enter (c : Dev nD) : Pipeline.ΦA spec0 c ⊢ (dats (F := F) m 0 c).Φ 0 := by
  rw [show (dats (F := F) m 0 c).Φ 0 = Phi m c 0 from rfl, Phi_zero m c 0 rfl]
  try exact Idealize.SL.BI.Entails.refl _

theorem leave (c : Dev nD) : (dats (F := F) m 0 c).Φ (Fin.last cfg0.N) ⊢ Pipeline.ΦA spec0 c := by
  rw [show (dats (F := F) m 0 c).Φ (Fin.last cfg0.N) = Phi m c cfg0.N from rfl,
    Phi_pos m c cfg0.N (by have : cfg0.N = 17 := N_0; omega) 15 (by decide) (by have : cfg0.N = 17 := N_0; omega), Phi_any]
  iintro ⟨⟨HS0, HS1⟩, Hg⟩
  isplitl [HS0 HS1]
  · isplitl [HS0]
    · iexact HS0
    iexists _; iexact HS1
  iexact Hg

set_option backward.isDefEq.respectTransparency.types false in
theorem run_quiet : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := enter m) (hout := leave m)

theorem run : θ_run defs (onTc (τ := τ) (main (F := F))) (s₀ m ρ) (Pipeline.FramePost cfgs (dats m) 0 (V m)) :=
  (θ_run defs _ _).mono (fun _ h => h.1) (run_quiet m ρ)

/-- The frame: the arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run m ρ)) ((θ_run defs _ _).mono (fun _ h => h.2) (run_quiet m ρ))

end Cert.Kernel4Ideal.Body
end
-- ==== Proof.ConvA.Spec.lean ====
module

public import proofs.«01_k».proof.Proof.Cmlp.Spec

/-!
The mathematics of the gated short convolution, one row at a time, over the extended reals: four projections of the
normalised row, the product that is convolved, and the gated output.
-/

@[expose] public section
set_option maxRecDepth 16384
noncomputable section
namespace Cert.ConvA
open Idealize.ShloMosaic Idealize.ShloMosaic.TcCoe Idealize.SL.Sem
open Cert.Cmlp

/-- Column `j` of the `q`-th of the four projections. -/
def col (W : Fin 2048 → Fin 4096 → EReal) (q : ℕ) (hq : q < 4) (j : Fin 1024) (k : Fin 2048) : EReal := W k ⟨1024 * q + j, by omega⟩

/-- The product of the second and third projections of a row, which is what the convolution runs over. -/
def sR (h : Fin 2048 → EReal) (W : Fin 2048 → Fin 4096 → EReal) (j : Fin 1024) : EReal :=
  dotR h (col W 1 (by decide) j) * dotR h (col W 2 (by decide) j)

/-- A row's gated output from the product two rows back, one row back and at the row. -/
def yR (h : Fin 2048 → EReal) (W : Fin 2048 → Fin 4096 → EReal) (cw : Fin 3 → Fin 1024 → EReal) (j : Fin 1024)
    (p2 p1 s : EReal) : EReal :=
  dotR h (col W 0 (by decide) j) * (p2 * cw 0 j + p1 * cw 1 j + s * cw 2 j) * silu (dotR h (col W 3 (by decide) j))

theorem sR_eq (W : Fin 2048 → Fin 4096 → EReal) (h : Fin 2048 → EReal) (n1 n2 : Fin 4096) (j : Fin 1024)
    (h1 : (n1 : ℕ) = 1024 * 1 + j) (h2 : (n2 : ℕ) = 1024 * 2 + j) :
    dotR h (fun k => W k n1) * dotR h (fun k => W k n2) = sR h W j := by
  obtain ⟨n1, l1⟩ := n1
  obtain ⟨n2, l2⟩ := n2
  simp only at h1 h2
  subst h1 h2
  rfl

theorem yR_eq {h : Fin 2048 → EReal} {W : Fin 2048 → Fin 4096 → EReal} {cw : Fin 3 → Fin 1024 → EReal} {j : Fin 1024}
    {p2 p1 s a q2 u q1 v t w g : EReal} (ha : a = dotR h (col W 0 (by decide) j)) (hp : q2 = p2) (hu : u = cw 0 j) (hq : q1 = p1)
    (hv : v = cw 1 j) (hs : t = s) (hw : w = cw 2 j) (hg : g = dotR h (col W 3 (by decide) j)) :
    a * (q2 * u + q1 * v + t * w) * silu g = yR h W cw j p2 p1 s := by
  subst ha hp hu hq hv hs hw hg; rfl

/-- The product `d` rows back in a tile of 512 rows `H`, out of the eight carried rows `K` when the tile does not reach that far. -/
def back (d : ℕ) (hd : d ≤ 8) (H : Fin 512 → Fin 2048 → EReal) (W : Fin 2048 → Fin 4096 → EReal) (K : Fin 8 → Fin 1024 → EReal)
    (r : Fin 512) (j : Fin 1024) : EReal :=
  if h : d ≤ (r : ℕ) then sR (H ⟨r - d, by omega⟩) W j else K ⟨8 + r - d, by omega⟩ j

end Cert.ConvA
end
-- ==== Proof.ConvA.Pay.lean ====
module

public import proofs.«01_k».proof.Proof.ConvA.Body
public import proofs.«01_k».proof.Proof.ConvA.Spec

/-!
The values the body computes for a tile of 512 prompt rows, read at an index.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

/-- A load of 512 rows that starts `d` rows before the stored tile reads the tile `d` rows back, and the eight rows before it. -/
theorem shift_at (v : Memref sig .tc .vmem S520x256 .f32) (P : Vec Ideal S512x256 .f32) (Q : Vec Ideal S8x256 .f32)
    (R : List (View.Piece (Elt Ideal) S520x256 .f32)) (o d : ℕ) (hd : o + d = 8)
    (i1 : ∀ a, (![8, 0] : Fin 2 → ℕ) a + S512x256.size a ≤ S520x256.size a)
    (i2 : ∀ a, (![0, 0] : Fin 2 → ℕ) a + S8x256.size a ≤ S520x256.size a)
    (i3 : ∀ a, (![o, 0] : Fin 2 → ℕ) a + S512x256.size a ≤ S520x256.size a) (r : Fin 512) (x : Fin 256) :
    v.view.readCov ((⟨Rect.unit (s := S520x256) ![8, 0] S512x256.size i1, P⟩ : View.Piece (Elt Ideal) S520x256 .f32)
        :: ⟨Rect.unit (s := S520x256) ![0, 0] S8x256.size i2, Q⟩ :: R)
        (Rect.unit (s := S520x256) ![o, 0] S512x256.size i3).toLoadRect (ix2 r x)
      = if h : d ≤ (r : ℕ) then P (ix2 ⟨r - d, by omega⟩ x) else Q (ix2 ⟨8 + r - d, by omega⟩ x) := by
  rw [View.readCov_eq_canon']
  split
  next h =>
    have e : (Rect.unit (s := S520x256) ![o, 0] S512x256.size i3).toLoadRect.idx (ix2 r x : S512x256.Idx)
        = (Rect.unit (s := S520x256) ![8, 0] S512x256.size i1).emb (ix2 ⟨r - d, by omega⟩ x : S512x256.Idx) := by
      funext a; apply Fin.ext
      fin_cases a
      · show o + 1 * (r : ℕ) = 8 + 1 * (r - d); omega
      · show 0 + 1 * (x : ℕ) = 0 + 1 * (x : ℕ); rfl
    exact (congrArg (View.canon (Val := Elt Ideal) _) e).trans (View.canon_cons_emb (Val := Elt Ideal) (e := .f32) (Rect.unit (s := S520x256) ![8, 0] S512x256.size i1) P (⟨Rect.unit (s := S520x256) ![0, 0] S8x256.size i2, Q⟩ :: R) (ix2 ⟨r - d, by omega⟩ x : S512x256.Idx))
  next h =>
    have e : (Rect.unit (s := S520x256) ![o, 0] S512x256.size i3).toLoadRect.idx (ix2 r x : S512x256.Idx)
        = (Rect.unit (s := S520x256) ![0, 0] S8x256.size i2).emb (ix2 ⟨8 + r - d, by omega⟩ x : S8x256.Idx) := by
      funext a; apply Fin.ext
      fin_cases a
      · show o + 1 * (r : ℕ) = 0 + 1 * (8 + r - d); omega
      · show 0 + 1 * (x : ℕ) = 0 + 1 * (x : ℕ); rfl
    refine (View.canon_cons_of_not_mem _ _ ?_).trans
      ((congrArg (View.canon (Val := Elt Ideal) _) e).trans (View.canon_cons_emb (Val := Elt Ideal) (e := .f32) (Rect.unit (s := S520x256) ![0, 0] S8x256.size i2) Q R (ix2 ⟨8 + r - d, by omega⟩ x : S8x256.Idx)))
    intro hm
    obtain ⟨k, hk, he⟩ := (LoadRect.mem_set _).mp hm (0 : Fin 2)
    have he' : o + 1 * (r : ℕ) = 8 + 1 * k := he
    omega

theorem ld_cw (Cw : Vec Ideal S3x1024 .f32) (o p : ℕ) (a : Fin 3) (j : Fin 1024) (x : Fin 256)
    (inb : ∀ a, (![o, p] : Fin 2 → ℕ) a + S1x256.size a ≤ S3x1024.size a) (ha : o = a) (hj : p + x = j) :
    View.ld Cw (Rect.unit (s := S3x1024) ![o, p] S1x256.size inb) (ix2 (0 : Fin 1) x : S1x256.Idx) = Cw (ix2 a j) := by
  refine congrArg Cw ?_
  funext b; apply Fin.ext
  fin_cases b
  · show o + 1 * 0 = (a : ℕ); omega
  · show p + 1 * (x : ℕ) = j; omega

theorem ld_ks (Ks : Vec Ideal S8x1024 .f32) (p : ℕ) (r : Fin 8) (j : Fin 1024) (x : Fin 256)
    (inb : ∀ a, (![0, p] : Fin 2 → ℕ) a + S8x256.size a ≤ S8x1024.size a) (hj : p + x = j) :
    View.ld Ks (Rect.unit (s := S8x1024) ![0, p] S8x256.size inb) (ix2 r x : S8x256.Idx) = Ks (ix2 r j) := by
  refine congrArg Ks ?_
  funext b; apply Fin.ext
  fin_cases b
  · show 0 + 1 * (r : ℕ) = r; omega
  · show p + 1 * (x : ℕ) = j; omega

/-- The carried rows of one group of columns are not touched by what an earlier group stored, -/
theorem skip_cols (Q : Vec Ideal S8x256 .f32) (L : List (View.Piece (Elt Ideal) S8x1024 .f32)) (o p : ℕ) (h : o + 256 ≤ p)
    (i1 : ∀ a, (![0, o] : Fin 2 → ℕ) a + S8x256.size a ≤ S8x1024.size a)
    (i2 : ∀ a, (![0, p] : Fin 2 → ℕ) a + S8x256.size a ≤ S8x1024.size a) (r : Fin 8) (x : Fin 256) :
    View.canon ((⟨Rect.unit (s := S8x1024) ![0, o] S8x256.size i1, Q⟩ : View.Piece (Elt Ideal) S8x1024 .f32) :: L)
        ((Rect.unit (s := S8x1024) ![0, p] S8x256.size i2).toLoadRect.idx (ix2 r x : S8x256.Idx))
      = View.canon L ((Rect.unit (s := S8x1024) ![0, p] S8x256.size i2).toLoadRect.idx (ix2 r x : S8x256.Idx)) := by
  refine View.canon_cons_of_not_mem _ _ ?_
  intro hm
  obtain ⟨k, hk, he⟩ := (LoadRect.mem_set _).mp hm (1 : Fin 2)
  have he' : p + 1 * (x : ℕ) = o + 1 * k := he
  have hk' : k < 256 := hk
  omega

/-- and were cleared before. -/
theorem zero_at (i1 : ∀ a, (![0, 0] : Fin 2 → ℕ) a + S8x1024.size a ≤ S8x1024.size a) (y : S8x1024.Idx) :
    View.canon [(⟨Rect.unit (s := S8x1024) ![0, 0] S8x1024.size i1, k0_pay5 (F := Ideal)⟩ : View.Piece (Elt Ideal) S8x1024 .f32)] y = (0 : EReal) := by
  rw [View.canon_cons_unit_lit i1 _ _ (by decide)]
  idx_vars y
  pointwise [k0_pay5]

theorem norm_at (X : Vec Ideal S512x2048 .f32) (G : Vec Ideal S1x2048 .f32) (r : Fin 512) (d : Fin 2048) :
    k0_pay4 X G (ix2 r d) = rmsR (fun k => X (ix2 r k)) (fun k => G (ix2 0 k)) d := by
  unfold rmsR
  pointwise [k0_pay4]

/-- A row of `H` against a group of 256 columns is its projection in those columns. -/
theorem dot_col (X4 : Vec Ideal S2048x4096 .f32) (h : Fin 2048 → EReal) (o q : ℕ) (hq : q < 4) (j : Fin 1024) (x : Fin 256)
    (inb : ∀ a, (![0, o] : Fin 2 → ℕ) a + S2048x256.size a ≤ S2048x4096.size a) (hj : o + x = 1024 * q + j) :
    dotR h (fun k => View.ld X4 (Rect.unit (s := S2048x4096) ![0, o] S2048x256.size inb) (ix2 k x))
      = dotR h (col (fun k n => X4 (ix2 k n)) q hq j) := by
  refine congrArg (dotR h) (funext fun k => ?_)
  unfold col
  refine congrArg X4 ?_
  funext a; apply Fin.ext
  fin_cases a
  · show 0 + 1 * (k : ℕ) = k; omega
  · show o + 1 * (x : ℕ) = 1024 * q + j; omega

theorem p6_at (H : FVec Ideal S512x2048 .bf16) (u : Vec Ideal S2048x256 .f32) (r : Fin 512) (x : Fin 256) :
    k0_pay6 H u (ix2 r x) = dotR (fun k => H (ix2 r k)) (fun k => u (ix2 k x)) := by
  unfold dotR; pointwise [k0_pay6]
theorem p7_at (H : FVec Ideal S512x2048 .bf16) (u : Vec Ideal S2048x256 .f32) (r : Fin 512) (x : Fin 256) :
    k0_pay7 H u (ix2 r x) = dotR (fun k => H (ix2 r k)) (fun k => u (ix2 k x)) := by
  unfold dotR; pointwise [k0_pay7]
theorem p14_at (H : FVec Ideal S512x2048 .bf16) (u : Vec Ideal S2048x256 .f32) (r : Fin 512) (x : Fin 256) :
    k0_pay14 H u (ix2 r x) = dotR (fun k => H (ix2 r k)) (fun k => u (ix2 k x)) := by
  unfold dotR; pointwise [k0_pay14]
theorem p15_at (H : FVec Ideal S512x2048 .bf16) (u : Vec Ideal S2048x256 .f32) (r : Fin 512) (x : Fin 256) :
    k0_pay15 H u (ix2 r x) = dotR (fun k => H (ix2 r k)) (fun k => u (ix2 k x)) := by
  unfold dotR; pointwise [k0_pay15]
theorem p22_at (H : FVec Ideal S512x2048 .bf16) (u : Vec Ideal S2048x256 .f32) (r : Fin 512) (x : Fin 256) :
    k0_pay22 H u (ix2 r x) = dotR (fun k => H (ix2 r k)) (fun k => u (ix2 k x)) := by
  unfold dotR; pointwise [k0_pay22]
theorem p23_at (H : FVec Ideal S512x2048 .bf16) (u : Vec Ideal S2048x256 .f32) (r : Fin 512) (x : Fin 256) :
    k0_pay23 H u (ix2 r x) = dotR (fun k => H (ix2 r k)) (fun k => u (ix2 k x)) := by
  unfold dotR; pointwise [k0_pay23]
theorem p31_at (H : FVec Ideal S512x2048 .bf16) (u : Vec Ideal S2048x256 .f32) (r : Fin 512) (x : Fin 256) :
    k0_pay31 H u (ix2 r x) = dotR (fun k => H (ix2 r k)) (fun k => u (ix2 k x)) := by
  unfold dotR; pointwise [k0_pay31]
theorem p32_at (H : FVec Ideal S512x2048 .bf16) (u : Vec Ideal S2048x256 .f32) (r : Fin 512) (x : Fin 256) :
    k0_pay32 H u (ix2 r x) = dotR (fun k => H (ix2 r k)) (fun k => u (ix2 k x)) := by
  unfold dotR; pointwise [k0_pay32]
theorem p45_at (H : FVec Ideal S512x2048 .bf16) (u : Vec Ideal S2048x256 .f32) (r : Fin 512) (x : Fin 256) :
    k0_pay45 H u (ix2 r x) = dotR (fun k => H (ix2 r k)) (fun k => u (ix2 k x)) := by
  unfold dotR; pointwise [k0_pay45]
theorem p46_at (H : FVec Ideal S512x2048 .bf16) (u : Vec Ideal S2048x256 .f32) (r : Fin 512) (x : Fin 256) :
    k0_pay46 H u (ix2 r x) = dotR (fun k => H (ix2 r k)) (fun k => u (ix2 k x)) := by
  unfold dotR; pointwise [k0_pay46]
theorem p53_at (H : FVec Ideal S512x2048 .bf16) (u : Vec Ideal S2048x256 .f32) (r : Fin 512) (x : Fin 256) :
    k0_pay53 H u (ix2 r x) = dotR (fun k => H (ix2 r k)) (fun k => u (ix2 k x)) := by
  unfold dotR; pointwise [k0_pay53]
theorem p54_at (H : FVec Ideal S512x2048 .bf16) (u : Vec Ideal S2048x256 .f32) (r : Fin 512) (x : Fin 256) :
    k0_pay54 H u (ix2 r x) = dotR (fun k => H (ix2 r k)) (fun k => u (ix2 k x)) := by
  unfold dotR; pointwise [k0_pay54]
theorem p61_at (H : FVec Ideal S512x2048 .bf16) (u : Vec Ideal S2048x256 .f32) (r : Fin 512) (x : Fin 256) :
    k0_pay61 H u (ix2 r x) = dotR (fun k => H (ix2 r k)) (fun k => u (ix2 k x)) := by
  unfold dotR; pointwise [k0_pay61]
theorem p62_at (H : FVec Ideal S512x2048 .bf16) (u : Vec Ideal S2048x256 .f32) (r : Fin 512) (x : Fin 256) :
    k0_pay62 H u (ix2 r x) = dotR (fun k => H (ix2 r k)) (fun k => u (ix2 k x)) := by
  unfold dotR; pointwise [k0_pay62]
theorem p72_at (H : FVec Ideal S512x2048 .bf16) (u : Vec Ideal S2048x256 .f32) (r : Fin 512) (x : Fin 256) :
    k0_pay72 H u (ix2 r x) = dotR (fun k => H (ix2 r k)) (fun k => u (ix2 k x)) := by
  unfold dotR; pointwise [k0_pay72]
theorem p73_at (H : FVec Ideal S512x2048 .bf16) (u : Vec Ideal S2048x256 .f32) (r : Fin 512) (x : Fin 256) :
    k0_pay73 H u (ix2 r x) = dotR (fun k => H (ix2 r k)) (fun k => u (ix2 k x)) := by
  unfold dotR; pointwise [k0_pay73]
theorem p8_at (H : FVec Ideal S512x2048 .bf16) (u v : Vec Ideal S2048x256 .f32) (r : Fin 512) (x : Fin 256) :
    k0_pay8 H u v (ix2 r x) = dotR (fun k => H (ix2 r k)) (fun k => u (ix2 k x)) * dotR (fun k => H (ix2 r k)) (fun k => v (ix2 k x)) := by
  unfold dotR; pointwise [k0_pay8]
theorem p16_at (H : FVec Ideal S512x2048 .bf16) (u v : Vec Ideal S2048x256 .f32) (r : Fin 512) (x : Fin 256) :
    k0_pay16 H u v (ix2 r x) = dotR (fun k => H (ix2 r k)) (fun k => u (ix2 k x)) * dotR (fun k => H (ix2 r k)) (fun k => v (ix2 k x)) := by
  unfold dotR; pointwise [k0_pay16]
theorem p24_at (H : FVec Ideal S512x2048 .bf16) (u v : Vec Ideal S2048x256 .f32) (r : Fin 512) (x : Fin 256) :
    k0_pay24 H u v (ix2 r x) = dotR (fun k => H (ix2 r k)) (fun k => u (ix2 k x)) * dotR (fun k => H (ix2 r k)) (fun k => v (ix2 k x)) := by
  unfold dotR; pointwise [k0_pay24]
theorem p33_at (H : FVec Ideal S512x2048 .bf16) (u v : Vec Ideal S2048x256 .f32) (r : Fin 512) (x : Fin 256) :
    k0_pay33 H u v (ix2 r x) = dotR (fun k => H (ix2 r k)) (fun k => u (ix2 k x)) * dotR (fun k => H (ix2 r k)) (fun k => v (ix2 k x)) := by
  unfold dotR; pointwise [k0_pay33]
theorem p47_at (H : FVec Ideal S512x2048 .bf16) (u v : Vec Ideal S2048x256 .f32) (r : Fin 512) (x : Fin 256) :
    k0_pay47 H u v (ix2 r x) = dotR (fun k => H (ix2 r k)) (fun k => u (ix2 k x)) * dotR (fun k => H (ix2 r k)) (fun k => v (ix2 k x)) := by
  unfold dotR; pointwise [k0_pay47]
theorem p55_at (H : FVec Ideal S512x2048 .bf16) (u v : Vec Ideal S2048x256 .f32) (r : Fin 512) (x : Fin 256) :
    k0_pay55 H u v (ix2 r x) = dotR (fun k => H (ix2 r k)) (fun k => u (ix2 k x)) * dotR (fun k => H (ix2 r k)) (fun k => v (ix2 k x)) := by
  unfold dotR; pointwise [k0_pay55]
theorem p63_at (H : FVec Ideal S512x2048 .bf16) (u v : Vec Ideal S2048x256 .f32) (r : Fin 512) (x : Fin 256) :
    k0_pay63 H u v (ix2 r x) = dotR (fun k => H (ix2 r k)) (fun k => u (ix2 k x)) * dotR (fun k => H (ix2 r k)) (fun k => v (ix2 k x)) := by
  unfold dotR; pointwise [k0_pay63]
theorem p74_at (H : FVec Ideal S512x2048 .bf16) (u v : Vec Ideal S2048x256 .f32) (r : Fin 512) (x : Fin 256) :
    k0_pay74 H u v (ix2 r x) = dotR (fun k => H (ix2 r k)) (fun k => u (ix2 k x)) * dotR (fun k => H (ix2 r k)) (fun k => v (ix2 k x)) := by
  unfold dotR; pointwise [k0_pay74]
theorem p10_at (H : FVec Ideal S512x2048 .bf16) (u v : Vec Ideal S2048x256 .f32) (r : Fin 512) (x : Fin 256) :
    k0_pay10 H u v (ix2 r x) = dotR (fun k => H (ix2 r k)) (fun k => u (ix2 k x)) * dotR (fun k => H (ix2 r k)) (fun k => v (ix2 k x)) := by
  pointwise [k0_pay10, p8_at]
theorem p26_at (H : FVec Ideal S512x2048 .bf16) (u v : Vec Ideal S2048x256 .f32) (r : Fin 512) (x : Fin 256) :
    k0_pay26 H u v (ix2 r x) = dotR (fun k => H (ix2 r k)) (fun k => u (ix2 k x)) * dotR (fun k => H (ix2 r k)) (fun k => v (ix2 k x)) := by
  pointwise [k0_pay26, p24_at]
theorem p35_at (H : FVec Ideal S512x2048 .bf16) (u v : Vec Ideal S2048x256 .f32) (r : Fin 512) (x : Fin 256) :
    k0_pay35 H u v (ix2 r x) = dotR (fun k => H (ix2 r k)) (fun k => u (ix2 k x)) * dotR (fun k => H (ix2 r k)) (fun k => v (ix2 k x)) := by
  pointwise [k0_pay35, p33_at]
theorem p18_at (S : FVec Ideal S512x256 .f32) (r : Fin 512) (x : Fin 256) : k0_pay18 S (ix2 r x) = S (ix2 r x) := by
  pointwise [k0_pay18]
theorem p9_at (K : Vec Ideal S8x256 .f32) (r : Fin 8) (x : Fin 256) : k0_pay9 K (ix2 r x) = K (ix2 r x) := by
  pointwise [k0_pay9]
theorem p17_at (K : Vec Ideal S8x256 .f32) (r : Fin 8) (x : Fin 256) : k0_pay17 K (ix2 r x) = K (ix2 r x) := by
  pointwise [k0_pay17]
theorem p25_at (K : Vec Ideal S8x256 .f32) (r : Fin 8) (x : Fin 256) : k0_pay25 K (ix2 r x) = K (ix2 r x) := by
  pointwise [k0_pay25]
theorem p34_at (K : Vec Ideal S8x256 .f32) (r : Fin 8) (x : Fin 256) : k0_pay34 K (ix2 r x) = K (ix2 r x) := by
  pointwise [k0_pay34]
theorem p3_at (A D S P1 P2 : FVec Ideal S512x256 .f32) (w0 w1 w2 : Vec Ideal S1x256 .f32) (r : Fin 512) (x : Fin 256) :
    k0_pay3 A D S P1 P2 w0 w1 w2 (ix2 r x)
      = A (ix2 r x) * (P2 (ix2 r x) * w0 (ix2 0 x) + P1 (ix2 r x) * w1 (ix2 0 x) + S (ix2 r x) * w2 (ix2 0 x)) * silu (D (ix2 r x)) := by
  unfold silu; pointwise [k0_pay3]
theorem p13_at (A D S P1 P2 : FVec Ideal S512x256 .f32) (w0 w1 w2 : Vec Ideal S1x256 .f32) (r : Fin 512) (x : Fin 256) :
    k0_pay13 A D S P1 P2 w0 w1 w2 (ix2 r x)
      = A (ix2 r x) * (P2 (ix2 r x) * w0 (ix2 0 x) + P1 (ix2 r x) * w1 (ix2 0 x) + S (ix2 r x) * w2 (ix2 0 x)) * silu (D (ix2 r x)) := by
  unfold silu; pointwise [k0_pay13]
theorem p21_at (A D S P1 P2 : FVec Ideal S512x256 .f32) (w0 w1 w2 : Vec Ideal S1x256 .f32) (r : Fin 512) (x : Fin 256) :
    k0_pay21 A D S P1 P2 w0 w1 w2 (ix2 r x)
      = A (ix2 r x) * (P2 (ix2 r x) * w0 (ix2 0 x) + P1 (ix2 r x) * w1 (ix2 0 x) + S (ix2 r x) * w2 (ix2 0 x)) * silu (D (ix2 r x)) := by
  unfold silu; pointwise [k0_pay21]
theorem p30_at (A D S P1 P2 : FVec Ideal S512x256 .f32) (w0 w1 w2 : Vec Ideal S1x256 .f32) (r : Fin 512) (x : Fin 256) :
    k0_pay30 A D S P1 (k0_pay29 P2 w0) w1 w2 (ix2 r x)
      = A (ix2 r x) * (P2 (ix2 r x) * w0 (ix2 0 x) + P1 (ix2 r x) * w1 (ix2 0 x) + S (ix2 r x) * w2 (ix2 0 x)) * silu (D (ix2 r x)) := by
  unfold silu; pointwise [k0_pay30, k0_pay29]

end Cert.ConvA
end
-- ==== Proof.ConvA.TileA.lean ====
module

public import proofs.«01_k».proof.Proof.ConvA.Pay

/-!
The first tile of 512 prompt rows: what it leaves in each output; the rows before it are zero.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

/-- Four stores side by side into the eight rows leave nothing of what was stored before them. -/
theorem drop_last (Q3 Q2 Q1 Q0 : Vec Ideal S8x256 .f32) (R : List (View.Piece (Elt Ideal) S8x1024 .f32))
    (i3 : ∀ a, (![0, 768] : Fin 2 → ℕ) a + S8x256.size a ≤ S8x1024.size a)
    (i2 : ∀ a, (![0, 512] : Fin 2 → ℕ) a + S8x256.size a ≤ S8x1024.size a)
    (i1 : ∀ a, (![0, 256] : Fin 2 → ℕ) a + S8x256.size a ≤ S8x1024.size a)
    (i0 : ∀ a, (![0, 0] : Fin 2 → ℕ) a + S8x256.size a ≤ S8x1024.size a) (a : Fin 8) (j : Fin 1024) :
    View.canon ((⟨Rect.unit (s := S8x1024) ![0, 768] S8x256.size i3, Q3⟩ : View.Piece (Elt Ideal) S8x1024 .f32)
        :: ⟨Rect.unit (s := S8x1024) ![0, 512] S8x256.size i2, Q2⟩ :: ⟨Rect.unit (s := S8x1024) ![0, 256] S8x256.size i1, Q1⟩
        :: ⟨Rect.unit (s := S8x1024) ![0, 0] S8x256.size i0, Q0⟩ :: R) (ix2 a j : S8x1024.Idx)
      = View.canon [(⟨Rect.unit (s := S8x1024) ![0, 768] S8x256.size i3, Q3⟩ : View.Piece (Elt Ideal) S8x1024 .f32),
        ⟨Rect.unit (s := S8x1024) ![0, 512] S8x256.size i2, Q2⟩, ⟨Rect.unit (s := S8x1024) ![0, 256] S8x256.size i1, Q1⟩,
        ⟨Rect.unit (s := S8x1024) ![0, 0] S8x256.size i0, Q0⟩] (ix2 a j : S8x1024.Idx) := by
  have step : ∀ (p : View.Piece (Elt Ideal) S8x1024 .f32) (L L' : List (View.Piece (Elt Ideal) S8x1024 .f32)) (y : S8x1024.Idx),
      (y ∉ p.1.set → View.canon L y = View.canon L' y) → View.canon (p :: L) y = View.canon (p :: L') y := by
    intro p L L' y h
    by_cases hy : y ∈ p.1.set
    · obtain ⟨x, rfl⟩ := p.1.exists_idx_of_mem hy
      exact (View.canon_cons_emb p.1 p.2 L x).trans (View.canon_cons_emb p.1 p.2 L' x).symm
    · rw [View.canon_cons_of_not_mem _ _ hy, View.canon_cons_of_not_mem _ _ hy]
      exact h hy
  have inside : ∀ (o : ℕ) (i : ∀ a, (![0, o] : Fin 2 → ℕ) a + S8x256.size a ≤ S8x1024.size a), o ≤ (j : ℕ) → (j : ℕ) < o + 256 →
      (ix2 a j : S8x1024.Idx) ∈ (Rect.unit (s := S8x1024) ![0, o] S8x256.size i).toLoadRect.set := by
    intro o i h1 h2
    refine (LoadRect.mem_set _).mpr fun b => ?_
    fin_cases b
    · exact ⟨a, a.2, (by show (a : ℕ) = 0 + 1 * (a : ℕ); omega)⟩
    · exact ⟨j - o, (by show (j : ℕ) - o < 256; omega), (by show (j : ℕ) = o + 1 * ((j : ℕ) - o); omega)⟩
  refine step _ _ _ _ fun h3 => step _ _ _ _ fun h2 => step _ _ _ _ fun h1 => step _ _ _ _ fun h0 => ?_
  exfalso
  have := j.2
  by_cases c3 : 768 ≤ (j : ℕ)
  · exact h3 (inside _ i3 c3 (by omega))
  by_cases c2 : 512 ≤ (j : ℕ)
  · exact h2 (inside _ i2 c2 (by omega))
  by_cases c1 : 256 ≤ (j : ℕ)
  · exact h1 (inside _ i1 c1 (by omega))
  · exact h0 (inside _ i0 (by omega) (by omega))

theorem outA10_eq (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1) (X : Vec Ideal S512x2048 .f32) (G : Vec Ideal S1x2048 .f32) (W : Vec Ideal S2048x4096 .f32) (Cw : Vec Ideal S3x1024 .f32) :
    outA10 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw = k0_pay4 X G := by
  frame_out

set_option maxHeartbeats 4000000 in
theorem outA12_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1) (X : Vec Ideal S512x2048 .f32) (G : Vec Ideal S1x2048 .f32) (W : Vec Ideal S2048x4096 .f32) (Cw : Vec Ideal S3x1024 .f32) (a : Fin 8) (j : Fin 1024) :
    outA12 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw (ix2 a j)
      = sR (fun k => k0_pay4 X G (ix2 ⟨504 + a, by omega⟩ k)) (fun k j => W (ix2 k j)) j := by
  frame_out
  refine (drop_last _ _ _ _ _ _ _ _ _ _ _).trans ?_
  generalize k0_pay4 (F := Ideal) _ _ = H
  canon_tiles x h
  all_goals
    idx_vars x
    pointwise [k0_pay1, k0_pay11, k0_pay19, k0_pay27, p8_at, p16_at, p24_at, p33_at]
    obtain rfl := Fin.ext h0
    unfold sR col
    refine congrArg₂ (fun a b : EReal => a * b) (congrArg (dotR _) (funext fun k => congrArg W ?_))
      (congrArg (dotR _) (funext fun k => congrArg W ?_))
    · blk_ext
    · blk_ext

set_option maxHeartbeats 4000000 in
theorem outA8_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1) (X : Vec Ideal S512x2048 .f32) (G : Vec Ideal S1x2048 .f32) (W : Vec Ideal S2048x4096 .f32) (Cw : Vec Ideal S3x1024 .f32) (a : Fin 2) (j : Fin 1024) :
    outA8 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw (ix3 0 a j)
      = sR (fun k => k0_pay4 X G (ix2 ⟨510 + a, by omega⟩ k)) (fun k j => W (ix2 k j)) j := by
  frame_out
  generalize k0_pay4 (F := Ideal) _ _ = H
  canon_tiles x h
  all_goals
    idx_vars x
    pointwise [k0_pay2, k0_pay12, k0_pay20, k0_pay28, p8_at, p16_at, p24_at, p33_at]
    obtain rfl := Fin.ext h1
    unfold sR col
    refine congrArg₂ (fun a b : EReal => a * b) (congrArg (dotR _) (funext fun k => congrArg W ?_))
      (congrArg (dotR _) (funext fun k => congrArg W ?_))
    · blk_ext
    · blk_ext

set_option maxHeartbeats 4000000 in
theorem outA7_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : first i) (hc2 : ¬k0_cond3 i = 1#1) (X : Vec Ideal S512x2048 .f32) (G : Vec Ideal S1x2048 .f32) (W : Vec Ideal S2048x4096 .f32) (Cw : Vec Ideal S3x1024 .f32) (r : Fin 512) (j : Fin 1024) :
    outA7 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw (ix2 r j)
      = yR (fun k => k0_pay4 X G (ix2 r k)) (fun k j => W (ix2 k j)) (fun a j => Cw (ix2 a j)) j
          (back 2 (by decide) (fun r k => k0_pay4 X G (ix2 r k)) (fun k j => W (ix2 k j)) (fun _ _ => 0) r j) (back 1 (by decide) (fun r k => k0_pay4 X G (ix2 r k)) (fun k j => W (ix2 k j)) (fun _ _ => 0) r j) (sR (fun k => k0_pay4 X G (ix2 r k)) (fun k j => W (ix2 k j)) j) := by
  frame_out
  generalize k0_pay4 (F := Ideal) _ _ = H
  canon_tiles x h
  all_goals
    idx_vars x
    obtain rfl : r = x0 := Fin.ext h0
    simp only [p13_at, p21_at, p30_at, p3_at]
    refine yR_eq ?_ ?_ ?_ ?_ ?_ ?_ ?_ ?_
    · simp only [p6_at, p14_at, p22_at, p31_at]
      exact dot_col _ _ _ _ _ _ _ _ (by omega)
    · rw [shift_at _ _ _ _ 6 2 rfl]
      unfold back
      by_cases hd : 2 ≤ (r : ℕ)
      · rw [dif_pos hd, dif_pos hd]
        simp only [p10_at, p18_at, p26_at, p35_at, p16_at]
        unfold sR
        exact congrArg₂ (fun a b : EReal => a * b) (dot_col _ _ _ _ _ _ _ _ (by omega)) (dot_col _ _ _ _ _ _ _ _ (by omega))
      · rw [dif_neg hd, dif_neg hd]
        simp only [p9_at, p17_at, p25_at, p34_at]
        rw [View.readCov_eq_canon']
        repeat refine (skip_cols _ _ _ _ (by omega) _ _ _ _).trans ?_
        exact zero_at _ _
    · exact ld_cw _ _ _ _ _ _ _ rfl (by omega)
    · rw [shift_at _ _ _ _ 7 1 rfl]
      unfold back
      by_cases hd : 1 ≤ (r : ℕ)
      · rw [dif_pos hd, dif_pos hd]
        simp only [p10_at, p18_at, p26_at, p35_at, p16_at]
        unfold sR
        exact congrArg₂ (fun a b : EReal => a * b) (dot_col _ _ _ _ _ _ _ _ (by omega)) (dot_col _ _ _ _ _ _ _ _ (by omega))
      · rw [dif_neg hd, dif_neg hd]
        simp only [p9_at, p17_at, p25_at, p34_at]
        rw [View.readCov_eq_canon']
        repeat refine (skip_cols _ _ _ _ (by omega) _ _ _ _).trans ?_
        exact zero_at _ _
    · exact ld_cw _ _ _ _ _ _ _ rfl (by omega)
    · simp only [p8_at, p16_at, p24_at, p33_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p7_at, p15_at, p23_at, p32_at]
      exact dot_col _ _ _ _ _ _ _ _ (by omega)

end Cert.ConvA
end
-- ==== Proof.ConvA.TileB.lean ====
module

public import proofs.«01_k».proof.Proof.ConvA.Pay

/-!
A later tile of 512 prompt rows: what it leaves in each output, over the carried rows `Ks`.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

theorem outB10_eq (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1) (X : Vec Ideal S512x2048 .f32) (G : Vec Ideal S1x2048 .f32) (W : Vec Ideal S2048x4096 .f32) (Cw : Vec Ideal S3x1024 .f32) (Ks : Vec Ideal S8x1024 .f32) :
    outB10 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw Ks = k0_pay4 X G := by
  frame_out

set_option maxHeartbeats 4000000 in
theorem outB12_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1) (X : Vec Ideal S512x2048 .f32) (G : Vec Ideal S1x2048 .f32) (W : Vec Ideal S2048x4096 .f32) (Cw : Vec Ideal S3x1024 .f32) (Ks : Vec Ideal S8x1024 .f32) (a : Fin 8) (j : Fin 1024) :
    outB12 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw Ks (ix2 a j)
      = sR (fun k => k0_pay4 X G (ix2 ⟨504 + a, by omega⟩ k)) (fun k j => W (ix2 k j)) j := by
  frame_out
  generalize k0_pay4 (F := Ideal) _ _ = H
  canon_tiles x h
  all_goals
    idx_vars x
    pointwise [k0_pay1, k0_pay11, k0_pay19, k0_pay27, p8_at, p16_at, p24_at, p33_at]
    obtain rfl := Fin.ext h0
    unfold sR col
    refine congrArg₂ (fun a b : EReal => a * b) (congrArg (dotR _) (funext fun k => congrArg W ?_))
      (congrArg (dotR _) (funext fun k => congrArg W ?_))
    · blk_ext
    · blk_ext

set_option maxHeartbeats 4000000 in
theorem outB8_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1) (X : Vec Ideal S512x2048 .f32) (G : Vec Ideal S1x2048 .f32) (W : Vec Ideal S2048x4096 .f32) (Cw : Vec Ideal S3x1024 .f32) (Ks : Vec Ideal S8x1024 .f32) (a : Fin 2) (j : Fin 1024) :
    outB8 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw Ks (ix3 0 a j)
      = sR (fun k => k0_pay4 X G (ix2 ⟨510 + a, by omega⟩ k)) (fun k j => W (ix2 k j)) j := by
  frame_out
  generalize k0_pay4 (F := Ideal) _ _ = H
  canon_tiles x h
  all_goals
    idx_vars x
    pointwise [k0_pay2, k0_pay12, k0_pay20, k0_pay28, p8_at, p16_at, p24_at, p33_at]
    obtain rfl := Fin.ext h1
    unfold sR col
    refine congrArg₂ (fun a b : EReal => a * b) (congrArg (dotR _) (funext fun k => congrArg W ?_))
      (congrArg (dotR _) (funext fun k => congrArg W ?_))
    · blk_ext
    · blk_ext

set_option maxHeartbeats 4000000 in
theorem outB7_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : k0_cond1 i = 1#1) (hc1 : ¬first i) (hc2 : ¬k0_cond3 i = 1#1) (X : Vec Ideal S512x2048 .f32) (G : Vec Ideal S1x2048 .f32) (W : Vec Ideal S2048x4096 .f32) (Cw : Vec Ideal S3x1024 .f32) (Ks : Vec Ideal S8x1024 .f32) (r : Fin 512) (j : Fin 1024) :
    outB7 (F := Ideal) c i arg1 harg1 arg2 harg2 arg3 harg3 arg4 harg4 arg5 harg5 arg6 harg6 arg7 harg7 arg8 harg8 arg9 harg9 arg10 harg10 arg11 harg11 arg12 harg12 hc0 hc1 hc2 X G W Cw Ks (ix2 r j)
      = yR (fun k => k0_pay4 X G (ix2 r k)) (fun k j => W (ix2 k j)) (fun a j => Cw (ix2 a j)) j
          (back 2 (by decide) (fun r k => k0_pay4 X G (ix2 r k)) (fun k j => W (ix2 k j)) (fun a j => Ks (ix2 a j)) r j) (back 1 (by decide) (fun r k => k0_pay4 X G (ix2 r k)) (fun k j => W (ix2 k j)) (fun a j => Ks (ix2 a j)) r j) (sR (fun k => k0_pay4 X G (ix2 r k)) (fun k j => W (ix2 k j)) j) := by
  frame_out
  generalize k0_pay4 (F := Ideal) _ _ = H
  canon_tiles x h
  all_goals
    idx_vars x
    obtain rfl : r = x0 := Fin.ext h0
    simp only [p13_at, p21_at, p30_at, p3_at]
    refine yR_eq ?_ ?_ ?_ ?_ ?_ ?_ ?_ ?_
    · simp only [p6_at, p14_at, p22_at, p31_at]
      exact dot_col _ _ _ _ _ _ _ _ (by omega)
    · rw [shift_at _ _ _ _ 6 2 rfl]
      unfold back
      by_cases hd : 2 ≤ (r : ℕ)
      · rw [dif_pos hd, dif_pos hd]
        simp only [p10_at, p18_at, p26_at, p35_at, p16_at]
        unfold sR
        exact congrArg₂ (fun a b : EReal => a * b) (dot_col _ _ _ _ _ _ _ _ (by omega)) (dot_col _ _ _ _ _ _ _ _ (by omega))
      · rw [dif_neg hd, dif_neg hd]
        simp only [p9_at, p17_at, p25_at, p34_at]
        exact ld_ks _ _ _ _ _ _ (by omega)
    · exact ld_cw _ _ _ _ _ _ _ rfl (by omega)
    · rw [shift_at _ _ _ _ 7 1 rfl]
      unfold back
      by_cases hd : 1 ≤ (r : ℕ)
      · rw [dif_pos hd, dif_pos hd]
        simp only [p10_at, p18_at, p26_at, p35_at, p16_at]
        unfold sR
        exact congrArg₂ (fun a b : EReal => a * b) (dot_col _ _ _ _ _ _ _ _ (by omega)) (dot_col _ _ _ _ _ _ _ _ (by omega))
      · rw [dif_neg hd, dif_neg hd]
        simp only [p9_at, p17_at, p25_at, p34_at]
        exact ld_ks _ _ _ _ _ _ (by omega)
    · exact ld_cw _ _ _ _ _ _ _ rfl (by omega)
    · simp only [p8_at, p16_at, p24_at, p33_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p7_at, p15_at, p23_at, p32_at]
      exact dot_col _ _ _ _ _ _ _ _ (by omega)

end Cert.ConvA
end
-- ==== Proof.ConvA.SpecS.lean ====
module

public import proofs.«01_k».proof.Proof.ConvA.Spec

/-!
The sample rows: the product one and two rows back in a sequence of four.
-/

@[expose] public section
set_option maxRecDepth 16384
noncomputable section
namespace Cert.ConvA
open Idealize.ShloMosaic Idealize.ShloMosaic.TcCoe Idealize.SL.Sem
open Cert.Cmlp

/-- The product `d` rows back in a sequence of four sample rows, out of the sequence's two carried rows when it does not reach that far. -/
def backS (d : ℕ) (hd : d ≤ 2) (hd1 : 1 ≤ d) (S : Fin 512 → EReal) (K : Fin 128 → Fin 2 → EReal) (r : Fin 512) : EReal :=
  if h : d ≤ (r : ℕ) % 4 then S ⟨r - d, by omega⟩ else K ⟨(r : ℕ) / 4, by omega⟩ ⟨2 + (r : ℕ) % 4 - d, by omega⟩

end Cert.ConvA
end
-- ==== Proof.ConvA.SpecC.lean ====
module

public import proofs.«01_k».proof.Proof.ConvA.Pay
public import proofs.«01_k».proof.Proof.ConvA.SpecS

/-!
The sample rows: the product one and two rows back in a sequence of four, out of the two carried rows where it starts.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

/-- The columns of the selecting matrix for one row back: a row that starts a sequence takes the sequence's second carried row. -/
def c1 (r : Fin 512) (n : ℕ) : EReal := if (n % 256) % 2 = 1 ∧ (r : ℕ) = 4 * ((n % 256) / 2) then 1 else 0

/-- The columns of the selecting matrix for two rows back. -/
def c2 (r : Fin 512) (n : ℕ) : EReal := if (r : ℕ) = 4 * ((n % 256) / 2) + (n % 256) % 2 then 1 else 0

/-- Of a finite vector split in three parts, of which the later two are zero, the selecting sum sees the first. -/
theorem sum_three (c : ℕ → EReal) (X : Fin 128 → Fin 2 → EReal) (fin : ∀ q a, X q a - X q a = 0) :
    (∑ n : Fin 768, c n * (if h : (n : ℕ) < 256 then X ⟨(n : ℕ) / 2, by omega⟩ ⟨(n : ℕ) % 2, by omega⟩
        else if h' : (n : ℕ) - 256 < 256 then X ⟨((n : ℕ) - 256) / 2, by omega⟩ ⟨((n : ℕ) - 256) % 2, by omega⟩ - X ⟨((n : ℕ) - 256) / 2, by omega⟩ ⟨((n : ℕ) - 256) % 2, by omega⟩
        else X ⟨((n : ℕ) - 256 - 256) / 2, by omega⟩ ⟨((n : ℕ) - 256 - 256) % 2, by omega⟩ - X ⟨((n : ℕ) - 256 - 256) / 2, by omega⟩ ⟨((n : ℕ) - 256 - 256) % 2, by omega⟩
          - (X ⟨((n : ℕ) - 256 - 256) / 2, by omega⟩ ⟨((n : ℕ) - 256 - 256) % 2, by omega⟩ - X ⟨((n : ℕ) - 256 - 256) / 2, by omega⟩ ⟨((n : ℕ) - 256 - 256) % 2, by omega⟩)))
      = ∑ n : Fin 256, c n * X ⟨(n : ℕ) / 2, by omega⟩ ⟨(n : ℕ) % 2, by omega⟩ := by
  refine (Fin.sum_univ_add (M := EReal) (a := 256) (b := 512) _).trans ?_
  have z : (0 : EReal) - 0 = 0 := by simp
  rw [Finset.sum_eq_zero (M := EReal) (s := (Finset.univ : Finset (Fin 512)))]
  · rw [add_zero]
    refine Finset.sum_congr (M := EReal) rfl fun n _ => ?_
    have hn : ((Fin.castAdd 512 n : Fin (256 + 512)) : ℕ) < 256 := n.2
    rw [dif_pos hn]
    rfl
  · intro n _
    have hn : ¬ ((Fin.natAdd 256 n : Fin (256 + 512)) : ℕ) < 256 := by simp
    rw [dif_neg hn]
    split
    · rw [fin, mul_zero]
    · rw [fin, z, mul_zero]

theorem sel_ge1 (r : Fin 512) (A : EReal) :
    Scalar.select (IntOp.cmpi .sge (BitVec.ofNat 32 ((r : ℕ) % 4)) 1#32) A 0 = if 1 ≤ (r : ℕ) % 4 then A else 0 := by
  have h : (r : ℕ) % 4 < 4 := Nat.mod_lt _ (by decide)
  generalize (r : ℕ) % 4 = t at h
  have e : ∀ t : Fin 4, IntOp.cmpi .sge (BitVec.ofNat 32 (t : ℕ)) 1#32 = if 1 ≤ (t : ℕ) then 1#1 else 0#1 := by decide
  have e' := e ⟨t, h⟩
  simp only at e'
  rw [e']
  by_cases ht : 1 ≤ t <;> simp [Scalar.select, ht]

theorem sel_ge2 (r : Fin 512) (A : EReal) :
    Scalar.select (IntOp.cmpi .sge (BitVec.ofNat 32 ((r : ℕ) % 4)) 2#32) A 0 = if 2 ≤ (r : ℕ) % 4 then A else 0 := by
  have h : (r : ℕ) % 4 < 4 := Nat.mod_lt _ (by decide)
  generalize (r : ℕ) % 4 = t at h
  have e : ∀ t : Fin 4, IntOp.cmpi .sge (BitVec.ofNat 32 (t : ℕ)) 2#32 = if 2 ≤ (t : ℕ) then 1#1 else 0#1 := by decide
  have e' := e ⟨t, h⟩
  simp only at e'
  rw [e']
  by_cases ht : 2 ≤ t <;> simp [Scalar.select, ht]

/-- The shifted products and the selected carried row together are the product one row back, -/
theorem back1_eq (S : Fin 512 → EReal) (X : Fin 128 → Fin 2 → EReal) (r : Fin 512) (m : Fin 512) (hm : (m : ℕ) = ((r : ℕ) + 512 - 1) % 512) :
    (if 1 ≤ (r : ℕ) % 4 then S m else 0) + ∑ n : Fin 256, c1 r n * X ⟨(n : ℕ) / 2, by omega⟩ ⟨(n : ℕ) % 2, by omega⟩
      = backS 1 (by decide) (by decide) S X r := by
  unfold backS
  by_cases h : 1 ≤ (r : ℕ) % 4
  · rw [if_pos h, dif_pos h, Finset.sum_eq_zero (M := EReal), add_zero]
    · refine congrArg S (Fin.ext ?_); show (m : ℕ) = r - 1; omega
    · intro n _
      rw [c1, if_neg (by omega), zero_mul]
  · rw [if_neg h, dif_neg h, zero_add]
    refine (Finset.sum_eq_single (M := EReal) (⟨2 * ((r : ℕ) / 4) + 1, by omega⟩ : Fin 256) ?_ ?_).trans ?_
    · intro n _ hn
      have hn' : (n : ℕ) ≠ 2 * ((r : ℕ) / 4) + 1 := fun e => hn (Fin.ext e)
      rw [c1, if_neg (by omega), zero_mul]
    · intro hn; exact absurd (Finset.mem_univ _) hn
    · rw [c1, if_pos (by simp only; omega), one_mul]
      refine congrArg₂ X (Fin.ext ?_) (Fin.ext ?_)
      · simp only; omega
      · simp only; omega

/-- and two rows back. -/
theorem back2_eq (S : Fin 512 → EReal) (X : Fin 128 → Fin 2 → EReal) (r : Fin 512) (m : Fin 512) (hm : (m : ℕ) = ((r : ℕ) + 512 - 2) % 512) :
    (if 2 ≤ (r : ℕ) % 4 then S m else 0) + ∑ n : Fin 256, c2 r n * X ⟨(n : ℕ) / 2, by omega⟩ ⟨(n : ℕ) % 2, by omega⟩
      = backS 2 (by decide) (by decide) S X r := by
  unfold backS
  by_cases h : 2 ≤ (r : ℕ) % 4
  · rw [if_pos h, dif_pos h, Finset.sum_eq_zero (M := EReal), add_zero]
    · refine congrArg S (Fin.ext ?_); show (m : ℕ) = r - 2; omega
    · intro n _
      rw [c2, if_neg (by omega), zero_mul]
  · rw [if_neg h, dif_neg h, zero_add]
    refine (Finset.sum_eq_single (M := EReal) (⟨2 * ((r : ℕ) / 4) + (r : ℕ) % 4, by omega⟩ : Fin 256) ?_ ?_).trans ?_
    · intro n _ hn
      have hn' : (n : ℕ) ≠ 2 * ((r : ℕ) / 4) + (r : ℕ) % 4 := fun e => hn (Fin.ext e)
      rw [c2, if_neg (by omega), zero_mul]
    · intro hn; exact absurd (Finset.mem_univ _) hn
    · rw [c2, if_pos (by simp only; omega), one_mul]
      refine congrArg₂ X (Fin.ext ?_) (Fin.ext ?_)
      · simp only; omega
      · simp only; omega

end Cert.ConvA
end
-- ==== Proof.ConvA.PayC.lean ====
module

public import proofs.«01_k».proof.Proof.ConvA.SpecC

/-!
The values the body computes for the sample rows, read at an index.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

theorem first_at (r : Fin 512) (n : Fin 256) :
    k0_pay40 k0_pay37 k0_pay38 k0_pay39 (ix2 r n) = BitVec.ofNat 32 (4 * ((n : ℕ) / 2)) := by
  pointwise [k0_pay37, k0_pay38, k0_pay39, k0_pay40]
  revert n
  decide +kernel

theorem odd_at (r : Fin 512) (n : Fin 256) :
    k0_pay42 (iota Kind.tc S512x256 32 [1] iota_S512x256_d1_w32) (ix2 r n) = BitVec.ofNat 32 ((n : ℕ) % 2) := by
  pointwise [k0_pay42]
  revert n
  decide +kernel

theorem step48_at (r : Fin 512) (n : Fin 256) : k0_pay48 (ix2 r n) = BitVec.ofNat 32 ((r : ℕ) % 4) := by
  pointwise [k0_pay48]
  revert r
  decide +kernel
theorem step56_at (r : Fin 512) (n : Fin 256) : k0_pay56 (ix2 r n) = BitVec.ofNat 32 ((r : ℕ) % 4) := by
  pointwise [k0_pay56]
  revert r
  decide +kernel
theorem step64_at (r : Fin 512) (n : Fin 256) : k0_pay64 (ix2 r n) = BitVec.ofNat 32 ((r : ℕ) % 4) := by
  pointwise [k0_pay64]
  revert r
  decide +kernel
theorem step75_at (r : Fin 512) (n : Fin 256) : k0_pay75 (ix2 r n) = BitVec.ofNat 32 ((r : ℕ) % 4) := by
  pointwise [k0_pay75]
  revert r
  decide +kernel

theorem cmp_nat (a b : ℕ) (ha : a < 2 ^ 32) (hb : b < 2 ^ 32) :
    IntOp.cmpi .eq (BitVec.ofNat 32 a) (BitVec.ofNat 32 b) = BitVec.ofBool (decide (a = b)) := WordCmp.cmpi_eq_ofNat ha hb

theorem sel1_at (r : Fin 512) (n : Fin 256) :
    (k0_pay41 (F := Ideal) (iota Kind.tc S512x256 32 [0] iota_S512x256_d0_w32) (iota Kind.tc S512x256 32 [1] iota_S512x256_d1_w32)
        k0_pay37 k0_pay38 k0_pay39 (ix2 r n) : EReal)
      = c1 r n := by
  have e := odd_at r n
  pointwise [k0_pay42] at e
  pointwise [k0_pay41, first_at]
  rw [e, cmp_nat _ _ (by omega) (by omega), cmp_nat _ _ (by omega) (by omega), c1, Nat.mod_eq_of_lt n.2]
  by_cases h1 : (n : ℕ) % 2 = 1
  · by_cases h2 : (r : ℕ) = 4 * ((n : ℕ) / 2)
    · rw [if_pos ⟨h1, h2⟩, decide_eq_true h1, decide_eq_true h2]; rfl
    · rw [if_neg (fun h => h2 h.2), decide_eq_true h1, decide_eq_false h2]; rfl
  · rw [if_neg (fun h => h1 h.1), decide_eq_false h1]
    by_cases h2 : (r : ℕ) = 4 * ((n : ℕ) / 2)
    · rw [decide_eq_true h2]; rfl
    · rw [decide_eq_false h2]; rfl

set_option maxHeartbeats 1000000 in
theorem sel2_at (r : Fin 512) (n : Fin 768) :
    (k0_pay44 (F := Ideal) (iota Kind.tc S512x256 32 [0] iota_S512x256_d0_w32) (k0_pay40 k0_pay37 k0_pay38 k0_pay39)
          (k0_pay42 (iota Kind.tc S512x256 32 [1] iota_S512x256_d1_w32)) (ix2 r n) : EReal) = c2 r n := by
  have g : ∀ (n m : ℕ) (hn : n < 256), m % 256 = n → Scalar.select (IntOp.cmpi .eq (BitVec.ofNat 32 (r : ℕ))
      (IntOp.addi (BitVec.ofNat 32 (4 * (n / 2))) (k0_pay42 (iota Kind.tc S512x256 32 [1] iota_S512x256_d1_w32) (ix2 r ⟨n, hn⟩)))) (1 : EReal) 0 = c2 r m := by
    intro n m hn hm
    rw [odd_at]
    rw [show IntOp.addi (BitVec.ofNat 32 (4 * (n / 2))) (BitVec.ofNat 32 (n % 2)) = BitVec.ofNat 32 (4 * (n / 2) + n % 2) from (BitVec.ofNat_add ..).symm]
    rw [cmp_nat _ _ (by omega) (by omega), c2, hm]
    by_cases h : (r : ℕ) = 4 * (n / 2) + n % 2
    · rw [if_pos h, decide_eq_true h]; rfl
    · rw [if_neg h, decide_eq_false h]; rfl
  pointwise [k0_pay44, first_at]
  generalize (k0_pay42 (iota Kind.tc S512x256 32 [1] iota_S512x256_d1_w32)) = B at g ⊢
  have hn := n.2
  obtain ⟨n, hn⟩ := n
  simp only at g ⊢
  by_cases h : n < 256
  · rw [dif_pos h]
    exact g n n h (by omega)
  · rw [dif_neg h]
    by_cases h' : n - 256 < 256
    · rw [dif_pos h']
      exact g (n - 256) n h' (by omega)
    · rw [dif_neg h']
      exact g (n - 256 - 256) n (by omega) (by omega)

theorem selx_at (r : Fin 512) (v : FVec Ideal S512x256 .bf16) (n : Fin 768) :
    k0_pay43 v (ix2 r n) = v (ix2 r ⟨(n : ℕ) % 256, Nat.mod_lt _ (by decide)⟩) := by
  pointwise [k0_pay43]
  obtain ⟨n, hn⟩ := n
  have g : ∀ (m : ℕ) (hm : m < 256), m = n % 256 → v (ix2 r ⟨m, hm⟩) = v (ix2 r ⟨n % 256, Nat.mod_lt _ (by decide)⟩) := by
    intro m hm e
    subst e
    rfl
  simp only
  by_cases h : n < 256
  · rw [dif_pos h]; exact g n h (by omega)
  · rw [dif_neg h]
    by_cases h' : n - 256 < 256
    · rw [dif_pos h']; exact g (n - 256) h' (by omega)
    · rw [dif_neg h']; exact g (n - 256 - 256) (by omega) (by omega)

set_option maxHeartbeats 4000000 in
theorem g0_at (P Q : FVec Ideal S512x768 .bf16) (A D S : FVec Ideal S512x256 .f32) (St : Vec Ideal S128x2x256 .f32) (w0 w1 w2 : Vec Ideal S1x256 .f32) (r : Fin 512) (x : Fin 256)
    (hP : ∀ n, (P (ix2 r n) : EReal) = c1 r n) (hQ : ∀ n, (Q (ix2 r n) : EReal) = c2 r n)
    (fin : ∀ q a, (St (ix3 q a x) : EReal) - St (ix3 q a x) = 0) :
    (k0_pay52 (k0_pay50 P Q A S k0_pay48 St w0 w1 w2) (k0_pay51 D) (ix2 r x) : EReal)
      = A (ix2 r x) * (backS 2 (by decide) (by decide) (fun m => S (ix2 m x)) (fun q a => St (ix3 q a x)) r * w0 (ix2 0 x)
          + backS 1 (by decide) (by decide) (fun m => S (ix2 m x)) (fun q a => St (ix3 q a x)) r * w1 (ix2 0 x) + S (ix2 r x) * w2 (ix2 0 x))
        * silu (D (ix2 r x)) := by
  unfold silu
  pointwise [k0_pay52, k0_pay50, k0_pay51, step48_at]
  simp only [hP, hQ]
  refine congrArg (fun z : EReal => z * _) (congrArg (fun z : EReal => _ * z) (congrArg₂ (fun a b : EReal => a + b) (congrArg₂ (fun a b : EReal => a + b) (congrArg (fun z : EReal => z * _) ?_) (congrArg (fun z : EReal => z * _) ?_)) rfl))
  · rw [sel_ge2]
    exact (congrArg (fun z : EReal => _ + z) (sum_three (c2 r) (fun q a => St (ix3 q a x)) fin)).trans (back2_eq (fun m => S (ix2 m x)) (fun q a => St (ix3 q a x)) r _ rfl)
  · rw [sel_ge1]
    exact (congrArg (fun z : EReal => _ + z) (sum_three (c1 r) (fun q a => St (ix3 q a x)) fin)).trans (back1_eq (fun m => S (ix2 m x)) (fun q a => St (ix3 q a x)) r _ rfl)

set_option maxHeartbeats 4000000 in
theorem g1_at (P Q : FVec Ideal S512x768 .bf16) (A D S : FVec Ideal S512x256 .f32) (St : Vec Ideal S128x2x256 .f32) (w0 w1 w2 : Vec Ideal S1x256 .f32) (r : Fin 512) (x : Fin 256)
    (hP : ∀ n, (P (ix2 r n) : EReal) = c1 r n) (hQ : ∀ n, (Q (ix2 r n) : EReal) = c2 r n)
    (fin : ∀ q a, (St (ix3 q a x) : EReal) - St (ix3 q a x) = 0) :
    (k0_pay60 P Q A D S k0_pay56 (k0_pay57 St) (k0_pay58 St) w0 w1 w2 (ix2 r x) : EReal)
      = A (ix2 r x) * (backS 2 (by decide) (by decide) (fun m => S (ix2 m x)) (fun q a => St (ix3 q a x)) r * w0 (ix2 0 x)
          + backS 1 (by decide) (by decide) (fun m => S (ix2 m x)) (fun q a => St (ix3 q a x)) r * w1 (ix2 0 x) + S (ix2 r x) * w2 (ix2 0 x))
        * silu (D (ix2 r x)) := by
  unfold silu
  pointwise [k0_pay60, k0_pay57, k0_pay58, step56_at]
  simp only [hP, hQ]
  refine congrArg (fun z : EReal => z * _) (congrArg (fun z : EReal => _ * z) (congrArg₂ (fun a b : EReal => a + b) (congrArg₂ (fun a b : EReal => a + b) (congrArg (fun z : EReal => z * _) ?_) (congrArg (fun z : EReal => z * _) ?_)) rfl))
  · rw [sel_ge2]
    exact (congrArg (fun z : EReal => _ + z) (sum_three (c2 r) (fun q a => St (ix3 q a x)) fin)).trans (back2_eq (fun m => S (ix2 m x)) (fun q a => St (ix3 q a x)) r _ rfl)
  · rw [sel_ge1]
    exact (congrArg (fun z : EReal => _ + z) (sum_three (c1 r) (fun q a => St (ix3 q a x)) fin)).trans (back1_eq (fun m => S (ix2 m x)) (fun q a => St (ix3 q a x)) r _ rfl)

set_option maxHeartbeats 4000000 in
theorem g2_at (P Q : FVec Ideal S512x768 .bf16) (A D S : FVec Ideal S512x256 .f32) (St : Vec Ideal S128x2x256 .f32) (w0 w1 w2 : Vec Ideal S1x256 .f32) (r : Fin 512) (x : Fin 256)
    (hP : ∀ n, (P (ix2 r n) : EReal) = c1 r n) (hQ : ∀ n, (Q (ix2 r n) : EReal) = c2 r n)
    (fin : ∀ q a, (St (ix3 q a x) : EReal) - St (ix3 q a x) = 0) :
    (k0_pay71 P Q A D S k0_pay64 (k0_pay66 St) (k0_pay67 St) (k0_pay68 St) (k0_pay69 St) w0 w1 w2 (ix2 r x) : EReal)
      = A (ix2 r x) * (backS 2 (by decide) (by decide) (fun m => S (ix2 m x)) (fun q a => St (ix3 q a x)) r * w0 (ix2 0 x)
          + backS 1 (by decide) (by decide) (fun m => S (ix2 m x)) (fun q a => St (ix3 q a x)) r * w1 (ix2 0 x) + S (ix2 r x) * w2 (ix2 0 x))
        * silu (D (ix2 r x)) := by
  unfold silu
  pointwise [k0_pay71, k0_pay65, k0_pay66, k0_pay67, k0_pay68, k0_pay69, step64_at]
  simp only [hP, hQ]
  refine congrArg (fun z : EReal => z * _) (congrArg (fun z : EReal => _ * z) (congrArg₂ (fun a b : EReal => a + b) (congrArg₂ (fun a b : EReal => a + b) (congrArg (fun z : EReal => z * _) ?_) (congrArg (fun z : EReal => z * _) ?_)) rfl))
  · rw [sel_ge2]
    exact (congrArg (fun z : EReal => _ + z) (sum_three (c2 r) (fun q a => St (ix3 q a x)) fin)).trans (back2_eq (fun m => S (ix2 m x)) (fun q a => St (ix3 q a x)) r _ rfl)
  · rw [sel_ge1]
    exact (congrArg (fun z : EReal => _ + z) (sum_three (c1 r) (fun q a => St (ix3 q a x)) fin)).trans (back1_eq (fun m => S (ix2 m x)) (fun q a => St (ix3 q a x)) r _ rfl)

set_option maxHeartbeats 4000000 in
theorem g3_at (P Q : FVec Ideal S512x768 .bf16) (A D S : FVec Ideal S512x256 .f32) (St : Vec Ideal S128x2x256 .f32) (w0 w1 w2 : Vec Ideal S1x256 .f32) (r : Fin 512) (x : Fin 256)
    (hP : ∀ n, (P (ix2 r n) : EReal) = c1 r n) (hQ : ∀ n, (Q (ix2 r n) : EReal) = c2 r n)
    (fin : ∀ q a, (St (ix3 q a x) : EReal) - St (ix3 q a x) = 0) :
    (k0_pay78 P Q A D S k0_pay75 (k0_pay76 St) 1#32 w0 w1 w2 (ix2 r x) : EReal)
      = A (ix2 r x) * (backS 2 (by decide) (by decide) (fun m => S (ix2 m x)) (fun q a => St (ix3 q a x)) r * w0 (ix2 0 x)
          + backS 1 (by decide) (by decide) (fun m => S (ix2 m x)) (fun q a => St (ix3 q a x)) r * w1 (ix2 0 x) + S (ix2 r x) * w2 (ix2 0 x))
        * silu (D (ix2 r x)) := by
  unfold silu
  pointwise [k0_pay78, k0_pay76, step75_at]
  simp only [hP, hQ]
  refine congrArg (fun z : EReal => z * _) (congrArg (fun z : EReal => _ * z) (congrArg₂ (fun a b : EReal => a + b) (congrArg₂ (fun a b : EReal => a + b) (congrArg (fun z : EReal => z * _) ?_) (congrArg (fun z : EReal => z * _) ?_)) rfl))
  · rw [sel_ge2]
    exact (congrArg (fun z : EReal => _ + z) (sum_three (c2 r) (fun q a => St (ix3 q a x)) fin)).trans (back2_eq (fun m => S (ix2 m x)) (fun q a => St (ix3 q a x)) r _ rfl)
  · rw [sel_ge1]
    exact (congrArg (fun z : EReal => _ + z) (sum_three (c1 r) (fun q a => St (ix3 q a x)) fin)).trans (back1_eq (fun m => S (ix2 m x)) (fun q a => St (ix3 q a x)) r _ rfl)

theorem p49_at (S : FVec Ideal S512x256 .f32) (q : Fin 128) (a : Fin 2) (x : Fin 256) :
    k0_pay49 S (ix3 q a x) = S (ix2 ⟨4 * q + 2 + a, by omega⟩ x) := by
  pointwise [k0_pay49]
  exact congrArg (fun m => S (ix2 m x)) (Fin.ext (by simp only; omega))
theorem p59_at (S : FVec Ideal S512x256 .f32) (q : Fin 128) (a : Fin 2) (x : Fin 256) :
    k0_pay59 S (ix3 q a x) = S (ix2 ⟨4 * q + 2 + a, by omega⟩ x) := by
  pointwise [k0_pay59]
  exact congrArg (fun m => S (ix2 m x)) (Fin.ext (by simp only; omega))
theorem p70_at (S : FVec Ideal S512x256 .f32) (q : Fin 128) (a : Fin 2) (x : Fin 256) :
    k0_pay70 S (ix3 q a x) = S (ix2 ⟨4 * q + 2 + a, by omega⟩ x) := by
  pointwise [k0_pay70]
  exact congrArg (fun m => S (ix2 m x)) (Fin.ext (by simp only; omega))
theorem p77_at (S : FVec Ideal S512x256 .f32) (q : Fin 128) (a : Fin 2) (x : Fin 256) :
    k0_pay77 S (ix3 q a x) = S (ix2 ⟨4 * q + 2 + a, by omega⟩ x) := by
  pointwise [k0_pay77]
  exact congrArg (fun m => S (ix2 m x)) (Fin.ext (by simp only; omega))

theorem normC_at (X : Vec Ideal S128x4x2048 .f32) (G : Vec Ideal S1x2048 .f32) (r : Fin 512) (d : Fin 2048) :
    k0_pay36 X G (ix2 r d) = rmsR (fun k => X (ix3 ⟨(r : ℕ) / 4, by omega⟩ ⟨(r : ℕ) % 4, by omega⟩ k)) (fun k => G (ix2 0 k)) d := by
  unfold rmsR
  pointwise [k0_pay36]

theorem ld_st (St : Vec Ideal S128x2x1024 .f32) (p : ℕ) (q : Fin 128) (a : Fin 2) (j : Fin 1024) (x : Fin 256)
    (inb : ∀ a, (![0, 0, p] : Fin 3 → ℕ) a + S128x2x256.size a ≤ S128x2x1024.size a) (hj : p + x = j) :
    View.ld St (Rect.unit (s := S128x2x1024) ![0, 0, p] S128x2x256.size inb) (ix3 q a x : S128x2x256.Idx) = St (ix3 q a j) := by
  refine congrArg St ?_
  funext b; apply Fin.ext
  fin_cases b
  · show 0 + 1 * (q : ℕ) = q; omega
  · show 0 + 1 * (a : ℕ) = a; omega
  · show p + 1 * (x : ℕ) = j; omega

end Cert.ConvA
end
-- ==== Proof.ConvA.TileC.lean ====
module

public import proofs.«01_k».proof.Proof.ConvA.PayC

/-!
The 512 sample rows: what the last point leaves in each output, over a finite carried state.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

theorem outC10_eq (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1) (X : Vec Ideal S128x4x2048 .f32) (G : Vec Ideal S1x2048 .f32) (W : Vec Ideal S2048x4096 .f32) (Cw : Vec Ideal S3x1024 .f32) (St : Vec Ideal S128x2x1024 .f32) :
    outC10 (F := Ideal) c i arg1 harg1 arg2 harg2 arg3 harg3 arg4 harg4 arg5 harg5 arg6 harg6 arg7 harg7 arg8 harg8 arg9 harg9 arg10 harg10 arg11 harg11 arg12 harg12 hc0 hc2 X G W Cw St = k0_pay36 X G := by
  frame_out

set_option maxHeartbeats 4000000 in
theorem outC9_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1) (X : Vec Ideal S128x4x2048 .f32) (G : Vec Ideal S1x2048 .f32) (W : Vec Ideal S2048x4096 .f32) (Cw : Vec Ideal S3x1024 .f32) (St : Vec Ideal S128x2x1024 .f32) (q : Fin 128) (a : Fin 2) (j : Fin 1024) :
    outC9 (F := Ideal) c i arg1 harg1 arg2 harg2 arg3 harg3 arg4 harg4 arg5 harg5 arg6 harg6 arg7 harg7 arg8 harg8 arg9 harg9 arg10 harg10 arg11 harg11 arg12 harg12 hc0 hc2 X G W Cw St (ix3 q a j)
      = sR (fun k => k0_pay36 X G (ix2 ⟨4 * q + 2 + a, by omega⟩ k)) (fun k j => W (ix2 k j)) j := by
  frame_out
  generalize k0_pay36 (F := Ideal) _ _ = H
  canon_tiles x h
  all_goals
    idx_vars x
    obtain rfl := Fin.ext h0
    obtain rfl := Fin.ext h1
    simp only [p49_at, p59_at, p70_at, p77_at, p47_at, p55_at, p63_at, p74_at]
    unfold sR
    exact congrArg₂ (fun a b : EReal => a * b) (dot_col _ _ _ _ _ _ _ _ (by omega)) (dot_col _ _ _ _ _ _ _ _ (by omega))

set_option maxHeartbeats 4000000 in
theorem outC7_at (c : Dev nD) (i : grid0.Coords) (arg1 : Memref sig .tc .vmem S512x2048 .f32) (harg1 : arg1.IsWhole) (arg2 : Memref sig .tc .vmem S128x4x2048 .f32) (harg2 : arg2.IsWhole) (arg3 : Memref sig .tc .vmem S1x2048 .f32) (harg3 : arg3.IsWhole) (arg4 : Memref sig .tc .vmem S2048x4096 .f32) (harg4 : arg4.IsWhole) (arg5 : Memref sig .tc .vmem S3x1024 .f32) (harg5 : arg5.IsWhole) (arg6 : Memref sig .tc .vmem S128x2x1024 .f32) (harg6 : arg6.IsWhole) (arg7 : Memref sig .tc .vmem S512x1024 .bf16) (harg7 : arg7.IsWhole) (arg8 : Memref sig .tc .vmem S1x2x1024 .f32) (harg8 : arg8.IsWhole) (arg9 : Memref sig .tc .vmem S128x2x1024 .f32) (harg9 : arg9.IsWhole) (arg10 : Memref sig .tc .vmem S512x2048 .bf16) (harg10 : arg10.IsWhole) (arg11 : Memref sig .tc .vmem S520x256 .f32) (harg11 : arg11.IsWhole) (arg12 : Memref sig .tc .vmem S8x1024 .f32) (harg12 : arg12.IsWhole) (hc0 : ¬k0_cond1 i = 1#1) (hc2 : k0_cond3 i = 1#1) (X : Vec Ideal S128x4x2048 .f32) (G : Vec Ideal S1x2048 .f32) (W : Vec Ideal S2048x4096 .f32) (Cw : Vec Ideal S3x1024 .f32) (St : Vec Ideal S128x2x1024 .f32)
    (fin : ∀ q a j, (St (ix3 q a j) : EReal) - St (ix3 q a j) = 0) (r : Fin 512) (j : Fin 1024) :
    outC7 (F := Ideal) c i arg1 harg1 arg2 harg2 arg3 harg3 arg4 harg4 arg5 harg5 arg6 harg6 arg7 harg7 arg8 harg8 arg9 harg9 arg10 harg10 arg11 harg11 arg12 harg12 hc0 hc2 X G W Cw St (ix2 r j)
      = yR (fun k => k0_pay36 X G (ix2 r k)) (fun k j => W (ix2 k j)) (fun a j => Cw (ix2 a j)) j (backS 2 (by decide) (by decide) (fun m => sR (fun k => k0_pay36 X G (ix2 m k)) (fun k j => W (ix2 k j)) j) (fun q a => St (ix3 q a j)) r) (backS 1 (by decide) (by decide) (fun m => sR (fun k => k0_pay36 X G (ix2 m k)) (fun k j => W (ix2 k j)) j) (fun q a => St (ix3 q a j)) r) (sR (fun k => k0_pay36 X G (ix2 r k)) (fun k j => W (ix2 k j)) j) := by
  frame_out
  generalize k0_pay36 (F := Ideal) _ _ = H
  canon_tiles x h
  all_goals
    idx_vars x
    obtain rfl : r = x0 := Fin.ext h0
  · refine (g3_at _ _ _ _ _ _ _ _ _ r x1 (fun n => ?_) (fun n => sel2_at r n) (fun q a => ?_)).trans ?_
    · exact (selx_at _ _ _).trans ((sel1_at _ _).trans (by simp only [c1, Nat.mod_mod]))
    · rw [ld_st _ _ _ _ j _ _ (by omega)]
      exact fin q a j
    refine yR_eq ?_ ?_ ?_ ?_ ?_ ?_ ?_ ?_
    · simp only [p72_at]
      exact dot_col _ _ _ _ _ _ _ _ (by omega)
    · refine congrArg₂ (fun f g => backS 2 (by decide) (by decide) f g r) (funext fun m => ?_)
        (funext fun q => funext fun a => ld_st _ _ _ _ _ _ _ (by omega))
      simp only [p74_at]
      unfold sR
      exact congrArg₂ (fun a b : EReal => a * b) (dot_col _ _ _ _ _ _ _ _ (by omega)) (dot_col _ _ _ _ _ _ _ _ (by omega))
    · exact ld_cw _ _ _ _ _ _ _ rfl (by omega)
    · refine congrArg₂ (fun f g => backS 1 (by decide) (by decide) f g r) (funext fun m => ?_)
        (funext fun q => funext fun a => ld_st _ _ _ _ _ _ _ (by omega))
      simp only [p74_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p74_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p73_at]
      exact dot_col _ _ _ _ _ _ _ _ (by omega)
  · refine (g2_at _ _ _ _ _ _ _ _ _ r x1 (fun n => ?_) (fun n => sel2_at r n) (fun q a => ?_)).trans ?_
    · exact (selx_at _ _ _).trans ((sel1_at _ _).trans (by simp only [c1, Nat.mod_mod]))
    · rw [ld_st _ _ _ _ j _ _ (by omega)]
      exact fin q a j
    refine yR_eq ?_ ?_ ?_ ?_ ?_ ?_ ?_ ?_
    · simp only [p61_at]
      exact dot_col _ _ _ _ _ _ _ _ (by omega)
    · refine congrArg₂ (fun f g => backS 2 (by decide) (by decide) f g r) (funext fun m => ?_)
        (funext fun q => funext fun a => ld_st _ _ _ _ _ _ _ (by omega))
      simp only [p63_at]
      unfold sR
      exact congrArg₂ (fun a b : EReal => a * b) (dot_col _ _ _ _ _ _ _ _ (by omega)) (dot_col _ _ _ _ _ _ _ _ (by omega))
    · exact ld_cw _ _ _ _ _ _ _ rfl (by omega)
    · refine congrArg₂ (fun f g => backS 1 (by decide) (by decide) f g r) (funext fun m => ?_)
        (funext fun q => funext fun a => ld_st _ _ _ _ _ _ _ (by omega))
      simp only [p63_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p63_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p62_at]
      exact dot_col _ _ _ _ _ _ _ _ (by omega)
  · refine (g1_at _ _ _ _ _ _ _ _ _ r x1 (fun n => ?_) (fun n => sel2_at r n) (fun q a => ?_)).trans ?_
    · exact (selx_at _ _ _).trans ((sel1_at _ _).trans (by simp only [c1, Nat.mod_mod]))
    · rw [ld_st _ _ _ _ j _ _ (by omega)]
      exact fin q a j
    refine yR_eq ?_ ?_ ?_ ?_ ?_ ?_ ?_ ?_
    · simp only [p53_at]
      exact dot_col _ _ _ _ _ _ _ _ (by omega)
    · refine congrArg₂ (fun f g => backS 2 (by decide) (by decide) f g r) (funext fun m => ?_)
        (funext fun q => funext fun a => ld_st _ _ _ _ _ _ _ (by omega))
      simp only [p55_at]
      unfold sR
      exact congrArg₂ (fun a b : EReal => a * b) (dot_col _ _ _ _ _ _ _ _ (by omega)) (dot_col _ _ _ _ _ _ _ _ (by omega))
    · exact ld_cw _ _ _ _ _ _ _ rfl (by omega)
    · refine congrArg₂ (fun f g => backS 1 (by decide) (by decide) f g r) (funext fun m => ?_)
        (funext fun q => funext fun a => ld_st _ _ _ _ _ _ _ (by omega))
      simp only [p55_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p55_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p54_at]
      exact dot_col _ _ _ _ _ _ _ _ (by omega)
  · refine (g0_at _ _ _ _ _ _ _ _ _ r x1 (fun n => ?_) (fun n => sel2_at r n) (fun q a => ?_)).trans ?_
    · exact (selx_at _ _ _).trans ((sel1_at _ _).trans (by simp only [c1, Nat.mod_mod]))
    · rw [ld_st _ _ _ _ j _ _ (by omega)]
      exact fin q a j
    refine yR_eq ?_ ?_ ?_ ?_ ?_ ?_ ?_ ?_
    · simp only [p45_at]
      exact dot_col _ _ _ _ _ _ _ _ (by omega)
    · refine congrArg₂ (fun f g => backS 2 (by decide) (by decide) f g r) (funext fun m => ?_)
        (funext fun q => funext fun a => ld_st _ _ _ _ _ _ _ (by omega))
      simp only [p47_at]
      unfold sR
      exact congrArg₂ (fun a b : EReal => a * b) (dot_col _ _ _ _ _ _ _ _ (by omega)) (dot_col _ _ _ _ _ _ _ _ (by omega))
    · exact ld_cw _ _ _ _ _ _ _ rfl (by omega)
    · refine congrArg₂ (fun f g => backS 1 (by decide) (by decide) f g r) (funext fun m => ?_)
        (funext fun q => funext fun a => ld_st _ _ _ _ _ _ _ (by omega))
      simp only [p47_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p47_at]
      unfold sR
      exact congrArg₂ (fun a b : EReal => a * b) (dot_col _ _ _ _ _ _ _ _ (by omega)) (dot_col _ _ _ _ _ _ _ _ (by omega))
    · exact ld_cw _ _ _ _ _ _ _ rfl (by omega)
    · simp only [p46_at]
      exact dot_col _ _ _ _ _ _ _ _ (by omega)

end Cert.ConvA
end
-- ==== Proof.ConvA.SpecP.lean ====
module

public import proofs.«01_k».proof.Proof.ConvA.Spec

/-!
The prompt rows counted through.
-/

@[expose] public section
set_option maxRecDepth 16384
noncomputable section
namespace Cert.ConvA
open Idealize.ShloMosaic Idealize.ShloMosaic.TcCoe Idealize.SL.Sem
open Cert.Cmlp

/-- The product `d` rows back, zero before the first row. -/
def backP (d : ℕ) (P : Fin 8192 → Fin 2048 → EReal) (W : Fin 2048 → Fin 4096 → EReal) (R : Fin 8192) (j : Fin 1024) : EReal :=
  if h : d ≤ (R : ℕ) then sR (P ⟨R - d, by omega⟩) W j else 0

end Cert.ConvA
end
-- ==== Proof.ConvA.Final.lean ====
module

public import proofs.«01_k».proof.Proof.ConvA.TileA
public import proofs.«01_k».proof.Proof.ConvA.TileB
public import proofs.«01_k».proof.Proof.ConvA.TileC
public import proofs.«01_k».proof.Proof.ConvA.SpecP

/-!
The gated short convolution: what its windows bring in, what each point leaves, and the four result arrays.
-/

@[expose] public section
set_option maxRecDepth 16384
noncomputable section
namespace Cert.ConvA
open Idealize.ShloMosaic Idealize.ShloMosaic.TcCoe Idealize.SL.Sem
open Cert.Kernel4Ideal Cert.Kernel4Ideal.Gen Cert.Kernel4Ideal.Body Cert.Cmlp

variable (m : (ℓ : Loc nD τ sig) → Buf (Elt Ideal) ℓ) (c : Dev nD)

/-- The block numbers of the windows. -/
theorem idx : ∀ t : Fin cfg0.N, win0_1.index t = ![0, 0, 0] ∧ win0_2.index t = ![0, 0] ∧ win0_3.index t = ![0, 0]
    ∧ win0_4.index t = ![0, 0] ∧ win0_5.index t = ![0, 0, 0] ∧ win0_6.index t = ![t.val, 0] ∧ win0_7.index t = ![0, 0, 0]
    ∧ win0_8.index t = ![0, 0, 0] ∧ win0_9.index t = ![t.val, 0] :=
  (by decide +kernel : ∀ t : Fin grid0.N, _)

theorem idxP : ∀ t : Fin cfg0.N, t.val < 16 → win0_0.index t = ![t.val, 0] :=
  (by decide +kernel : ∀ t : Fin grid0.N, _)

/-! ## The arguments -/

abbrev aP (R : Fin 8192) (k : Fin 2048) : EReal := m ((c : Thread nD τ).loc main_arg0) (ix3 0 R k)
abbrev aS (q : Fin 128) (t : Fin 4) (k : Fin 2048) : EReal := m ((c : Thread nD τ).loc main_arg1) (ix3 q t k)
abbrev aT (q : Fin 128) (a : Fin 2) (j : Fin 1024) : EReal := m ((c : Thread nD τ).loc main_arg2) (ix3 q a j)
abbrev aG (k : Fin 2048) : EReal := m ((c : Thread nD τ).loc main_arg3) (ix1 k)
abbrev aW (k : Fin 2048) (n : Fin 4096) : EReal := m ((c : Thread nD τ).loc main_arg4) (ix2 k ⟨n, by omega⟩)
abbrev aC (a : Fin 3) (j : Fin 1024) : EReal := m ((c : Thread nD τ).loc main_arg5) (ix2 a j)

/-! ## The blocks -/

theorem V0 : V m c main_v0 = shapeCast (s := S1x8192x2048) S8192x2048 (m ((c : Thread nD τ).loc main_arg0)) := by
  unfold V
  simp only [List.flatten_cons, List.flatten_nil, List.append_nil, hostOps0, List.cons_append, List.nil_append]
  after_results
  rfl

theorem V1 : V m c main_v1 = shapeCast (s := S2048) S1x2048 (m ((c : Thread nD τ).loc main_arg3)) := by
  unfold V
  simp only [List.flatten_cons, List.flatten_nil, List.append_nil, hostOps0, List.cons_append, List.nil_append]
  after_results
  rfl

theorem blk0 (t : Fin cfg0.N) (ht : t.val < 16) (r : Fin 512) (k : Fin 2048) :
    iblk m c 0 t (ix2 r k) = aP m c ⟨512 * t.val + r, by omega⟩ k := by
  refine Eq.trans (b := V m c main_v0 (ix2 ⟨512 * t.val + r, by omega⟩ k)) ?_ ?_
  · blk_ext [iblk, idxP t ht]
  · rw [V0]
    pointwise []

theorem blk1 (t : Fin cfg0.N) (q : Fin 128) (s : Fin 4) (k : Fin 2048) : iblk m c 1 t (ix3 q s k) = aS m c q s k := by
  blk_ext [iblk, V, idx t]

theorem blk2 (t : Fin cfg0.N) (k : Fin 2048) : iblk m c 2 t (ix2 0 k) = aG m c k := by
  refine Eq.trans (b := V m c main_v1 (ix2 0 k)) ?_ ?_
  · blk_ext [iblk, idx t]
  · rw [V1]
    pointwise []

theorem blk3 (t : Fin cfg0.N) (k : Fin 2048) (n : Fin 4096) : X0_3 m c t (ix2 k n) = aW m c k n := by
  unfold X0_3 Pipeline.Window.fill
  rw [dif_pos (moved0_3 t _)]
  blk_ext [iblk, V, idx t]

theorem blk4 (t : Fin cfg0.N) (a : Fin 3) (j : Fin 1024) : iblk m c 4 t (ix2 a j) = aC m c a j := by
  blk_ext [iblk, V, idx t]

theorem blk5 (t : Fin cfg0.N) (q : Fin 128) (a : Fin 2) (j : Fin 1024) : iblk m c 5 t (ix3 q a j) = aT m c q a j := by
  blk_ext [iblk, V, idx t]

theorem rowG (t : Fin cfg0.N) : (fun k => iblk m c 2 t (ix2 0 k)) = aG m c := funext fun k => blk2 m c t k
theorem matW (t : Fin cfg0.N) : (fun k n => X0_3 m c t (ix2 k n)) = aW m c := funext fun k => funext fun n => blk3 m c t k n
theorem matC (t : Fin cfg0.N) : (fun a j => iblk m c 4 t (ix2 a j)) = aC m c := funext fun a => funext fun j => blk4 m c t a j

/-! ## What is computed -/

/-- The normalised prompt rows, -/
abbrev hP (R : Fin 8192) : Fin 2048 → EReal := rmsR (aP m c R) (aG m c)
/-- and the normalised sample rows, counted through. -/
abbrev hS (r : Fin 512) : Fin 2048 → EReal := rmsR (aS m c ⟨(r : ℕ) / 4, by omega⟩ ⟨(r : ℕ) % 4, by omega⟩) (aG m c)

theorem normP (t : Fin cfg0.N) (ht : t.val < 16) (r : Fin 512) :
    (fun k => k0_pay4 (iblk m c 0 t) (iblk m c 2 t) (ix2 r k)) = hP m c ⟨512 * t.val + r, by omega⟩ := by
  funext k
  rw [norm_at, rowG m c t, funext (blk0 m c t ht r)]

theorem normS (t : Fin cfg0.N) (r : Fin 512) :
    (fun k => k0_pay36 (iblk m c 1 t) (iblk m c 2 t) (ix2 r k)) = hS m c r := by
  funext k
  rw [normC_at, rowG m c t, funext (blk1 m c t _ _)]

/-! ## The carried rows -/

/-- After a prompt tile the carried rows are the products of its last eight rows. -/
theorem carry_at (n : ℕ) (h : n < 16) (a : Fin 8) (j : Fin 1024) :
    carry m c n h (ix2 a j) = sR (hP m c ⟨512 * n + 504 + a, by omega⟩) (aW m c) j := by
  cases n with
  | zero =>
    show kA m c (Body.pt 0 h) h rfl (ix2 a j) = _
    unfold kA
    rw [outA12_at, normP m c _ h, matW]
    exact congrArg (fun R => sR (hP m c R) (aW m c) j) (Fin.ext (by simp only [Body.pt]; omega))
  | succ n =>
    show kB m c (Body.pt (n + 1) h) h (Nat.succ_ne_zero n) _ (ix2 a j) = _
    unfold kB
    rw [outB12_at, normP m c _ h, matW]
    exact congrArg (fun R => sR (hP m c R) (aW m c) j) (Fin.ext (by simp only [Body.pt]; omega))

theorem back_tile (d : ℕ) (hd : d ≤ 8) (H : Fin 512 → Fin 2048 → EReal) (W : Fin 2048 → Fin 4096 → EReal) (K : Fin 8 → Fin 1024 → EReal)
    (P : Fin 8192 → Fin 2048 → EReal) (n : ℕ) (hn : n < 16) (eH : ∀ r : Fin 512, H r = P ⟨512 * n + r, by omega⟩)
    (eK : ∀ (a : Fin 8) j, K a j = if h : n = 0 then 0 else sR (P ⟨512 * n + a - 8, by omega⟩) W j) (r : Fin 512) (j : Fin 1024) :
    back d hd H W K r j = backP d P W ⟨512 * n + r, by omega⟩ j := by
  unfold back backP
  by_cases h : d ≤ (r : ℕ)
  · rw [dif_pos h, dif_pos (by simp only; omega), eH]
    exact congrArg (fun R => sR (P R) W j) (Fin.ext (by simp only; omega))
  · rw [dif_neg h, eK]
    by_cases h0 : n = 0
    · rw [dif_pos h0, dif_neg (by simp only; omega)]
    · rw [dif_neg h0, dif_pos (by simp only; omega)]
      exact congrArg (fun R => sR (P R) W j) (Fin.ext (by simp only; omega))

/-! ## The points -/

/-- The gated output at a prompt row, -/
abbrev kP (R : Fin 8192) (j : Fin 1024) : EReal :=
  yR (hP m c R) (aW m c) (aC m c) j (backP 2 (hP m c) (aW m c) R j) (backP 1 (hP m c) (aW m c) R j) (sR (hP m c R) (aW m c) j)
/-- and at a sample row. -/
abbrev kS (r : Fin 512) (j : Fin 1024) : EReal :=
  yR (hS m c r) (aW m c) (aC m c) j
    (backS 2 (by decide) (by decide) (fun r => sR (hS m c r) (aW m c) j) (fun q a => aT m c q a j) r)
    (backS 1 (by decide) (by decide) (fun r => sR (hS m c r) (aW m c) j) (fun q a => aT m c q a j) r) (sR (hS m c r) (aW m c) j)

theorem yR_congr {h h' : Fin 2048 → EReal} {W W' : Fin 2048 → Fin 4096 → EReal} {cw cw' : Fin 3 → Fin 1024 → EReal} (j : Fin 1024)
    {p2 q2 p1 q1 s t : EReal} (e1 : h = h') (e2 : W = W') (e3 : cw = cw') (e4 : p2 = q2) (e5 : p1 = q1) (e6 : s = t) :
    yR h W cw j p2 p1 s = yR h' W' cw' j q2 q1 t := by subst e1 e2 e3 e4 e5 e6; rfl

theorem tileP (t : Fin cfg0.N) (h : t.val < 16) (r : Fin 512) (j : Fin 1024) :
    tile6 m c t (ix2 r j) = kP m c ⟨512 * t.val + r, by omega⟩ j := by
  unfold tile6
  rw [dif_pos h]
  by_cases h0 : t.val = 0
  · rw [dif_pos h0]
    unfold yA
    rw [outA7_at]
    refine yR_congr j (normP m c t h r) (matW m c t) (matC m c t) ?_ ?_ ?_
    · rw [matW m c t]
      exact back_tile 2 _ _ _ _ (hP m c) t.val h (fun r => normP m c t h r) (fun a j => by rw [dif_pos h0]) r j
    · rw [matW m c t]
      exact back_tile 1 _ _ _ _ (hP m c) t.val h (fun r => normP m c t h r) (fun a j => by rw [dif_pos h0]) r j
    · rw [normP m c t h r, matW m c t]
  · rw [dif_neg h0]
    unfold yB
    rw [outB7_at]
    have eK : ∀ (a : Fin 8) (j : Fin 1024), before m c t h (ix2 a j)
        = if _ : t.val = 0 then 0 else sR (hP m c ⟨512 * t.val + a - 8, by omega⟩) (aW m c) j := by
      intro a j
      rw [dif_neg h0]
      refine (carry_at m c (t.val - 1) _ a j).trans ?_
      exact congrArg (fun R => sR (hP m c R) (aW m c) j) (Fin.ext (by simp only; omega))
    refine yR_congr j (normP m c t h r) (matW m c t) (matC m c t) ?_ ?_ ?_
    · rw [matW m c t]
      exact back_tile 2 _ _ _ _ (hP m c) t.val h (fun r => normP m c t h r) eK r j
    · rw [matW m c t]
      exact back_tile 1 _ _ _ _ (hP m c) t.val h (fun r => normP m c t h r) eK r j
    · rw [normP m c t h r, matW m c t]

theorem tileS (t : Fin cfg0.N) (h : ¬t.val < 16) (fin : ∀ q a j, aT m c q a j - aT m c q a j = 0) (r : Fin 512) (j : Fin 1024) :
    tile6 m c t (ix2 r j) = kS m c r j := by
  unfold tile6
  rw [dif_neg h]
  unfold yC
  rw [outC7_at]
  · have e : (fun r => sR (fun k => k0_pay36 (iblk m c 1 last) (iblk m c 2 last) (ix2 r k)) (fun k n => X0_3 m c last (ix2 k n)) j)
        = fun r => sR (hS m c r) (aW m c) j := by
      funext r
      rw [normS m c last r, matW m c last]
    have e' : (fun (q : Fin 128) (a : Fin 2) => iblk m c 5 last (ix3 q a j)) = fun q a => aT m c q a j :=
      funext fun q => funext fun a => blk5 m c last q a j
    refine yR_congr j (normS m c last r) (matW m c last) (matC m c last) ?_ ?_ ?_
    · exact congrArg₂ (fun f g => backS 2 (by decide) (by decide) f g r) e e'
    · exact congrArg₂ (fun f g => backS 1 (by decide) (by decide) f g r) e e'
    · exact congrFun e r
  · intro q a j
    rw [blk5 m c last q a j]
    exact fin q a j

/-- The normalised rows at point `t`. -/
theorem tileH (t : Fin cfg0.N) (h : t.val < 16) (r : Fin 512) (k : Fin 2048) :
    tile9 m c t (ix2 r k) = hP m c ⟨512 * t.val + r, by omega⟩ k := by
  unfold tile9
  rw [dif_pos h]
  by_cases h0 : t.val = 0
  · rw [dif_pos h0]
    unfold hA
    rw [outA10_eq]
    exact congrFun (normP m c t h r) k
  · rw [dif_neg h0]
    unfold hB
    rw [outB10_eq]
    exact congrFun (normP m c t h r) k

theorem tileHS (t : Fin cfg0.N) (h : ¬t.val < 16) (r : Fin 512) (k : Fin 2048) : tile9 m c t (ix2 r k) = hS m c r k := by
  unfold tile9
  rw [dif_neg h]
  unfold hC
  rw [outC10_eq]
  exact congrFun (normS m c last r) k

/-- The prompt's carried state at the end: the products of its last two rows. -/
theorem stateP (a : Fin 2) (j : Fin 1024) : tile7 m c last (ix3 0 a j) = sR (hP m c ⟨8190 + a, by omega⟩) (aW m c) j := by
  unfold tile7
  rw [dif_neg (by decide)]
  unfold state
  rw [dif_neg (by decide)]
  unfold sB
  rw [outB8_at, normP m c _ (by decide), matW]
  exact congrArg (fun R => sR (hP m c R) (aW m c) j) (Fin.ext (by simp only [Body.pt]; omega))

/-- The sample's carried state at the end: the products of each sequence's last two rows. -/
theorem stateS (q : Fin 128) (a : Fin 2) (j : Fin 1024) :
    uC m c (ix3 q a j) = sR (hS m c ⟨4 * q + 2 + a, by omega⟩) (aW m c) j := by
  unfold uC
  rw [outC9_at, normS, matW]

/-! ## The arrays -/

theorem apart6 : ∀ t t' : Fin cfg0.N, (cfg0.win 6).flush t = true → (cfg0.win 6).flush t' = true → t ≠ t' →
    Disjoint ((cfg0.win 6).blk t).view.set ((cfg0.win 6).blk t').view.set :=
  (cfg0.win 6).hdisj_of_index_inj (by decide +kernel : ∀ t t' : Fin grid0.N, win0_6.flush t = true → win0_6.flush t' = true →
    win0_6.index t = win0_6.index t' → t = t')

theorem flushed6 (t : Fin cfg0.N) : (dats m 0 c).flushed 6 t = (cfg0.win 6).cut (grid0.coords t) (tile6 m c t) := by
  show (cfg0.win 6).cut (grid0.coords t) ((dats m 0 c).after 6 t) = _
  rw [after6]

theorem arr6_at (n : ℕ) (hn : n < cfg0.N) (r : Fin 512) (j : Fin 1024) :
    (dats m 0 c).arrAt 6 cfg0.N (ix2 ⟨512 * n + r, lt_of_lt_of_eq (by have := lt_of_lt_of_eq hn N_0; omega : 512 * n + r < 8704) rfl⟩ j) = tile6 m c ⟨n, hn⟩ (ix2 r j) := by
  have h := congrFun ((dats m 0 c).read_blk_arrAt_eq_flushed 6 apart6 cfg0.N ⟨n, hn⟩ hn (flush0_6 _)) (ix2 r j)
  rw [flushed6] at h
  refine Eq.trans ?_ (h.trans ?_)
  · blk_ext [idx ⟨n, hn⟩]
  · rfl

theorem apart9 : ∀ t t' : Fin cfg0.N, (cfg0.win 9).flush t = true → (cfg0.win 9).flush t' = true → t ≠ t' →
    Disjoint ((cfg0.win 9).blk t).view.set ((cfg0.win 9).blk t').view.set :=
  (cfg0.win 9).hdisj_of_index_inj (by decide +kernel : ∀ t t' : Fin grid0.N, win0_9.flush t = true → win0_9.flush t' = true →
    win0_9.index t = win0_9.index t' → t = t')

theorem flushed9 (t : Fin cfg0.N) : (dats m 0 c).flushed 9 t = (cfg0.win 9).cut (grid0.coords t) (tile9 m c t) := by
  show (cfg0.win 9).cut (grid0.coords t) ((dats m 0 c).after 9 t) = _
  rw [after9]

theorem arr9_at (n : ℕ) (hn : n < cfg0.N) (r : Fin 512) (j : Fin 2048) :
    (dats m 0 c).arrAt 9 cfg0.N (ix2 ⟨512 * n + r, lt_of_lt_of_eq (by have := lt_of_lt_of_eq hn N_0; omega : 512 * n + r < 8704) rfl⟩ j) = tile9 m c ⟨n, hn⟩ (ix2 r j) := by
  have h := congrFun ((dats m 0 c).read_blk_arrAt_eq_flushed 9 apart9 cfg0.N ⟨n, hn⟩ hn (flush0_9 _)) (ix2 r j)
  rw [flushed9] at h
  refine Eq.trans ?_ (h.trans ?_)
  · blk_ext [idx ⟨n, hn⟩]
  · rfl

theorem apart7 : ∀ t t' : Fin cfg0.N, (cfg0.win 7).flush t = true → (cfg0.win 7).flush t' = true → t ≠ t' →
    Disjoint ((cfg0.win 7).blk t).view.set ((cfg0.win 7).blk t').view.set :=
  fun t t' h h' hne => absurd (Fin.ext (by
    have := (flush0_7 t).mp h; have := (flush0_7 t').mp h'; have := Body.N17 t; have := Body.N17 t'; omega)) hne

theorem flushed7 : (dats m 0 c).flushed 7 last = (cfg0.win 7).cut (grid0.coords last) (tile7 m c last) := by
  show (cfg0.win 7).cut (grid0.coords last) ((dats m 0 c).after 7 last) = _
  rw [after7]

theorem arr7_at (a : Fin 2) (j : Fin 1024) : (dats m 0 c).arrAt 7 cfg0.N (ix3 0 a j) = sR (hP m c ⟨8190 + a, by omega⟩) (aW m c) j := by
  have h := congrFun ((dats m 0 c).read_blk_arrAt_eq_flushed 7 apart7 cfg0.N last last.isLt ((flush0_7 last).mpr (by decide))) (ix3 0 a j)
  rw [flushed7] at h
  refine Eq.trans ?_ (h.trans (Eq.trans ?_ (stateP m c a j)))
  · blk_ext [idx last]
  · rfl

theorem apart8 : ∀ t t' : Fin cfg0.N, (cfg0.win 8).flush t = true → (cfg0.win 8).flush t' = true → t ≠ t' →
    Disjoint ((cfg0.win 8).blk t).view.set ((cfg0.win 8).blk t').view.set :=
  fun t t' h h' hne => absurd (Fin.ext (by
    have := (flush0_8 t).mp h; have := (flush0_8 t').mp h'; have := Body.N17 t; have := Body.N17 t'; omega)) hne

theorem flushed8 : (dats m 0 c).flushed 8 last = (cfg0.win 8).cut (grid0.coords last) (uC m c) := by
  show (cfg0.win 8).cut (grid0.coords last) ((dats m 0 c).after 8 last) = _
  rw [after8]

theorem arr8_at (q : Fin 128) (a : Fin 2) (j : Fin 1024) : (dats m 0 c).arrAt 8 cfg0.N (ix3 q a j) = sR (hS m c ⟨4 * q + 2 + a, by omega⟩) (aW m c) j := by
  have h := congrFun ((dats m 0 c).read_blk_arrAt_eq_flushed 8 apart8 cfg0.N last last.isLt ((flush0_8 last).mpr (by decide))) (ix3 q a j)
  rw [flushed8] at h
  refine Eq.trans ?_ (h.trans (Eq.trans ?_ (stateS m c q a j)))
  · blk_ext [idx last]
  · rfl

/-- The first result: prompt rows, then sample rows. -/
theorem y_at (fin : ∀ q a j, aT m c q a j - aT m c q a j = 0) (R : Fin 8704) (j : Fin 1024) :
    (dats m 0 c).arrAt 6 cfg0.N (ix2 R j) = if h : (R : ℕ) < 8192 then kP m c ⟨R, h⟩ j else kS m c ⟨R - 8192, by omega⟩ j := by
  have hN : cfg0.N = 17 := N_0
  have e := arr6_at m c ((R : ℕ) / 512) (by omega) ⟨(R : ℕ) % 512, by omega⟩ j
  refine (congrArg (fun R => (dats m 0 c).arrAt 6 cfg0.N (ix2 R j)) (Fin.ext (by simp only; omega))).trans (e.trans ?_)
  by_cases h : (R : ℕ) < 8192
  · rw [dif_pos h, tileP m c _ (by simp only; omega)]
    exact congrArg (fun R => kP m c R j) (Fin.ext (by simp only; omega))
  · rw [dif_neg h, tileS m c _ (by simp only; omega) fin]
    exact congrArg (fun R => kS m c R j) (Fin.ext (by simp only; omega))

/-- The fourth result: the normalised rows. -/
theorem h_at (R : Fin 8704) (k : Fin 2048) :
    (dats m 0 c).arrAt 9 cfg0.N (ix2 R k) = if h : (R : ℕ) < 8192 then hP m c ⟨R, h⟩ k else hS m c ⟨R - 8192, by omega⟩ k := by
  have hN : cfg0.N = 17 := N_0
  have e := arr9_at m c ((R : ℕ) / 512) (by omega) ⟨(R : ℕ) % 512, by omega⟩ k
  refine (congrArg (fun R => (dats m 0 c).arrAt 9 cfg0.N (ix2 R k)) (Fin.ext (by simp only; omega))).trans (e.trans ?_)
  by_cases h : (R : ℕ) < 8192
  · rw [dif_pos h, tileH m c _ (by simp only; omega)]
    exact congrArg (fun R => hP m c R k) (Fin.ext (by simp only; omega))
  · rw [dif_neg h, tileHS m c _ (by simp only; omega)]
    exact congrArg (fun R => hS m c R k) (Fin.ext (by simp only; omega))

end Cert.ConvA
end
-- ==== Proof.ConvA.Ref.lean ====
module

public import proofs.«01_k».proof.Proof.ConvA.SpecP
public import proofs.«01_k».proof.Proof.ConvA.SpecS
public import proofs.«01_k».proof.Proof.Gen.Reference4Ideal.Read

/-!
The gated short convolution in the reference, entry by entry.
-/

@[expose] public section
set_option maxRecDepth 16384
noncomputable section
namespace Cert.ConvA.Ref
open Idealize.ShloMosaic Idealize.ShloMosaic.TcCoe Idealize.SL.Sem
open Cert.Reference4Ideal Cert.Reference4Ideal.Read Cert.Cmlp Cert.ConvA

variable (x0 : (⟨S1x8192x2048, .f32⟩ : BufTy).Contents (Elt Ideal)) (x1 : (⟨S128x4x2048, .f32⟩ : BufTy).Contents (Elt Ideal))
  (x2 : (⟨S128x2x1024, .f32⟩ : BufTy).Contents (Elt Ideal)) (x3 : (⟨S2048, .f32⟩ : BufTy).Contents (Elt Ideal))
  (x4 : (⟨S2048x6656, .f32⟩ : BufTy).Contents (Elt Ideal)) (x5 : (⟨S3x1024, .f32⟩ : BufTy).Contents (Elt Ideal))

abbrev fG (k : Fin 2048) : EReal := x3 (ix1 k)
abbrev fW (k : Fin 2048) (n : Fin 4096) : EReal := x4 (ix2 k ⟨n, by omega⟩)
abbrev fC (a : Fin 3) (j : Fin 1024) : EReal := x5 (ix2 a j)
abbrev fT (q : Fin 128) (a : Fin 2) (j : Fin 1024) : EReal := x2 (ix3 q a j)
/-- The normalised prompt rows, -/
abbrev nP (R : Fin 8192) : Fin 2048 → EReal := rmsR (fun k => x0 (ix3 0 R k)) (fG x3)
/-- the normalised sample rows by sequence and step, -/
abbrev nQ (q : Fin 128) (t : Fin 4) : Fin 2048 → EReal := rmsR (fun k => x1 (ix3 q t k)) (fG x3)
/-- and counted through. -/
abbrev nS (r : Fin 512) : Fin 2048 → EReal := nQ x1 x3 ⟨(r : ℕ) / 4, by omega⟩ ⟨(r : ℕ) % 4, by omega⟩

/-! ## The prompt rows -/

theorem v13_at (R : Fin 8192) (k : Fin 2048) : val_main_v13 (F := Ideal) x0 x3 (ix3 0 R k) = nP x0 x3 R k := by
  unfold nP rmsR
  pointwise [val_main_v1, val_main_v2, val_main_v3, val_main_v4, val_main_v5, val_main_v6, val_main_v7, val_main_v8, val_main_v9, val_main_v10, val_main_v11, val_main_v12, val_main_v13, val_main_cst_0, val_main_cst_1, val_main_cst_2]

theorem v14_at (R : Fin 8192) (n : Fin 6656) :
    val_main_v14 (F := Ideal) x0 x3 x4 (ix3 0 R n) = dotR (nP x0 x3 R) (fun k => x4 (ix2 k n)) := by
  unfold dotR
  pointwise [val_main_v14, v13_at]

theorem v15_at (R : Fin 8192) (j : Fin 1024) :
    val_main_v15 (F := Ideal) x0 x3 x4 (ix3 0 R j) = dotR (nP x0 x3 R) (col (fW x4) 0 (by decide) j) := by
  unfold col
  pointwise [val_main_v15, v14_at]
theorem v18_at (R : Fin 8192) (j : Fin 1024) :
    val_main_v18 (F := Ideal) x0 x3 x4 (ix3 0 R j) = dotR (nP x0 x3 R) (col (fW x4) 3 (by decide) j) := by
  unfold col
  pointwise [val_main_v18, v14_at]
theorem v16_at (R : Fin 8192) (j : Fin 1024) :
    val_main_v16 (F := Ideal) x0 x3 x4 (ix3 0 R j) = dotR (nP x0 x3 R) (col (fW x4) 1 (by decide) j) := by
  unfold col
  pointwise [val_main_v16, v14_at]
theorem v17_at (R : Fin 8192) (j : Fin 1024) :
    val_main_v17 (F := Ideal) x0 x3 x4 (ix3 0 R j) = dotR (nP x0 x3 R) (col (fW x4) 2 (by decide) j) := by
  unfold col
  pointwise [val_main_v17, v14_at]

theorem v19_at (R : Fin 8192) (j : Fin 1024) : val_main_v19 (F := Ideal) x0 x3 x4 (ix3 0 R j) = sR (nP x0 x3 R) (fW x4) j := by
  unfold sR
  pointwise [val_main_v19, v16_at, v17_at]

/-- The products with the two zero rows before them. -/
theorem v20_at (u : Fin 8194) (j : Fin 1024) : val_main_v20 (F := Ideal) x0 x3 x4 (ix3 0 u j)
    = if h : (u : ℕ) < 2 then 0 else sR (nP x0 x3 ⟨u - 2, by omega⟩) (fW x4) j := by
  pointwise [val_main_v20, val_main_v0, val_main_cst, v19_at]

theorem v20_back (d : ℕ) (hd : d ≤ 2) (R : Fin 8192) (u : Fin 8194) (hu : (u : ℕ) + d = R + 2) (j : Fin 1024) :
    val_main_v20 (F := Ideal) x0 x3 x4 (ix3 0 u j) = backP d (nP x0 x3) (fW x4) R j := by
  rw [v20_at]
  unfold backP
  by_cases h : d ≤ (R : ℕ)
  · rw [dif_neg (by omega), dif_pos h]
    exact congrArg (fun R => sR (nP x0 x3 R) (fW x4) j) (Fin.ext (by simp only; omega))
  · rw [dif_pos (by omega), dif_neg h]

theorem v43_at (R : Fin 8192) (j : Fin 1024) :
    val_main_v43 (F := Ideal) x0 x3 x4 (ix3 0 R j) = silu (dotR (nP x0 x3 R) (col (fW x4) 3 (by decide) j)) := by
  unfold silu Ideal.logistic
  pointwise [val_main_v43, val_main_call0_v0, val_main_call0_v1, val_main_call0_cst, val_main_call0_v2, val_main_call0_v3, val_main_call0_cst_0, val_main_call0_v4, val_main_call0_v5, v18_at]

theorem v44_at (R : Fin 8192) (j : Fin 1024) : val_main_v44 (F := Ideal) x0 x3 x4 x5 (ix3 0 R j)
    = yR (nP x0 x3 R) (fW x4) (fC x5) j (backP 2 (nP x0 x3) (fW x4) R j) (backP 1 (nP x0 x3) (fW x4) R j) (sR (nP x0 x3 R) (fW x4) j) := by
  pointwise [val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v42, val_main_v44, v15_at, v43_at]
  refine yR_eq rfl ?_ rfl ?_ rfl ?_ rfl rfl
  · exact v20_back x0 x3 x4 2 (by decide) R _ (by simp only) j
  · exact v20_back x0 x3 x4 1 (by decide) R _ (by simp only; omega) j
  · exact (v20_back x0 x3 x4 0 (by decide) R _ (by simp only; omega) j).trans (by unfold backP; rw [dif_pos (Nat.zero_le _)]; rfl)

/-- The prompt's new carried rows. -/
theorem v41_at (a : Fin 2) (j : Fin 1024) :
    val_main_v41 (F := Ideal) x0 x3 x4 (ix3 0 a j) = sR (nP x0 x3 ⟨8190 + a, by omega⟩) (fW x4) j := by
  pointwise [val_main_v41, v20_at]
  rw [dif_neg (by omega)]
  exact congrArg (fun R => sR (nP x0 x3 R) (fW x4) j) (Fin.ext (by simp only; omega))

/-! ## The sample rows -/

theorem v57_at (q : Fin 128) (t : Fin 4) (k : Fin 2048) : val_main_v57 (F := Ideal) x1 x3 (ix3 q t k) = nQ x1 x3 q t k := by
  unfold nQ rmsR
  pointwise [val_main_v45, val_main_v46, val_main_v47, val_main_v48, val_main_v49, val_main_v50, val_main_v51, val_main_v52, val_main_v53, val_main_v54, val_main_v55, val_main_v56, val_main_v57, val_main_cst_3, val_main_cst_4, val_main_cst_5]

theorem v58_at (q : Fin 128) (t : Fin 4) (n : Fin 6656) :
    val_main_v58 (F := Ideal) x1 x3 x4 (ix3 q t n) = dotR (nQ x1 x3 q t) (fun k => x4 (ix2 k n)) := by
  unfold dotR
  pointwise [val_main_v58, v57_at]

theorem v59_at (q : Fin 128) (t : Fin 4) (j : Fin 1024) :
    val_main_v59 (F := Ideal) x1 x3 x4 (ix3 q t j) = dotR (nQ x1 x3 q t) (col (fW x4) 0 (by decide) j) := by
  unfold col
  pointwise [val_main_v59, v58_at]
theorem v62_at (q : Fin 128) (t : Fin 4) (j : Fin 1024) :
    val_main_v62 (F := Ideal) x1 x3 x4 (ix3 q t j) = dotR (nQ x1 x3 q t) (col (fW x4) 3 (by decide) j) := by
  unfold col
  pointwise [val_main_v62, v58_at]
theorem v60_at (q : Fin 128) (t : Fin 4) (j : Fin 1024) :
    val_main_v60 (F := Ideal) x1 x3 x4 (ix3 q t j) = dotR (nQ x1 x3 q t) (col (fW x4) 1 (by decide) j) := by
  unfold col
  pointwise [val_main_v60, v58_at]
theorem v61_at (q : Fin 128) (t : Fin 4) (j : Fin 1024) :
    val_main_v61 (F := Ideal) x1 x3 x4 (ix3 q t j) = dotR (nQ x1 x3 q t) (col (fW x4) 2 (by decide) j) := by
  unfold col
  pointwise [val_main_v61, v58_at]

theorem v63_at (q : Fin 128) (t : Fin 4) (j : Fin 1024) : val_main_v63 (F := Ideal) x1 x3 x4 (ix3 q t j) = sR (nQ x1 x3 q t) (fW x4) j := by
  unfold sR
  pointwise [val_main_v63, v60_at, v61_at]

/-- The products with the two carried rows before them. -/
theorem v64_at (q : Fin 128) (u : Fin 6) (j : Fin 1024) : val_main_v64 (F := Ideal) x1 x2 x3 x4 (ix3 q u j)
    = if h : (u : ℕ) < 2 then fT x2 q ⟨u, h⟩ j else sR (nQ x1 x3 q ⟨u - 2, by omega⟩) (fW x4) j := by
  pointwise [val_main_v64, v63_at]

theorem v64_back (d : ℕ) (hd : d ≤ 2) (hd1 : 1 ≤ d) (r : Fin 512) (u : Fin 6) (hu : (u : ℕ) + d = (r : ℕ) % 4 + 2) (j : Fin 1024) :
    val_main_v64 (F := Ideal) x1 x2 x3 x4 (ix3 ⟨(r : ℕ) / 4, by omega⟩ u j)
      = backS d hd hd1 (fun r => sR (nS x1 x3 r) (fW x4) j) (fun q a => fT x2 q a j) r := by
  rw [v64_at]
  unfold backS
  by_cases h : d ≤ (r : ℕ) % 4
  · rw [dif_neg (by omega), dif_pos h]
    exact congrArg₂ (fun q t => sR (nQ x1 x3 q t) (fW x4) j) (Fin.ext (by simp only; omega)) (Fin.ext (by simp only; omega))
  · rw [dif_pos (by omega), dif_neg h]
    exact congrArg (fun a => fT x2 _ a j) (Fin.ext (by simp only; omega))

theorem v87_at (q : Fin 128) (t : Fin 4) (j : Fin 1024) :
    val_main_v87 (F := Ideal) x1 x3 x4 (ix3 q t j) = silu (dotR (nQ x1 x3 q t) (col (fW x4) 3 (by decide) j)) := by
  unfold silu Ideal.logistic
  pointwise [val_main_v87, val_main_call1_v0, val_main_call1_v1, val_main_call1_cst, val_main_call1_v2, val_main_call1_v3, val_main_call1_cst_0, val_main_call1_v4, val_main_call1_v5, v62_at]

theorem v88_at (r : Fin 512) (j : Fin 1024) : val_main_v88 (F := Ideal) x1 x2 x3 x4 x5 (ix3 ⟨(r : ℕ) / 4, by omega⟩ ⟨(r : ℕ) % 4, by omega⟩ j)
    = yR (nS x1 x3 r) (fW x4) (fC x5) j
        (backS 2 (by decide) (by decide) (fun r => sR (nS x1 x3 r) (fW x4) j) (fun q a => fT x2 q a j) r)
        (backS 1 (by decide) (by decide) (fun r => sR (nS x1 x3 r) (fW x4) j) (fun q a => fT x2 q a j) r) (sR (nS x1 x3 r) (fW x4) j) := by
  pointwise [val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v86, val_main_v88, v59_at, v87_at]
  refine yR_eq rfl ?_ rfl ?_ rfl ?_ rfl rfl
  · exact v64_back x1 x2 x3 x4 2 (by decide) (by decide) r _ (by simp only) j
  · exact v64_back x1 x2 x3 x4 1 (by decide) (by decide) r _ (by simp only; omega) j
  · refine (v64_at x1 x2 x3 x4 _ _ j).trans ?_
    rw [dif_neg (by simp only; omega)]
    exact congrArg (fun t => sR (nQ x1 x3 _ t) (fW x4) j) (Fin.ext (by simp only; omega))

/-- The sample's new carried rows. -/
theorem v85_at (q : Fin 128) (a : Fin 2) (j : Fin 1024) :
    val_main_v85 (F := Ideal) x1 x2 x3 x4 (ix3 q a j) = sR (nS x1 x3 ⟨4 * q + 2 + a, by omega⟩) (fW x4) j := by
  pointwise [val_main_v85, v64_at]
  rw [dif_neg (by omega)]
  exact congrArg₂ (fun q t => sR (nQ x1 x3 q t) (fW x4) j) (Fin.ext (by simp only; omega)) (Fin.ext (by simp only; omega))

/-! ## The joined results -/

theorem v95_at (R : Fin 8704) (j : Fin 1024) : val_main_v95 (F := Ideal) x0 x1 x2 x3 x4 x5 (ix2 R j)
    = if h : (R : ℕ) < 8192 then
        yR (nP x0 x3 ⟨R, h⟩) (fW x4) (fC x5) j (backP 2 (nP x0 x3) (fW x4) ⟨R, h⟩ j) (backP 1 (nP x0 x3) (fW x4) ⟨R, h⟩ j)
          (sR (nP x0 x3 ⟨R, h⟩) (fW x4) j)
      else yR (nS x1 x3 ⟨R - 8192, by omega⟩) (fW x4) (fC x5) j
        (backS 2 (by decide) (by decide) (fun r => sR (nS x1 x3 r) (fW x4) j) (fun q a => fT x2 q a j) ⟨R - 8192, by omega⟩)
        (backS 1 (by decide) (by decide) (fun r => sR (nS x1 x3 r) (fW x4) j) (fun q a => fT x2 q a j) ⟨R - 8192, by omega⟩)
        (sR (nS x1 x3 ⟨R - 8192, by omega⟩) (fW x4) j) := by
  pointwise [val_main_v89, val_main_v90, val_main_v91, val_main_v95]
  by_cases h : (R : ℕ) < 8192
  · rw [dif_pos h, dif_pos h]
    exact v44_at x0 x3 x4 x5 ⟨R, h⟩ j
  · rw [dif_neg h, dif_neg h]
    exact v88_at x1 x2 x3 x4 x5 ⟨R - 8192, by omega⟩ j

theorem v96_at (R : Fin 8704) (k : Fin 2048) : val_main_v96 (F := Ideal) x0 x1 x3 (ix2 R k)
    = if h : (R : ℕ) < 8192 then nP x0 x3 ⟨R, h⟩ k else nS x1 x3 ⟨R - 8192, by omega⟩ k := by
  pointwise [val_main_v92, val_main_v93, val_main_v94, val_main_v96]
  by_cases h : (R : ℕ) < 8192
  · rw [dif_pos h, dif_pos h]
    exact v13_at x0 x3 ⟨R, h⟩ k
  · rw [dif_neg h, dif_neg h]
    exact v57_at x1 x3 _ _ k

end Cert.ConvA.Ref
end
-- ==== Proof.ConvA.Match.lean ====
module

public import proofs.«01_k».proof.Proof.ConvA.Final
public import proofs.«01_k».proof.Proof.ConvA.Ref

/-!
The kernel's four result arrays against the reference's, and its run.
-/

@[expose] public section
set_option maxRecDepth 16384
noncomputable section
namespace Cert.ConvA
open Idealize.ShloMosaic Idealize.ShloMosaic.TcCoe Idealize.SL.Sem

variable (m : (ℓ : Loc Kernel4Ideal.nD Kernel4Ideal.τ Kernel4Ideal.sig) → Buf (Elt Ideal) ℓ) (c : Dev Kernel4Ideal.nD)

theorem gated (fin : ∀ q a j, aT m c q a j - aT m c q a j = 0) :
    Reference4Ideal.Read.val_main_v95 (F := Ideal) (m (c.tc.loc Kernel4Ideal.main_arg0)) (m (c.tc.loc Kernel4Ideal.main_arg1)) (m (c.tc.loc Kernel4Ideal.main_arg2)) (m (c.tc.loc Kernel4Ideal.main_arg3)) (m (c.tc.loc Kernel4Ideal.main_arg4)) (m (c.tc.loc Kernel4Ideal.main_arg5))
      = (Kernel4Ideal.Body.dats m 0 c).arrAt 6 Kernel4Ideal.cfg0.N := by
  refine funext fun (i : Kernel4Ideal.S8704x1024.Idx) => ?_
  idx_vars i
  exact (Ref.v95_at _ _ _ _ _ _ _ _).trans (y_at m c fin _ _).symm

theorem carriedP : Reference4Ideal.Read.val_main_v41 (F := Ideal) (m (c.tc.loc Kernel4Ideal.main_arg0)) (m (c.tc.loc Kernel4Ideal.main_arg3)) (m (c.tc.loc Kernel4Ideal.main_arg4))
      = (Kernel4Ideal.Body.dats m 0 c).arrAt 7 Kernel4Ideal.cfg0.N := by
  refine funext fun (i : Kernel4Ideal.S1x2x1024.Idx) => ?_
  idx_vars i
  obtain rfl : i0 = (0 : Fin 1) := Subsingleton.elim _ _
  exact (Ref.v41_at _ _ _ _ _).trans (arr7_at m c _ _).symm

theorem carriedS : Reference4Ideal.Read.val_main_v85 (F := Ideal) (m (c.tc.loc Kernel4Ideal.main_arg1)) (m (c.tc.loc Kernel4Ideal.main_arg2)) (m (c.tc.loc Kernel4Ideal.main_arg3)) (m (c.tc.loc Kernel4Ideal.main_arg4))
      = (Kernel4Ideal.Body.dats m 0 c).arrAt 8 Kernel4Ideal.cfg0.N := by
  refine funext fun (i : Kernel4Ideal.S128x2x1024.Idx) => ?_
  idx_vars i
  exact (Ref.v85_at _ _ _ _ _ _ _).trans (arr8_at m c _ _ _).symm

theorem normed : Reference4Ideal.Read.val_main_v96 (F := Ideal) (m (c.tc.loc Kernel4Ideal.main_arg0)) (m (c.tc.loc Kernel4Ideal.main_arg1)) (m (c.tc.loc Kernel4Ideal.main_arg3))
      = (Kernel4Ideal.Body.dats m 0 c).arrAt 9 Kernel4Ideal.cfg0.N := by
  refine funext fun (i : Kernel4Ideal.S8704x2048.Idx) => ?_
  idx_vars i
  exact (Ref.v96_at _ _ _ _ _).trans (h_at m c _ _).symm

open Kernel4Ideal Kernel4Ideal.Gen in
/-- The run with its four result arrays named. -/
theorem run (ρ : Dev Kernel4Ideal.nD → PrngReg) :
    θ_run Kernel4Ideal.defs (onTc (τ := Kernel4Ideal.τ) (Kernel4Ideal.main (F := Ideal))) ⟨m, fun _ => 0, ρ⟩ fun r => ∀ c : Dev Kernel4Ideal.nD,
      r.2.mem ((c.tc : Thread nD τ).loc main_v2_0) = (Body.dats m 0 c).arrAt 6 cfg0.N
      ∧ r.2.mem ((c.tc : Thread nD τ).loc main_v2_1) = (Body.dats m 0 c).arrAt 7 cfg0.N
      ∧ r.2.mem ((c.tc : Thread nD τ).loc main_v2_2) = (Body.dats m 0 c).arrAt 8 cfg0.N
      ∧ r.2.mem ((c.tc : Thread nD τ).loc main_v2_3) = (Body.dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run _ _ _).mono (fun r h c => ⟨(h.2 c).1 6, (h.2 c).1 7, (h.2 c).1 8, (h.2 c).1 9, h.1 c⟩)
    (θ_run_and (frame_of m ρ (Body.dats m) (Body.A_eq m) (Body.run m ρ)) (Body.run m ρ))

end Cert.ConvA
end
-- ==== Proof.ConvA.Pre.lean ====
module
public import proofs.«01_k».proof.Defs
public import Idealize.ShloMosaic.Lib.ReduceAll
public import Idealize.ShloMosaic.Lib.Pointwise

/-!
The precondition opened: every entry of the carried rows is finite.
-/

@[expose] public section
set_option maxRecDepth 16384
noncomputable section
namespace Cert.ConvA.Pre
open Idealize.ShloMosaic Idealize.ShloMosaic.TcCoe Idealize.SL.Sem

/-- The side conditions of the precondition's program. -/
theorem facts : Cert.Pre_finite_state.Facts := ⟨by decide, by decide, by decide⟩

instance : Subsingleton Cert.Pre_finite_state.S_.Idx := ⟨fun a b => funext fun d => d.elim0⟩

/-- A value below the infinity in absolute value leaves nothing when taken from itself. -/
theorem sub_self_of_lt (x : EReal) (h : max x (-x) < ⊤) : x - x = 0 := by
  obtain ⟨h1, h2⟩ := max_lt_iff.1 h
  refine EReal.sub_self (ne_of_lt h1) fun e => ?_
  subst e
  exact absurd h2 (by simp)

/-- The precondition says this of every entry of the carried rows. -/
theorem finite_of (x0 : FVec Ideal Cert.Pre_finite_state.S1x8192x2048 .f32) (x1 : FVec Ideal Cert.Pre_finite_state.S128x4x2048 .f32)
    (x2 : FVec Ideal Cert.Pre_finite_state.S128x2x1024 .f32) (x3 : FVec Ideal Cert.Pre_finite_state.S2048 .f32)
    (x4 : FVec Ideal Cert.Pre_finite_state.S2048x6656 .f32) (x5 : FVec Ideal Cert.Pre_finite_state.S3x1024 .f32)
    (h : @Cert.Pre_finite_state.fn facts Ideal _ x0 x1 x2 x3 x4 x5 = fun _ => 1#1) (i : Cert.Pre_finite_state.S128x2x1024.Idx) :
    (x2 i : EReal) - x2 i = 0 := by
  have e := Host.reduce_andi_all _ _ _ _ ix0 (congrFun h ix0) i
  have htop : Ideal.ofBits .f32 0x7F800000#32 = ⊤ := by simp [Ideal.ofBits, Ideal.ieee]
  have g : max (x2 i : EReal) (-(x2 i : EReal)) < Ideal.ofBits .f32 0x7F800000#32 := (Ideal.cmp_olt_eq_one _ _).1 e
  rw [htop] at g
  exact sub_self_of_lt _ g

end Cert.ConvA.Pre
end
-- ==== Proof.AttnS.Part.lean ====
module

public import proofs.«01_k».proof.Proof.Gen.Kernel5Ideal.Value
public import proofs.«01_k».proof.Proof.Cmlp.Spec
public import Idealize.ShloMosaic.Lib.WholeRead

/-!
One sequence of the sample attention's new windows: the old window four lanes on, and the four new entries.
-/

@[expose] public section
set_option maxRecDepth 16384
noncomputable section
namespace Cert.AttnS
open Idealize.ShloMosaic Idealize.ShloMosaic.TcCoe Idealize.SL.Sem
open Cert.Kernel5Ideal Cert.Kernel5Ideal.Gen

/-! ## One sequence's window -/

/-- The window of one sequence as the body stores it: its old entries moved four lanes down, and in the four last lanes a
row of new entries moved by `w` lanes. -/
def mix (w : BitVec 32) (a : Vec Ideal S1x4x64x128 .f32) (b : Vec Ideal S1x256x128 .f32) : Vec Ideal S1x4x64x128 .f32 :=
  shapeCast S1x4x64x128 (shapeCast S4x64x128 (select k0_pay3
    (dynamicRotate 1 124#32 none (shapeCast S256x128 (shapeCast S4x64x128 a shapeCasts_S1x4x64x128_S4x64x128)
      shapeCasts_S4x64x128_S256x128) rotates_S256x128_d1)
    (dynamicRotate 1 w none (shapeCast S256x128 b shapeCasts_S1x256x128_S256x128) rotates_S256x128_d1))
    shapeCasts_S256x128_S4x64x128) shapeCasts_S4x64x128_S1x4x64x128

theorem lane : ∀ p : Fin 128, IntOp.cmpi CmpIPredicate.slt (BitVec.ofNat 32 p) 124#32 = if (p : ℕ) < 124 then 1#1 else 0#1 := by
  decide +kernel

theorem pay3_at (r : Fin 256) (p : Fin 128) : k0_pay3 (ix2 r p) = if (p : ℕ) < 124 then 1#1 else 0#1 := by
  pointwise [k0_pay3]
  exact (lane p : _)

theorem mix_at (w : BitVec 32) (a : Vec Ideal S1x4x64x128 .f32) (b : Vec Ideal S1x256x128 .f32) (s : ℕ) (hs : s < 32)
    (hw : w.toNat = (252 - 4 * s) % 128) (h : Fin 4) (d : Fin 64) (p : Fin 128) :
    mix w a b (ix4 0 h d p) = if hp : (p : ℕ) < 124 then a (ix4 0 h d ⟨p + 4, by omega⟩)
      else b (ix3 0 ⟨h * 64 + d, by omega⟩ ⟨4 * s + (p - 124), by omega⟩) := by
  pointwise [mix, pay3_at]
  by_cases hp : (p : ℕ) < 124
  · rw [if_pos hp, dif_pos hp]
    refine Eq.trans (b := a (ix4 0 h d ⟨((p : ℕ) + 128 - 124) % 128, by omega⟩)) (by simp [Scalar.select]) ?_
    congr 2
    exact Fin.ext (by simp only; omega)
  · rw [if_neg hp, dif_neg hp]
    refine Eq.trans (b := b (ix3 0 ⟨h * 64 + d, by omega⟩ ⟨((p : ℕ) + 128 - w.toNat % 128) % 128, by omega⟩)) (by simp [Scalar.select]) ?_
    congr 2
    exact Fin.ext (by simp only; omega)

/-! ## The words of a trip: which rows it reads and writes, and by how much it moves -/

theorem word0 : ∀ (i : grid0.Coords) (k : Fin k0_t1_loop.trips),
    (trip_k0_t1.sl.v105 (Scalar.muli (BitVec.ofNat 32 (i 0).val) 16#32) k).toNat = (252 - 4 * ((16 * (i 0 : ℕ) + 2 * k) % 32)) % 128 := by
  decide +kernel

theorem word1 : ∀ (i : grid0.Coords) (k : Fin k0_t1_loop.trips),
    (trip_k0_t1.sl.v276 (Scalar.muli (BitVec.ofNat 32 (i 0).val) 16#32) k).toNat
      = (252 - 4 * ((16 * (i 0 : ℕ) + (2 * k + 1)) % 32)) % 128 := by
  decide +kernel

theorem tile0 : ∀ (i : grid0.Coords) (k : Fin k0_t1_loop.trips), k0_off3 i k 0#32 = ![(16 * (i 0 : ℕ) + 2 * k) / 32, 0, 0] := by
  decide +kernel

theorem tile1 : ∀ (i : grid0.Coords) (k : Fin k0_t1_loop.trips),
    k0_off3 i k 1#32 = ![(16 * (i 0 : ℕ) + (2 * k + 1)) / 32, 0, 0] := by
  decide +kernel

theorem seq0 : ∀ k : Fin k0_t1_loop.trips, k0_off2 k 0#32 = ![2 * (k : ℕ), 0, 0, 0] := by
  decide +kernel

theorem seq1 : ∀ k : Fin k0_t1_loop.trips, k0_off2 k 1#32 = ![2 * (k : ℕ) + 1, 0, 0, 0] := by
  decide +kernel

theorem trips8 (k : Fin k0_t1_loop.trips) : (k : ℕ) < 8 := k.isLt

theorem grid8 (i : grid0.Coords) : (i 0 : ℕ) < 8 := (i 0).isLt

/-! ## The tile -/

/-- Entry `(b, h, d, p)` of the new windows of tile `g`: the old window four lanes on, and in the four last lanes the new
entries of sequence `16 g + b`, 32 sequences to a row. -/
def tile (g : Fin 8) (new : Vec Ideal S4x256x128 .f32) (old : Vec Ideal S16x4x64x128 .f32) (b : Fin 16) (h : Fin 4) (d : Fin 64)
    (p : Fin 128) : EReal :=
  if hp : (p : ℕ) < 124 then old (ix4 b h d ⟨p + 4, by omega⟩)
  else new (ix3 ⟨(16 * g + b) / 32, by omega⟩ ⟨h * 64 + d, by omega⟩ ⟨4 * ((16 * g + b) % 32) + (p - 124), by omega⟩)

/-- The tile as an array. -/
def tileV (g : Fin 8) (new : Vec Ideal S4x256x128 .f32) (old : Vec Ideal S16x4x64x128 .f32) : Vec Ideal S16x4x64x128 .f32 :=
  fun y => tile g new old (y 0) (y 1) (y 2) (y 3)

/-- The four-lane window of sequence `b`, loaded from the tile's old windows and the row of new entries. -/
theorem part (m2 : Memref sig .tc .vmem S4x256x128 .f32) (h2 : m2.IsWhole) (m4 : Memref sig .tc .vmem S16x4x64x128 .f32) (h4 : m4.IsWhole)
    (g : Fin 8) (new : Vec Ideal S4x256x128 .f32) (old : Vec Ideal S16x4x64x128 .f32) (w : BitVec 32) (b : Fin 16)
    (o4 : Fin 4 → ℕ) (i4 : ∀ a, o4 a + S1x4x64x128.size a ≤ S16x4x64x128.size a)
    (o2 : Fin 3 → ℕ) (i2 : ∀ a, o2 a + S1x256x128.size a ≤ S4x256x128.size a)
    (e4 : o4 = ![(b : ℕ), 0, 0, 0]) (e2 : o2 = ![(16 * (g : ℕ) + b) / 32, 0, 0])
    (hw : w.toNat = (252 - 4 * ((16 * (g : ℕ) + b) % 32)) % 128) (x : S1x4x64x128.Idx) :
    mix w (m4.view.readAt (Elt Ideal) (Rect.unit (s := S16x4x64x128) o4 S1x4x64x128.size i4).toLoadRect (h4.unread old))
        (m2.view.readAt (Elt Ideal) (Rect.unit (s := S4x256x128) o2 S1x256x128.size i2).toLoadRect (h2.unread new)) x
      = tileV g new old ((Rect.unit (s := S16x4x64x128) o4 S1x4x64x128.size i4).emb x) := by
  subst e4 e2
  obtain ⟨h, d, p, rfl⟩ : ∃ (h : Fin 4) (d : Fin 64) (p : Fin 128), x = ix4 0 h d p := by
    idx_vars x
    obtain rfl : x0 = (0 : Fin 1) := Subsingleton.elim _ _
    exact ⟨_, _, _, rfl⟩
  rw [mix_at w _ _ ((16 * (g : ℕ) + b) % 32) (by omega) hw]
  unfold tileV tile
  have e0 : ((Rect.unit (s := S16x4x64x128) ![(b : ℕ), 0, 0, 0] S1x4x64x128.size i4).emb (ix4 0 h d p)) = ix4 b h d p := by
    blk_ext
  rw [e0]
  by_cases hp : (p : ℕ) < 124
  · rw [dif_pos hp]
    refine Eq.trans ?_ (dif_pos hp).symm
    rw [Memref.IsWhole.readAt_unread]
    refine congrArg old (show (Rect.unit (s := S16x4x64x128) ![(b : ℕ), 0, 0, 0] S1x4x64x128.size i4).emb
      (ix4 0 h d ⟨p + 4, by omega⟩) = _ from ?_)
    blk_ext
  · rw [dif_neg hp]
    refine Eq.trans ?_ (dif_neg hp).symm
    rw [Memref.IsWhole.readAt_unread]
    refine congrArg new (show (Rect.unit (s := S4x256x128) ![(16 * (g : ℕ) + b) / 32, 0, 0] S1x256x128.size i2).emb
      (ix3 0 ⟨h * 64 + d, by omega⟩ ⟨4 * ((16 * (g : ℕ) + b) % 32) + (p - 124), by omega⟩) = _ from ?_)
    blk_ext

end Cert.AttnS
end
-- ==== Proof.AttnS.Tile.lean ====
module

public import proofs.«01_k».proof.Proof.AttnS.Part

/-!
What the loop over the pairs of sequences leaves in the two blocks of new windows.
-/

@[expose] public section
set_option maxRecDepth 16384
noncomputable section
namespace Cert.AttnS
open Idealize.ShloMosaic Idealize.ShloMosaic.TcCoe Idealize.SL.Sem
open Cert.Kernel5Ideal Cert.Kernel5Ideal.Gen

/-- Where every piece agrees with one array, a covered entry reads that array. -/
theorem read_of_pieces {κ : Kind} {sp : Space} {s : Shape} {e : EltTy} (v : View sig κ sp s e) (f : v.ty.Contents (Elt Ideal))
    (G : s.Idx → Elt Ideal e) (y : s.Idx) : ∀ L : List (View.Piece (Elt Ideal) s e),
    (∀ pc ∈ L, ∀ x : pc.1.shape.Idx, pc.2 x = G (pc.1.emb x)) → (∃ pc ∈ L, y ∈ pc.1.set) →
      v.read (Elt Ideal) (v.writes (Elt Ideal) f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_of_pieces v f G y L (fun q hq => hP q (List.mem_cons_of_mem _ hq)) ?_
      obtain ⟨q, hq, hyq⟩ := h
      rcases List.mem_cons.mp hq with rfl | hq'
      · exact absurd hyq hy
      · exact ⟨q, hq', hyq⟩

/-- A trip's two stores into output 8 are parts of the tile. -/
theorem trip8 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole) (v36 : FVec Ideal S8x256 .f32) (v42 : IVec S8x256 1)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) (k : Fin k0_t1_loop.trips) :
    ∀ pc ∈ (trip_k0_t1 (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) k).2.1,
      ∀ x : pc.1.shape.Idx, pc.2 x = tileV (i 0) x1 x3 (pc.1.emb x) := by
  have hk := trips8 k
  unfold trip_k0_t1
  dsimp only
  refine List.forall_mem_cons.mpr ⟨fun x => ?_, List.forall_mem_cons.mpr ⟨fun x => ?_, fun _ h => absurd h List.not_mem_nil⟩⟩
  · exact part arg2 harg2 arg4 harg4 (i 0) x1 x3 _ ⟨2 * k + 1, by omega⟩ _ (k0_off2_inb k 1) _ (k0_off3_inb i k 1) (seq1 k) (tile1 i k) (word1 i k) x
  · exact part arg2 harg2 arg4 harg4 (i 0) x1 x3 _ ⟨2 * k, by omega⟩ _ (k0_off2_inb k 0) _ (k0_off3_inb i k 0) (seq0 k) (tile0 i k) (word0 i k) x

theorem pieces8 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole) (v36 : FVec Ideal S8x256 .f32) (v42 : IVec S8x256 1)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) : ∀ n : ℕ, n ≤ 8 →
    ∀ pc ∈ (pb_k0_t1 (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) n).2.1,
      ∀ x : pc.1.shape.Idx, pc.2 x = tileV (i 0) x1 x3 (pc.1.emb x)
  | 0, _ => fun pc h => absurd h List.not_mem_nil
  | n + 1, hn => by
    have e := pb_k0_t1_succ (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) ⟨n, hn⟩
    dsimp only at e
    rw [e]
    intro pc h
    rcases List.mem_append.mp h with h | h
    · exact trip8 c i arg1 harg1 arg2 harg2 arg3 harg3 arg4 harg4 arg5 harg5 arg6 harg6 arg7 harg7 arg8 harg8 arg9 harg9 arg10 harg10 v36 v42 x0 x1 x2 x3 x4 x5 x6 ⟨n, hn⟩ pc h
    · exact pieces8 c i arg1 harg1 arg2 harg2 arg3 harg3 arg4 harg4 arg5 harg5 arg6 harg6 arg7 harg7 arg8 harg8 arg9 harg9 arg10 harg10 v36 v42 x0 x1 x2 x3 x4 x5 x6 n (by omega) pc h

/-- So what the body leaves in output 8's buffer is the tile. -/
theorem out8 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) :
    out0_A_8 (F := Ideal) c i arg1 harg1 arg2 harg2 arg3 harg3 arg4 harg4 arg5 harg5 arg6 harg6 arg7 harg7 arg8 harg8 arg9 harg9 arg10 harg10 x0 x1 x2 x3 x4 x5 x6 = tileV (i 0) x1 x3 := by
  funext y
  unfold out0_A_8
  refine read_of_pieces _ _ _ y _ ?_ (cover0_A_8 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  exact pieces8 c i arg1 harg1 arg2 harg2 arg3 harg3 arg4 harg4 arg5 harg5 arg6 harg6 arg7 harg7 arg8 harg8 arg9 harg9 arg10 harg10 _ _ x0 x1 x2 x3 x4 x5 x6 8 le_rfl

/-- A trip's two stores into output 9 are parts of the tile. -/
theorem trip9 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole) (v36 : FVec Ideal S8x256 .f32) (v42 : IVec S8x256 1)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) (k : Fin k0_t1_loop.trips) :
    ∀ pc ∈ (trip_k0_t1 (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) k).2.2.1,
      ∀ x : pc.1.shape.Idx, pc.2 x = tileV (i 0) x2 x4 (pc.1.emb x) := by
  have hk := trips8 k
  unfold trip_k0_t1
  dsimp only
  refine List.forall_mem_cons.mpr ⟨fun x => ?_, List.forall_mem_cons.mpr ⟨fun x => ?_, fun _ h => absurd h List.not_mem_nil⟩⟩
  · exact part arg3 harg3 arg5 harg5 (i 0) x2 x4 _ ⟨2 * k + 1, by omega⟩ _ (k0_off2_inb k 1) _ (k0_off3_inb i k 1) (seq1 k) (tile1 i k) (word1 i k) x
  · exact part arg3 harg3 arg5 harg5 (i 0) x2 x4 _ ⟨2 * k, by omega⟩ _ (k0_off2_inb k 0) _ (k0_off3_inb i k 0) (seq0 k) (tile0 i k) (word0 i k) x

theorem pieces9 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole) (v36 : FVec Ideal S8x256 .f32) (v42 : IVec S8x256 1)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) : ∀ n : ℕ, n ≤ 8 →
    ∀ pc ∈ (pb_k0_t1 (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) n).2.2,
      ∀ x : pc.1.shape.Idx, pc.2 x = tileV (i 0) x2 x4 (pc.1.emb x)
  | 0, _ => fun pc h => absurd h List.not_mem_nil
  | n + 1, hn => by
    have e := pb_k0_t1_succ (F := Ideal) Variants.none c none i arg1 harg1 arg2 harg2 arg3 harg3 arg4 harg4 arg5 harg5 arg6 harg6 arg7 harg7 arg8 harg8 arg9 harg9 arg10 harg10 v36 v42 (Scalar.muli (BitVec.ofNat 32 (i 0).val) 16#32) (harg1.unread x0) (harg2.unread x1) (harg3.unread x2) (harg4.unread x3) (harg5.unread x4) (harg6.unread x5) (harg7.unread x6) ⟨n, hn⟩
    dsimp only at e
    rw [e]
    intro pc h
    rcases List.mem_append.mp h with h | h
    · exact trip9 c i arg1 harg1 arg2 harg2 arg3 harg3 arg4 harg4 arg5 harg5 arg6 harg6 arg7 harg7 arg8 harg8 arg9 harg9 arg10 harg10 v36 v42 x0 x1 x2 x3 x4 x5 x6 ⟨n, hn⟩ pc h
    · exact pieces9 c i arg1 harg1 arg2 harg2 arg3 harg3 arg4 harg4 arg5 harg5 arg6 harg6 arg7 harg7 arg8 harg8 arg9 harg9 arg10 harg10 v36 v42 x0 x1 x2 x3 x4 x5 x6 n (by omega) pc h

/-- So what the body leaves in output 9's buffer is the tile. -/
theorem out9 (c : Dev nD) (i : grid0.Coords) (arg1 : Memref sig .tc .vmem S64x2048 .f32) (harg1 : arg1.IsWhole) (arg2 : Memref sig .tc .vmem S4x256x128 .f32) (harg2 : arg2.IsWhole) (arg3 : Memref sig .tc .vmem S4x256x128 .f32) (harg3 : arg3.IsWhole) (arg4 : Memref sig .tc .vmem S16x4x64x128 .f32) (harg4 : arg4.IsWhole) (arg5 : Memref sig .tc .vmem S16x4x64x128 .f32) (harg5 : arg5.IsWhole) (arg6 : Memref sig .tc .vmem S64x256 .f32) (harg6 : arg6.IsWhole) (arg7 : Memref sig .tc .vmem S64x128 .f32) (harg7 : arg7.IsWhole) (arg8 : Memref sig .tc .vmem S64x1024 .bf16) (harg8 : arg8.IsWhole) (arg9 : Memref sig .tc .vmem S16x4x64x128 .f32) (harg9 : arg9.IsWhole) (arg10 : Memref sig .tc .vmem S16x4x64x128 .f32) (harg10 : arg10.IsWhole)
    (x0 : Vec Ideal S64x2048 .f32) (x1 : Vec Ideal S4x256x128 .f32) (x2 : Vec Ideal S4x256x128 .f32) (x3 : Vec Ideal S16x4x64x128 .f32) (x4 : Vec Ideal S16x4x64x128 .f32) (x5 : Vec Ideal S64x256 .f32) (x6 : Vec Ideal S64x128 .f32) :
    out0_A_9 (F := Ideal) c i arg1 harg1 arg2 harg2 arg3 harg3 arg4 harg4 arg5 harg5 arg6 harg6 arg7 harg7 arg8 harg8 arg9 harg9 arg10 harg10 x0 x1 x2 x3 x4 x5 x6 = tileV (i 0) x2 x4 := by
  funext y
  unfold out0_A_9
  refine read_of_pieces _ _ _ y _ ?_ (cover0_A_9 c i arg1 harg1 arg2 harg2 arg3 harg3 arg4 harg4 arg5 harg5 arg6 harg6 arg7 harg7 arg8 harg8 arg9 harg9 arg10 harg10 x0 x1 x2 x3 x4 x5 x6 y)
  unfold kernelRun0_A
  dsimp only
  exact pieces9 c i arg1 harg1 arg2 harg2 arg3 harg3 arg4 harg4 arg5 harg5 arg6 harg6 arg7 harg7 arg8 harg8 arg9 harg9 arg10 harg10 _ _ x0 x1 x2 x3 x4 x5 x6 8 le_rfl

end Cert.AttnS
end
-- ==== Proof.AttnS.Final.lean ====
module

public import proofs.«01_k».proof.Proof.AttnS.Tile
public import proofs.«01_k».proof.Proof.Gen.Kernel5Ideal.Value

/-!
The sample's attention call: what its windows bring in, what each point leaves of the moved key and value windows, and the
two result arrays.
-/

@[expose] public section
set_option maxRecDepth 16384
noncomputable section
namespace Cert.AttnS
open Idealize.ShloMosaic Idealize.ShloMosaic.TcCoe Idealize.SL.Sem
open Cert.Kernel5Ideal Cert.Kernel5Ideal.Gen

variable (m : (ℓ : Loc nD τ sig) → Buf (Elt Ideal) ℓ) (c : Dev nD)

/-- The block numbers of the windows, and a point's coordinate. -/
theorem idx : ∀ t : Fin cfg0.N, win0_1.index t = ![0, 0, 0] ∧ win0_2.index t = ![0, 0, 0]
    ∧ win0_3.index t = ![t.val, 0, 0, 0] ∧ win0_4.index t = ![t.val, 0, 0, 0]
    ∧ win0_8.index t = ![t.val, 0, 0, 0] ∧ win0_9.index t = ![t.val, 0, 0, 0] :=
  (by decide +kernel : ∀ t : Fin grid0.N, _)

theorem coord : ∀ t : Fin cfg0.N, ((grid0.coords t) 0).val = t.val :=
  (by decide +kernel : ∀ t : Fin grid0.N, ((grid0.coords t) 0).val = t.val)

theorem flush8 : ∀ t : Fin cfg0.N, (cfg0.win 8).flush t = true := (by decide +kernel : ∀ t : Fin grid0.N, win0_8.flush t = true)
theorem flush9 : ∀ t : Fin cfg0.N, (cfg0.win 9).flush t = true := (by decide +kernel : ∀ t : Fin grid0.N, win0_9.flush t = true)

/-- The point as one of 8. -/
abbrev pt (t : Fin cfg0.N) : Fin 8 := ⟨t.val, lt_of_lt_of_eq t.isLt N_0⟩

theorem rowLt (t : Fin 8) (b : Fin 16) : 16 * (t : ℕ) + b < 128 := by omega

/-- The moved window of sequence `q`: its last 124 old positions, then its four new ones. -/
def moved (old : Vec Ideal S128x128x4x64 .f32) (new : Vec Ideal S128x4x4x64 .f32) (q : Fin 128) (h : Fin 4) (d : Fin 64)
    (p : Fin 128) : EReal :=
  if hp : p.val < 124 then old (ix4 q ⟨p + 4, by omega⟩ h d) else new (ix4 q ⟨p - 124, by omega⟩ h d)

/-! ## What the host code prepares -/

theorem V5 : V m c main_v5 = transpose (s := S4x128x256) S4x256x128 [0, 2, 1] (shapeCast (s := S128x4x4x64) S4x128x256 (m ((c : Thread nD τ).loc main_arg2))) transposes_S4x128x256_S4x256x128_0_2_1 := by
  unfold V
  simp only [List.flatten_cons, List.flatten_nil, List.append_nil, hostOps0, hostOps0_1, hostOps0_2, List.cons_append, List.nil_append]
  after_results
  rfl

theorem V7 : V m c main_v7 = transpose (s := S4x128x256) S4x256x128 [0, 2, 1] (shapeCast (s := S128x4x4x64) S4x128x256 (m ((c : Thread nD τ).loc main_arg3))) transposes_S4x128x256_S4x256x128_0_2_1 := by
  unfold V
  simp only [List.flatten_cons, List.flatten_nil, List.append_nil, hostOps0, hostOps0_1, hostOps0_2, List.cons_append, List.nil_append]
  after_results
  rfl

theorem V76 : V m c main_v76 = transpose (s := S128x128x4x64) S128x4x64x128 [0, 2, 3, 1] (m ((c : Thread nD τ).loc main_arg4)) transposes_S128x128x4x64_S128x4x64x128_0_2_3_1 := by
  unfold V
  simp only [List.flatten_cons, List.flatten_nil, List.append_nil, hostOps0, hostOps0_1, hostOps0_2, List.cons_append, List.nil_append]
  after_results

theorem V77 : V m c main_v77 = transpose (s := S128x128x4x64) S128x4x64x128 [0, 2, 3, 1] (m ((c : Thread nD τ).loc main_arg5)) transposes_S128x128x4x64_S128x4x64x128_0_2_3_1 := by
  unfold V
  simp only [List.flatten_cons, List.flatten_nil, List.append_nil, hostOps0, hostOps0_1, hostOps0_2, List.cons_append, List.nil_append]
  after_results

/-! ## The blocks -/

theorem blk1 (t : Fin cfg0.N) (g : Fin 4) (h : Fin 4) (d : Fin 64) (l : Fin 128) :
    iblk m c 1 t (ix3 g ⟨h * 64 + d, by omega⟩ l)
      = m ((c : Thread nD τ).loc main_arg2) (ix4 ⟨g * 32 + l / 4, by omega⟩ ⟨(l : ℕ) % 4, by omega⟩ h d) := by
  refine Eq.trans (b := V m c main_v5 (ix3 g ⟨h * 64 + d, by omega⟩ l)) ?_ ?_
  · blk_ext [iblk, idx t]
  · rw [V5]
    pointwise []

theorem blk2 (t : Fin cfg0.N) (g : Fin 4) (h : Fin 4) (d : Fin 64) (l : Fin 128) :
    iblk m c 2 t (ix3 g ⟨h * 64 + d, by omega⟩ l)
      = m ((c : Thread nD τ).loc main_arg3) (ix4 ⟨g * 32 + l / 4, by omega⟩ ⟨(l : ℕ) % 4, by omega⟩ h d) := by
  refine Eq.trans (b := V m c main_v7 (ix3 g ⟨h * 64 + d, by omega⟩ l)) ?_ ?_
  · blk_ext [iblk, idx t]
  · rw [V7]
    pointwise []

theorem blk3 (t : Fin cfg0.N) (b : Fin 16) (h : Fin 4) (d : Fin 64) (p : Fin 128) :
    iblk m c 3 t (ix4 b h d p)
      = m ((c : Thread nD τ).loc main_arg4) (ix4 ⟨16 * pt t + b, rowLt _ b⟩ p h d) := by
  refine Eq.trans (b := V m c main_v76 (ix4 ⟨16 * pt t + b, rowLt _ b⟩ h d p)) ?_ ?_
  · blk_ext [iblk, idx t]
  · rw [V76]
    pointwise []

theorem blk4 (t : Fin cfg0.N) (b : Fin 16) (h : Fin 4) (d : Fin 64) (p : Fin 128) :
    iblk m c 4 t (ix4 b h d p)
      = m ((c : Thread nD τ).loc main_arg5) (ix4 ⟨16 * pt t + b, rowLt _ b⟩ p h d) := by
  refine Eq.trans (b := V m c main_v77 (ix4 ⟨16 * pt t + b, rowLt _ b⟩ h d p)) ?_ ?_
  · blk_ext [iblk, idx t]
  · rw [V77]
    pointwise []

/-! ## The points -/

theorem point8 (t : Fin cfg0.N) (b : Fin 16) (h : Fin 4) (d : Fin 64) (p : Fin 128) :
    tileV ((grid0.coords t) 0) (iblk m c 1 t) (iblk m c 3 t) (ix4 b h d p)
      = moved (m ((c : Thread nD τ).loc main_arg4)) (m ((c : Thread nD τ).loc main_arg2)) ⟨16 * pt t + b, rowLt _ b⟩ h d p := by
  have hN : t.val < 8 := lt_of_lt_of_eq t.isLt N_0
  have hc := coord t
  show tile _ _ _ b h d p = _
  unfold tile moved
  split
  · exact blk3 m c t b h d _
  · refine (blk1 m c t _ h d _).trans (congrArg (m ((c : Thread nD τ).loc main_arg2)) ?_)
    refine congrArg₂ (fun x y => ix4 x y h d) (Fin.ext ?_) (Fin.ext ?_) <;> (simp only; omega)

theorem array8_at (q : Fin 128) (h : Fin 4) (d : Fin 64) (p : Fin 128) : (dats m 0 c).arrAt 8 cfg0.N (ix4 q h d p)
    = moved (m ((c : Thread nD τ).loc main_arg4)) (m ((c : Thread nD τ).loc main_arg2)) q h d p := by
  have hN : cfg0.N = 8 := N_0
  have ht : (q : ℕ) / 16 < cfg0.N := by omega
  have e := congrFun (Value.blocks8 m c ⟨(q : ℕ) / 16, ht⟩ (flush8 _)) (ix4 ⟨(q : ℕ) % 16, by omega⟩ h d p)
  rw [Value.flushed8_A, out8] at e
  refine Eq.trans ?_ (e.trans (Eq.trans ?_ ((point8 m c ⟨(q : ℕ) / 16, ht⟩ ⟨(q : ℕ) % 16, by omega⟩ h d p).trans
    (congrArg (fun q => moved _ _ q h d p) (Fin.ext (by simp only; omega))))))
  · blk_ext [idx ⟨(q : ℕ) / 16, ht⟩]
  · rfl

theorem point9 (t : Fin cfg0.N) (b : Fin 16) (h : Fin 4) (d : Fin 64) (p : Fin 128) :
    tileV ((grid0.coords t) 0) (iblk m c 2 t) (iblk m c 4 t) (ix4 b h d p)
      = moved (m ((c : Thread nD τ).loc main_arg5)) (m ((c : Thread nD τ).loc main_arg3)) ⟨16 * pt t + b, rowLt _ b⟩ h d p := by
  have hN : t.val < 8 := lt_of_lt_of_eq t.isLt N_0
  have hc := coord t
  show tile _ _ _ b h d p = _
  unfold tile moved
  split
  · exact blk4 m c t b h d _
  · refine (blk2 m c t _ h d _).trans (congrArg (m ((c : Thread nD τ).loc main_arg3)) ?_)
    refine congrArg₂ (fun x y => ix4 x y h d) (Fin.ext ?_) (Fin.ext ?_) <;> (simp only; omega)

theorem array9_at (q : Fin 128) (h : Fin 4) (d : Fin 64) (p : Fin 128) : (dats m 0 c).arrAt 9 cfg0.N (ix4 q h d p)
    = moved (m ((c : Thread nD τ).loc main_arg5)) (m ((c : Thread nD τ).loc main_arg3)) q h d p := by
  have hN : cfg0.N = 8 := N_0
  have ht : (q : ℕ) / 16 < cfg0.N := by omega
  have e := congrFun (Value.blocks9 m c ⟨(q : ℕ) / 16, ht⟩ (flush9 _)) (ix4 ⟨(q : ℕ) % 16, by omega⟩ h d p)
  rw [Value.flushed9_A, out9] at e
  refine Eq.trans ?_ (e.trans (Eq.trans ?_ ((point9 m c ⟨(q : ℕ) / 16, ht⟩ ⟨(q : ℕ) % 16, by omega⟩ h d p).trans
    (congrArg (fun q => moved _ _ q h d p) (Fin.ext (by simp only; omega))))))
  · blk_ext [idx ⟨(q : ℕ) / 16, ht⟩]
  · rfl

end Cert.AttnS
end
-- ==== Proof.AttnS.Ref.lean ====
module

public import proofs.«01_k».proof.Proof.AttnS.Final
public import proofs.«01_k».proof.Proof.Gen.Reference5Ideal.Read

/-!
The moved windows in the reference, entry by entry.
-/

@[expose] public section
set_option maxRecDepth 16384
noncomputable section
namespace Cert.AttnS
open Idealize.ShloMosaic Idealize.ShloMosaic.TcCoe Idealize.SL.Sem
open Cert.Reference5Ideal Cert.Reference5Ideal.Read

variable (old : (⟨S128x128x4x64, .f32⟩ : BufTy).Contents (Elt Ideal)) (new : (⟨S128x4x4x64, .f32⟩ : BufTy).Contents (Elt Ideal))

theorem keys_at (q : Fin 128) (h : Fin 4) (d : Fin 64) (p : Fin 128) :
    val_main_v3 (F := Ideal) new old (ix4 q h d p) = moved old new q h d p := by
  unfold moved
  split <;> rename_i hp
  · pointwise [val_main_v0, val_main_v2, val_main_v3]
    rw [dif_pos (by omega)]
    exact congrArg (fun p => old (ix4 q p h d)) (Fin.ext (by simp only; omega))
  · pointwise [val_main_v0, val_main_v2, val_main_v3]
    rw [dif_neg (by omega)]
    exact congrArg (fun p => new (ix4 q p h d)) (Fin.ext (by simp only; omega))

theorem values_at (q : Fin 128) (h : Fin 4) (d : Fin 64) (p : Fin 128) :
    val_main_v5 (F := Ideal) new old (ix4 q h d p) = moved old new q h d p := by
  unfold moved
  split <;> rename_i hp
  · pointwise [val_main_v1, val_main_v4, val_main_v5]
    rw [dif_pos (by omega)]
    exact congrArg (fun p => old (ix4 q p h d)) (Fin.ext (by simp only; omega))
  · pointwise [val_main_v1, val_main_v4, val_main_v5]
    rw [dif_neg (by omega)]
    exact congrArg (fun p => new (ix4 q p h d)) (Fin.ext (by simp only; omega))

end Cert.AttnS
end
-- ==== Proof.AttnS.Match.lean ====
module

public import proofs.«01_k».proof.Proof.AttnS.Ref

/-!
The moved windows: the kernel's result arrays against the reference's.
-/

@[expose] public section
set_option maxRecDepth 16384
noncomputable section
namespace Cert.AttnS
open Idealize.ShloMosaic Idealize.ShloMosaic.TcCoe Idealize.SL.Sem

variable (m : (ℓ : Loc Kernel5Ideal.nD Kernel5Ideal.τ Kernel5Ideal.sig) → Buf (Elt Ideal) ℓ) (c : Dev Kernel5Ideal.nD)

theorem keys : Reference5Ideal.Read.val_main_v3 (F := Ideal) (m (c.tc.loc Kernel5Ideal.main_arg2)) (m (c.tc.loc Kernel5Ideal.main_arg4))
    = (Kernel5Ideal.Gen.dats m 0 c).arrAt 8 Kernel5Ideal.cfg0.N := by
  refine funext fun (i : Kernel5Ideal.S128x4x64x128.Idx) => ?_
  idx_vars i
  exact (keys_at _ _ _ _ _ _).trans (array8_at m c _ _ _ _).symm

theorem values : Reference5Ideal.Read.val_main_v5 (F := Ideal) (m (c.tc.loc Kernel5Ideal.main_arg3)) (m (c.tc.loc Kernel5Ideal.main_arg5))
    = (Kernel5Ideal.Gen.dats m 0 c).arrAt 9 Kernel5Ideal.cfg0.N := by
  refine funext fun (i : Kernel5Ideal.S128x4x64x128.Idx) => ?_
  idx_vars i
  exact (values_at _ _ _ _ _ _).trans (array9_at m c _ _ _ _).symm

end Cert.AttnS
end
-- ==== Proof.Pre.Part.lean ====
module

public import proofs.«01_k».proof.Proof.Gen.Kernel6Ideal.Value
public import proofs.«01_k».proof.Proof.Cmlp.Spec
public import Idealize.ShloMosaic.Lib.WholeRead
public import Idealize.ShloMosaic.Lib.Pipeline.Value

/-!
The products of the body before the sample's state update, and the piece of the new convolution state that one store
writes: every fourth row of one chunk of 128 columns, read back from the chunk's copy.
-/

@[expose] public section
set_option maxRecDepth 16384
noncomputable section
namespace Cert.PreS
open Idealize.ShloMosaic Idealize.ShloMosaic.TcCoe Idealize.SL.Sem
open Cert.Kernel6Ideal Cert.Kernel6Ideal.Gen

/-- Where every piece agrees with one array, a covered entry reads that array. -/
theorem read_of_pieces {κ : Kind} {sp : Space} {s : Shape} {e : EltTy} (v : View sig κ sp s e) (f : v.ty.Contents (Elt Ideal))
    (G : s.Idx → Elt Ideal e) (y : s.Idx) : ∀ L : List (View.Piece (Elt Ideal) s e),
    (∀ pc ∈ L, ∀ x : pc.1.shape.Idx, pc.2 x = G (pc.1.emb x)) → (∃ pc ∈ L, y ∈ pc.1.set) →
      v.read (Elt Ideal) (v.writes (Elt Ideal) f L) y = G y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_of_pieces v f G y L (fun q hq => hP q (List.mem_cons_of_mem _ hq)) ?_
      obtain ⟨q, hq, hyq⟩ := h
      rcases List.mem_cons.mp hq with rfl | hq'
      · exact absurd hyq hy
      · exact ⟨q, hq', hyq⟩

/-- One entry of a product with the transposed weights. -/
def dot (x w : Fin 2048 → EReal) : EReal := ∑ k : Fin 2048, x k * w k

theorem pay5_at (x : Vec Ideal S256x2048 .bf16) (w : Vec Ideal S1024x2048 .f32) (r : Fin 256) (d : Fin 1024) :
    k0_pay5 x w (ix2 r d) = dot (fun k => x (ix2 r k)) (fun k => w (ix2 d k)) := by
  unfold dot
  pointwise [k0_pay5]

theorem pay6_at0 (x : Vec Ideal S256x2048 .bf16) (u v w : Vec Ideal S512x2048 .f32) (r : Fin 256) (d : Fin 512) :
    k0_pay6 x u v w (ix2 r ⟨d, by omega⟩) = dot (fun k => x (ix2 r k)) (fun k => u (ix2 d k)) := by
  unfold dot
  pointwise [k0_pay6]

theorem pay6_at1 (x : Vec Ideal S256x2048 .bf16) (u v w : Vec Ideal S512x2048 .f32) (r : Fin 256) (d : Fin 512) :
    k0_pay6 x u v w (ix2 r ⟨512 + d, by omega⟩) = dot (fun k => x (ix2 r k)) (fun k => v (ix2 d k)) := by
  unfold dot
  pointwise [k0_pay6]

theorem pay6_at2 (x : Vec Ideal S256x2048 .bf16) (u v w : Vec Ideal S512x2048 .f32) (r : Fin 256) (d : Fin 512) :
    k0_pay6 x u v w (ix2 r ⟨1024 + d, by omega⟩) = dot (fun k => x (ix2 r k)) (fun k => w (ix2 d k)) := by
  unfold dot
  pointwise [k0_pay6]
  rw [dif_neg (by omega), dif_neg (by omega)]
  refine Finset.sum_congr rfl fun k _ => congrArg (fun d => x (ix2 r k) * w (ix2 d k)) (Fin.ext ?_)
  simp only
  omega

/-- The last three rows of every four of a tile, the row number in front. -/
def last3 (raw : Vec Ideal S256x1536 .f32) (y : S3x64x1536.Idx) : EReal :=
  raw (ix2 ⟨4 * (y 1 : ℕ) + (y 0 : ℕ) + 1, by
    have h0 : (y 0 : ℕ) < 3 := (y 0).isLt
    have h1 : (y 1 : ℕ) < 64 := (y 1).isLt
    omega⟩ (y 2))

theorem chunk_at (ch : ℕ) (hch : ch < 12) (raw : Vec Ideal S256x1536 .f32) (hs : S256x1536.Slices ![0, 128 * ch] S256x128)
    (r : Fin 256) (l : Fin 128) :
    shapeCast S1x256x128 (extractStridedSlice S256x128 ![0, 128 * ch] raw hs) shapeCasts_S256x128_S1x256x128 (ix3 0 r l)
      = raw (ix2 r ⟨128 * ch + l, by omega⟩) := by
  pointwise []

theorem piece {κ : Kind} {sp : Space} (v : View sig κ sp S12x256x128 .f32) (ch j o : ℕ) (ho : o = 128 * ch) (hch : ch < 12) (hj : j < 3)
    (raw : Vec Ideal S256x1536 .f32) (L : List (View.Piece (Elt Ideal) S12x256x128 .f32))
    (inbS : ∀ a, (![ch, 0, 0] : Fin 3 → ℕ) a + S1x256x128.size a ≤ S12x256x128.size a)
    (hs : S256x1536.Slices ![0, o] S256x128)
    (inbL : ∀ a : Fin S12x256x128.rank, S1x64x128.size a = 0 ∨ (![ch, j + 1, 0] : Fin 3 → ℕ) a + (![1, 4, 1] : Fin 3 → ℕ) a * (S1x64x128.size a - 1) < S12x256x128.size a)
    (inbO : ∀ a, (![j, 0, o] : Fin 3 → ℕ) a + (![1, 64, 128] : Fin 3 → ℕ) a ≤ S3x64x1536.size a) (x : S1x64x128.Idx) :
    shapeCast S1x64x128 (shapeCast S64x128 (v.readCov (Val := Elt Ideal)
        ((⟨Rect.unit (s := S12x256x128) ![ch, 0, 0] S1x256x128.size inbS,
          shapeCast S1x256x128 (extractStridedSlice S256x128 ![0, o] raw hs) shapeCasts_S256x128_S1x256x128⟩ : View.Piece (Elt Ideal) S12x256x128 .f32) :: L)
        (⟨![ch, j + 1, 0], S1x64x128.size, ![1, 4, 1], inbL⟩ : LoadRect S12x256x128)) shapeCasts_S1x64x128_S64x128) shapeCasts_S64x128_S1x64x128 x
      = last3 raw ((Rect.unit (s := S3x64x1536) ![j, 0, o] ![1, 64, 128] inbO).emb x) := by
  subst ho
  rw [shapeCast_shapeCast]
  have h1 : (x 1 : ℕ) < 64 := (x 1).isLt
  have h2 : (x 2 : ℕ) < 128 := (x 2).isLt
  have h0 : (x 0 : ℕ) < 1 := (x 0).isLt
  have hx : (⟨![ch, j + 1, 0], S1x64x128.size, ![1, 4, 1], inbL⟩ : LoadRect S12x256x128).idx x
      = (Rect.unit (s := S12x256x128) ![ch, 0, 0] S1x256x128.size inbS).emb
        (ix3 (0 : Fin 1) (⟨4 * (x 1 : ℕ) + j + 1, by omega⟩ : Fin 256) (x 2)) := by
    funext a
    refine Fin.ext ?_
    fin_cases a
    · show ch + 1 * (x 0 : ℕ) = ch + 1 * 0
      omega
    · show j + 1 + 4 * (x 1 : ℕ) = 0 + 1 * (4 * (x 1 : ℕ) + j + 1)
      omega
    · show 0 + 1 * (x 2 : ℕ) = 0 + 1 * (x 2 : ℕ)
      rfl
  show v.read (Elt Ideal) (v.writes (Elt Ideal) v.junk _) ((⟨![ch, j + 1, 0], S1x64x128.size, ![1, 4, 1], inbL⟩ : LoadRect S12x256x128).idx x) = _
  rw [hx, View.read_writes_cons_emb]
  refine (chunk_at ch hch raw hs _ _).trans (congrArg raw (congrArg₂ ix2 (Fin.ext ?_) (Fin.ext ?_)))
  · show 4 * (x 1 : ℕ) + j + 1 = 4 * (0 + 1 * (x 1 : ℕ)) + (j + 1 * (x 0 : ℕ)) + 1
    omega
  · show 128 * ch + (x 2 : ℕ) = 128 * ch + 1 * (x 2 : ℕ)
    omega

end Cert.PreS
end
-- ==== Proof.Pre.Tile.lean ====
module

public import proofs.«01_k».proof.Proof.Pre.Part
public import proofs.«01_k».proof.Proof.Cmlp.Spec
public import Idealize.ShloMosaic.Lib.WholeRead
public import Idealize.ShloMosaic.Lib.Pipeline.Value

/-!
What the body leaves in the blocks of the new convolution state and of the gate's argument `z`.
-/

@[expose] public section
set_option maxRecDepth 16384
noncomputable section
namespace Cert.PreS
open Idealize.ShloMosaic Idealize.ShloMosaic.TcCoe Idealize.SL.Sem
open Cert.Kernel6Ideal Cert.Kernel6Ideal.Gen

theorem whole (n : ℕ) : 0 + 1 * n = n := by omega

theorem out15 (c : Dev nD) (i : grid0.Coords) (arg1 : Memref sig .tc .vmem S256x2048 .bf16) (harg1 : arg1.IsWhole) (arg2 : Memref sig .tc .vmem S1024x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S3x64x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S384x1024 .bf16) (harg13 : arg13.IsWhole) (arg14 : Memref sig .tc .vmem S256x1024 .bf16) (harg14 : arg14.IsWhole) (arg15 : Memref sig .tc .vmem S3x64x1536 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S12x256x128 .f32) (harg23 : arg23.IsWhole)
    (x0 : Vec Ideal S256x2048 .bf16) (x1 : Vec Ideal S1024x2048 .f32) (x2 : Vec Ideal S512x2048 .f32) (x3 : Vec Ideal S512x2048 .f32) (x4 : Vec Ideal S512x2048 .f32) (x5 : Vec Ideal S16x2048 .f32) (x6 : Vec Ideal S4x1536 .f32) (x7 : Vec Ideal S1x1536 .f32) (x8 : Vec Ideal S3x64x1536 .f32) (x9 : Vec Ideal S1x128 .f32) (x10 : Vec Ideal S1x1024 .f32) (x11 : Vec Ideal S1x1024 .f32) (x12 : Vec Ideal S384x1024 .bf16) (x13 : Vec Ideal S256x1024 .bf16) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = k0_pay5 x0 x1 := by
  funext y
  unfold out0_A_15
  refine read_of_pieces _ _ _ y _ ?_ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 y)
  unfold kernelRun0_A
  dsimp only
  refine List.forall_mem_cons.mpr ⟨fun x => ?_, fun _ h => absurd h List.not_mem_nil⟩
  have e0 : arg1.view.readAt (Elt Ideal) (Rect.unit (s := S256x2048) ![0, 0] S256x2048.size inb_S256x2048_S256x2048_0_0).toLoadRect (harg1.unread x0) = x0 :=
    funext fun z => (harg1.readAt_unread x0 _ z).trans (congrArg x0 (funext fun a => Fin.ext (by fin_cases a <;> exact whole _)))
  have e1 : arg2.view.readAt (Elt Ideal) (Rect.unit (s := S1024x2048) ![0, 0] S1024x2048.size inb_S1024x2048_S1024x2048_0_0).toLoadRect (harg2.unread x1) = x1 :=
    funext fun z => (harg2.readAt_unread x1 _ z).trans (congrArg x1 (funext fun a => Fin.ext (by fin_cases a <;> exact whole _)))
  refine (congrFun (congrArg₂ k0_pay5 e0 e1) x).trans (congrArg (k0_pay5 x0 x1) ?_)
  exact (funext fun a => Fin.ext (by fin_cases a <;> exact (whole _).symm))

theorem raw_eq (c : Dev nD) (i : grid0.Coords) (arg1 : Memref sig .tc .vmem S256x2048 .bf16) (harg1 : arg1.IsWhole) (arg2 : Memref sig .tc .vmem S1024x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S3x64x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S384x1024 .bf16) (harg13 : arg13.IsWhole) (arg14 : Memref sig .tc .vmem S256x1024 .bf16) (harg14 : arg14.IsWhole) (arg15 : Memref sig .tc .vmem S3x64x1536 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S12x256x128 .f32) (harg23 : arg23.IsWhole)
    (x0 : Vec Ideal S256x2048 .bf16) (x1 : Vec Ideal S1024x2048 .f32) (x2 : Vec Ideal S512x2048 .f32) (x3 : Vec Ideal S512x2048 .f32) (x4 : Vec Ideal S512x2048 .f32) (x5 : Vec Ideal S16x2048 .f32) (x6 : Vec Ideal S4x1536 .f32) (x7 : Vec Ideal S1x1536 .f32) (x8 : Vec Ideal S3x64x1536 .f32) (x9 : Vec Ideal S1x128 .f32) (x10 : Vec Ideal S1x1024 .f32) (x11 : Vec Ideal S1x1024 .f32) (x12 : Vec Ideal S384x1024 .bf16) (x13 : Vec Ideal S256x1024 .bf16) :
    kernelRun0_A.sl.r_1 (F := Ideal) c arg1 harg1 arg3 harg3 arg4 harg4 arg5 harg5 x0 x2 x3 x4 = k0_pay6 x0 x2 x3 x4 := by
  have e0 : arg1.view.readAt (Elt Ideal) (Rect.unit (s := S256x2048) ![0, 0] S256x2048.size inb_S256x2048_S256x2048_0_0).toLoadRect (harg1.unread x0) = x0 :=
    funext fun z => (harg1.readAt_unread x0 _ z).trans (congrArg x0 (funext fun a => Fin.ext (by fin_cases a <;> exact whole _)))
  have e2 : arg3.view.readAt (Elt Ideal) (Rect.unit (s := S512x2048) ![0, 0] S512x2048.size inb_S512x2048_S512x2048_0_0).toLoadRect (harg3.unread x2) = x2 :=
    funext fun z => (harg3.readAt_unread x2 _ z).trans (congrArg x2 (funext fun a => Fin.ext (by fin_cases a <;> exact whole _)))
  have e3 : arg4.view.readAt (Elt Ideal) (Rect.unit (s := S512x2048) ![0, 0] S512x2048.size inb_S512x2048_S512x2048_0_0).toLoadRect (harg4.unread x3) = x3 :=
    funext fun z => (harg4.readAt_unread x3 _ z).trans (congrArg x3 (funext fun a => Fin.ext (by fin_cases a <;> exact whole _)))
  have e4 : arg5.view.readAt (Elt Ideal) (Rect.unit (s := S512x2048) ![0, 0] S512x2048.size inb_S512x2048_S512x2048_0_0).toLoadRect (harg5.unread x4) = x4 :=
    funext fun z => (harg5.readAt_unread x4 _ z).trans (congrArg x4 (funext fun a => Fin.ext (by fin_cases a <;> exact whole _)))
  unfold kernelRun0_A.sl.r_1
  rw [e0, e2, e3, e4]

/-! The 36 stores: 12 chunks of columns, three rows of every four. -/

theorem piece0_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay8 (kernelRun0_A.sl.v23 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 0] ![1, 64, 128] inb_S3x64x1536_S1x64x128_0_0_0).emb x) := by
  unfold k0_pay8 kernelRun0_A.sl.v23 kernelRun0_A.sl.HS0_1
  exact piece arg23.view 0 0 0 rfl (by decide) (by decide) (kernelRun0_A.sl.r_1 c arg1 harg1 arg3 harg3 arg4 harg4 arg5 harg5 x0 x2 x3 x4) _ _ (by decide) _ inb_S3x64x1536_S1x64x128_0_0_0 x

theorem piece0_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay9 (kernelRun0_A.sl.v28 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 0] ![1, 64, 128] inb_S3x64x1536_S1x64x128_1_0_0).emb x) := by
  unfold k0_pay9 kernelRun0_A.sl.v28 kernelRun0_A.sl.HS0_1
  exact piece arg23.view 0 1 0 rfl (by decide) (by decide) (kernelRun0_A.sl.r_1 c arg1 harg1 arg3 harg3 arg4 harg4 arg5 harg5 x0 x2 x3 x4) _ _ (by decide) _ inb_S3x64x1536_S1x64x128_1_0_0 x

theorem piece0_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay10 (kernelRun0_A.sl.v33 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 0] ![1, 64, 128] inb_S3x64x1536_S1x64x128_2_0_0).emb x) := by
  unfold k0_pay10 kernelRun0_A.sl.v33 kernelRun0_A.sl.HS0_1
  exact piece arg23.view 0 2 0 rfl (by decide) (by decide) (kernelRun0_A.sl.r_1 c arg1 harg1 arg3 harg3 arg4 harg4 arg5 harg5 x0 x2 x3 x4) _ _ (by decide) _ inb_S3x64x1536_S1x64x128_2_0_0 x

theorem piece1_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay12 (kernelRun0_A.sl.v42 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 128] ![1, 64, 128] inb_S3x64x1536_S1x64x128_0_0_128).emb x) := by
  unfold k0_pay12 kernelRun0_A.sl.v42 kernelRun0_A.sl.HS0_2
  exact piece arg23.view 1 0 128 rfl (by decide) (by decide) (kernelRun0_A.sl.r_1 c arg1 harg1 arg3 harg3 arg4 harg4 arg5 harg5 x0 x2 x3 x4) _ _ (by decide) _ inb_S3x64x1536_S1x64x128_0_0_128 x

theorem piece1_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay13 (kernelRun0_A.sl.v47 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 128] ![1, 64, 128] inb_S3x64x1536_S1x64x128_1_0_128).emb x) := by
  unfold k0_pay13 kernelRun0_A.sl.v47 kernelRun0_A.sl.HS0_2
  exact piece arg23.view 1 1 128 rfl (by decide) (by decide) (kernelRun0_A.sl.r_1 c arg1 harg1 arg3 harg3 arg4 harg4 arg5 harg5 x0 x2 x3 x4) _ _ (by decide) _ inb_S3x64x1536_S1x64x128_1_0_128 x

theorem piece1_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay15 (kernelRun0_A.sl.r_2 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 128] ![1, 64, 128] inb_S3x64x1536_S1x64x128_2_0_128).emb x) := by
  unfold k0_pay15 kernelRun0_A.sl.r_2 k0_pay14 kernelRun0_A.sl.v52 kernelRun0_A.sl.HS0_2
  exact piece arg23.view 1 2 128 rfl (by decide) (by decide) (kernelRun0_A.sl.r_1 c arg1 harg1 arg3 harg3 arg4 harg4 arg5 harg5 x0 x2 x3 x4) _ _ (by decide) _ inb_S3x64x1536_S1x64x128_2_0_128 x

theorem piece2_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay17 (kernelRun0_A.sl.v61 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 256] ![1, 64, 128] inb_S3x64x1536_S1x64x128_0_0_256).emb x) := by
  unfold k0_pay17 kernelRun0_A.sl.v61 kernelRun0_A.sl.HS0_3
  exact piece arg23.view 2 0 256 rfl (by decide) (by decide) (kernelRun0_A.sl.r_1 c arg1 harg1 arg3 harg3 arg4 harg4 arg5 harg5 x0 x2 x3 x4) _ _ (by decide) _ inb_S3x64x1536_S1x64x128_0_0_256 x

theorem piece2_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay18 (kernelRun0_A.sl.v66 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 256] ![1, 64, 128] inb_S3x64x1536_S1x64x128_1_0_256).emb x) := by
  unfold k0_pay18 kernelRun0_A.sl.v66 kernelRun0_A.sl.HS0_3
  exact piece arg23.view 2 1 256 rfl (by decide) (by decide) (kernelRun0_A.sl.r_1 c arg1 harg1 arg3 harg3 arg4 harg4 arg5 harg5 x0 x2 x3 x4) _ _ (by decide) _ inb_S3x64x1536_S1x64x128_1_0_256 x

theorem piece2_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay19 (kernelRun0_A.sl.v71 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 256] ![1, 64, 128] inb_S3x64x1536_S1x64x128_2_0_256).emb x) := by
  unfold k0_pay19 kernelRun0_A.sl.v71 kernelRun0_A.sl.HS0_3
  exact piece arg23.view 2 2 256 rfl (by decide) (by decide) (kernelRun0_A.sl.r_1 c arg1 harg1 arg3 harg3 arg4 harg4 arg5 harg5 x0 x2 x3 x4) _ _ (by decide) _ inb_S3x64x1536_S1x64x128_2_0_256 x

theorem piece3_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay21 (kernelRun0_A.sl.v80 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 384] ![1, 64, 128] inb_S3x64x1536_S1x64x128_0_0_384).emb x) := by
  unfold k0_pay21 kernelRun0_A.sl.v80 kernelRun0_A.sl.HS0_4
  exact piece arg23.view 3 0 384 rfl (by decide) (by decide) (kernelRun0_A.sl.r_1 c arg1 harg1 arg3 harg3 arg4 harg4 arg5 harg5 x0 x2 x3 x4) _ _ (by decide) _ inb_S3x64x1536_S1x64x128_0_0_384 x

theorem piece3_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay22 (kernelRun0_A.sl.v85 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 384] ![1, 64, 128] inb_S3x64x1536_S1x64x128_1_0_384).emb x) := by
  unfold k0_pay22 kernelRun0_A.sl.v85 kernelRun0_A.sl.HS0_4
  exact piece arg23.view 3 1 384 rfl (by decide) (by decide) (kernelRun0_A.sl.r_1 c arg1 harg1 arg3 harg3 arg4 harg4 arg5 harg5 x0 x2 x3 x4) _ _ (by decide) _ inb_S3x64x1536_S1x64x128_1_0_384 x

theorem piece3_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay23 (kernelRun0_A.sl.v90 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 384] ![1, 64, 128] inb_S3x64x1536_S1x64x128_2_0_384).emb x) := by
  unfold k0_pay23 kernelRun0_A.sl.v90 kernelRun0_A.sl.HS0_4
  exact piece arg23.view 3 2 384 rfl (by decide) (by decide) (kernelRun0_A.sl.r_1 c arg1 harg1 arg3 harg3 arg4 harg4 arg5 harg5 x0 x2 x3 x4) _ _ (by decide) _ inb_S3x64x1536_S1x64x128_2_0_384 x

theorem piece4_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay25 (kernelRun0_A.sl.v99 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 512] ![1, 64, 128] inb_S3x64x1536_S1x64x128_0_0_512).emb x) := by
  unfold k0_pay25 kernelRun0_A.sl.v99 kernelRun0_A.sl.HS0_5
  exact piece arg23.view 4 0 512 rfl (by decide) (by decide) (kernelRun0_A.sl.r_1 c arg1 harg1 arg3 harg3 arg4 harg4 arg5 harg5 x0 x2 x3 x4) _ _ (by decide) _ inb_S3x64x1536_S1x64x128_0_0_512 x

theorem piece4_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay27 (kernelRun0_A.sl.r_3 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 512] ![1, 64, 128] inb_S3x64x1536_S1x64x128_1_0_512).emb x) := by
  unfold k0_pay27 kernelRun0_A.sl.r_3 k0_pay26 kernelRun0_A.sl.v104 kernelRun0_A.sl.HS0_5
  exact piece arg23.view 4 1 512 rfl (by decide) (by decide) (kernelRun0_A.sl.r_1 c arg1 harg1 arg3 harg3 arg4 harg4 arg5 harg5 x0 x2 x3 x4) _ _ (by decide) _ inb_S3x64x1536_S1x64x128_1_0_512 x

theorem piece4_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay28 (kernelRun0_A.sl.v109 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 512] ![1, 64, 128] inb_S3x64x1536_S1x64x128_2_0_512).emb x) := by
  unfold k0_pay28 kernelRun0_A.sl.v109 kernelRun0_A.sl.HS0_5
  exact piece arg23.view 4 2 512 rfl (by decide) (by decide) (kernelRun0_A.sl.r_1 c arg1 harg1 arg3 harg3 arg4 harg4 arg5 harg5 x0 x2 x3 x4) _ _ (by decide) _ inb_S3x64x1536_S1x64x128_2_0_512 x

theorem piece5_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay30 (kernelRun0_A.sl.v118 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 640] ![1, 64, 128] inb_S3x64x1536_S1x64x128_0_0_640).emb x) := by
  unfold k0_pay30 kernelRun0_A.sl.v118 kernelRun0_A.sl.HS0_6
  exact piece arg23.view 5 0 640 rfl (by decide) (by decide) (kernelRun0_A.sl.r_1 c arg1 harg1 arg3 harg3 arg4 harg4 arg5 harg5 x0 x2 x3 x4) _ _ (by decide) _ inb_S3x64x1536_S1x64x128_0_0_640 x

theorem piece5_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay31 (kernelRun0_A.sl.v123 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 640] ![1, 64, 128] inb_S3x64x1536_S1x64x128_1_0_640).emb x) := by
  unfold k0_pay31 kernelRun0_A.sl.v123 kernelRun0_A.sl.HS0_6
  exact piece arg23.view 5 1 640 rfl (by decide) (by decide) (kernelRun0_A.sl.r_1 c arg1 harg1 arg3 harg3 arg4 harg4 arg5 harg5 x0 x2 x3 x4) _ _ (by decide) _ inb_S3x64x1536_S1x64x128_1_0_640 x

theorem piece5_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    kernelRun0_A.sl.r_4 (F := Ideal) c arg1 harg1 arg3 harg3 arg4 harg4 arg5 harg5 arg23 x0 x2 x3 x4 x = last3 (kernelRun0_A.sl.r_1 (F := Ideal) c arg1 harg1 arg3 harg3 arg4 harg4 arg5 harg5 x0 x2 x3 x4) ((Rect.unit (s := S3x64x1536) ![2, 0, 640] ![1, 64, 128] inb_S3x64x1536_S1x64x128_2_0_640).emb x) := by
  unfold kernelRun0_A.sl.r_4 k0_pay32 kernelRun0_A.sl.v128 kernelRun0_A.sl.HS0_6
  exact piece arg23.view 5 2 640 rfl (by decide) (by decide) (kernelRun0_A.sl.r_1 c arg1 harg1 arg3 harg3 arg4 harg4 arg5 harg5 x0 x2 x3 x4) _ _ (by decide) _ inb_S3x64x1536_S1x64x128_2_0_640 x

theorem piece6_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay34 (kernelRun0_A.sl.v137 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 768] ![1, 64, 128] inb_S3x64x1536_S1x64x128_0_0_768).emb x) := by
  unfold k0_pay34 kernelRun0_A.sl.v137 kernelRun0_A.sl.HS0_7
  exact piece arg23.view 6 0 768 rfl (by decide) (by decide) (kernelRun0_A.sl.r_1 c arg1 harg1 arg3 harg3 arg4 harg4 arg5 harg5 x0 x2 x3 x4) _ _ (by decide) _ inb_S3x64x1536_S1x64x128_0_0_768 x

theorem piece6_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay35 (kernelRun0_A.sl.v142 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 768] ![1, 64, 128] inb_S3x64x1536_S1x64x128_1_0_768).emb x) := by
  unfold k0_pay35 kernelRun0_A.sl.v142 kernelRun0_A.sl.HS0_7
  exact piece arg23.view 6 1 768 rfl (by decide) (by decide) (kernelRun0_A.sl.r_1 c arg1 harg1 arg3 harg3 arg4 harg4 arg5 harg5 x0 x2 x3 x4) _ _ (by decide) _ inb_S3x64x1536_S1x64x128_1_0_768 x

theorem piece6_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay36 (kernelRun0_A.sl.v147 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 768] ![1, 64, 128] inb_S3x64x1536_S1x64x128_2_0_768).emb x) := by
  unfold k0_pay36 kernelRun0_A.sl.v147 kernelRun0_A.sl.HS0_7
  exact piece arg23.view 6 2 768 rfl (by decide) (by decide) (kernelRun0_A.sl.r_1 c arg1 harg1 arg3 harg3 arg4 harg4 arg5 harg5 x0 x2 x3 x4) _ _ (by decide) _ inb_S3x64x1536_S1x64x128_2_0_768 x

theorem piece7_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay39 (kernelRun0_A.sl.r_5 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 896] ![1, 64, 128] inb_S3x64x1536_S1x64x128_0_0_896).emb x) := by
  unfold k0_pay39 kernelRun0_A.sl.r_5 k0_pay38 kernelRun0_A.sl.v156 kernelRun0_A.sl.HS0_8
  exact piece arg23.view 7 0 896 rfl (by decide) (by decide) (kernelRun0_A.sl.r_1 c arg1 harg1 arg3 harg3 arg4 harg4 arg5 harg5 x0 x2 x3 x4) _ _ (by decide) _ inb_S3x64x1536_S1x64x128_0_0_896 x

theorem piece7_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay40 (kernelRun0_A.sl.v161 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 896] ![1, 64, 128] inb_S3x64x1536_S1x64x128_1_0_896).emb x) := by
  unfold k0_pay40 kernelRun0_A.sl.v161 kernelRun0_A.sl.HS0_8
  exact piece arg23.view 7 1 896 rfl (by decide) (by decide) (kernelRun0_A.sl.r_1 c arg1 harg1 arg3 harg3 arg4 harg4 arg5 harg5 x0 x2 x3 x4) _ _ (by decide) _ inb_S3x64x1536_S1x64x128_1_0_896 x

theorem piece7_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay41 (kernelRun0_A.sl.v166 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 896] ![1, 64, 128] inb_S3x64x1536_S1x64x128_2_0_896).emb x) := by
  unfold k0_pay41 kernelRun0_A.sl.v166 kernelRun0_A.sl.HS0_8
  exact piece arg23.view 7 2 896 rfl (by decide) (by decide) (kernelRun0_A.sl.r_1 c arg1 harg1 arg3 harg3 arg4 harg4 arg5 harg5 x0 x2 x3 x4) _ _ (by decide) _ inb_S3x64x1536_S1x64x128_2_0_896 x

theorem piece8_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay43 (kernelRun0_A.sl.v175 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 1024] ![1, 64, 128] inb_S3x64x1536_S1x64x128_0_0_1024).emb x) := by
  unfold k0_pay43 kernelRun0_A.sl.v175 kernelRun0_A.sl.HS0_9
  exact piece arg23.view 8 0 1024 rfl (by decide) (by decide) (kernelRun0_A.sl.r_1 c arg1 harg1 arg3 harg3 arg4 harg4 arg5 harg5 x0 x2 x3 x4) _ _ (by decide) _ inb_S3x64x1536_S1x64x128_0_0_1024 x

theorem piece8_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    kernelRun0_A.sl.r_6 (F := Ideal) c arg1 harg1 arg3 harg3 arg4 harg4 arg5 harg5 arg23 x0 x2 x3 x4 x = last3 (kernelRun0_A.sl.r_1 (F := Ideal) c arg1 harg1 arg3 harg3 arg4 harg4 arg5 harg5 x0 x2 x3 x4) ((Rect.unit (s := S3x64x1536) ![1, 0, 1024] ![1, 64, 128] inb_S3x64x1536_S1x64x128_1_0_1024).emb x) := by
  unfold kernelRun0_A.sl.r_6 k0_pay44 kernelRun0_A.sl.v180 kernelRun0_A.sl.HS0_9
  exact piece arg23.view 8 1 1024 rfl (by decide) (by decide) (kernelRun0_A.sl.r_1 c arg1 harg1 arg3 harg3 arg4 harg4 arg5 harg5 x0 x2 x3 x4) _ _ (by decide) _ inb_S3x64x1536_S1x64x128_1_0_1024 x

theorem piece8_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay45 (kernelRun0_A.sl.v185 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 1024] ![1, 64, 128] inb_S3x64x1536_S1x64x128_2_0_1024).emb x) := by
  unfold k0_pay45 kernelRun0_A.sl.v185 kernelRun0_A.sl.HS0_9
  exact piece arg23.view 8 2 1024 rfl (by decide) (by decide) (kernelRun0_A.sl.r_1 c arg1 harg1 arg3 harg3 arg4 harg4 arg5 harg5 x0 x2 x3 x4) _ _ (by decide) _ inb_S3x64x1536_S1x64x128_2_0_1024 x

theorem piece9_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay47 (kernelRun0_A.sl.v194 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 1152] ![1, 64, 128] inb_S3x64x1536_S1x64x128_0_0_1152).emb x) := by
  unfold k0_pay47 kernelRun0_A.sl.v194 kernelRun0_A.sl.HS0_10
  exact piece arg23.view 9 0 1152 rfl (by decide) (by decide) (kernelRun0_A.sl.r_1 c arg1 harg1 arg3 harg3 arg4 harg4 arg5 harg5 x0 x2 x3 x4) _ _ (by decide) _ inb_S3x64x1536_S1x64x128_0_0_1152 x

theorem piece9_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay48 (kernelRun0_A.sl.v199 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 1152] ![1, 64, 128] inb_S3x64x1536_S1x64x128_1_0_1152).emb x) := by
  unfold k0_pay48 kernelRun0_A.sl.v199 kernelRun0_A.sl.HS0_10
  exact piece arg23.view 9 1 1152 rfl (by decide) (by decide) (kernelRun0_A.sl.r_1 c arg1 harg1 arg3 harg3 arg4 harg4 arg5 harg5 x0 x2 x3 x4) _ _ (by decide) _ inb_S3x64x1536_S1x64x128_1_0_1152 x

theorem piece9_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay49 (kernelRun0_A.sl.v204 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 1152] ![1, 64, 128] inb_S3x64x1536_S1x64x128_2_0_1152).emb x) := by
  unfold k0_pay49 kernelRun0_A.sl.v204 kernelRun0_A.sl.HS0_10
  exact piece arg23.view 9 2 1152 rfl (by decide) (by decide) (kernelRun0_A.sl.r_1 c arg1 harg1 arg3 harg3 arg4 harg4 arg5 harg5 x0 x2 x3 x4) _ _ (by decide) _ inb_S3x64x1536_S1x64x128_2_0_1152 x

theorem piece10_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay52 (kernelRun0_A.sl.v213 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 1280] ![1, 64, 128] inb_S3x64x1536_S1x64x128_0_0_1280).emb x) := by
  unfold k0_pay52 kernelRun0_A.sl.v213 kernelRun0_A.sl.HS0_11
  exact piece arg23.view 10 0 1280 rfl (by decide) (by decide) (kernelRun0_A.sl.r_1 c arg1 harg1 arg3 harg3 arg4 harg4 arg5 harg5 x0 x2 x3 x4) _ _ (by decide) _ inb_S3x64x1536_S1x64x128_0_0_1280 x

theorem piece10_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay53 (kernelRun0_A.sl.v218 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 1280] ![1, 64, 128] inb_S3x64x1536_S1x64x128_1_0_1280).emb x) := by
  unfold k0_pay53 kernelRun0_A.sl.v218 kernelRun0_A.sl.HS0_11
  exact piece arg23.view 10 1 1280 rfl (by decide) (by decide) (kernelRun0_A.sl.r_1 c arg1 harg1 arg3 harg3 arg4 harg4 arg5 harg5 x0 x2 x3 x4) _ _ (by decide) _ inb_S3x64x1536_S1x64x128_1_0_1280 x

theorem piece10_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay54 (kernelRun0_A.sl.v223 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 1280] ![1, 64, 128] inb_S3x64x1536_S1x64x128_2_0_1280).emb x) := by
  unfold k0_pay54 kernelRun0_A.sl.v223 kernelRun0_A.sl.HS0_11
  exact piece arg23.view 10 2 1280 rfl (by decide) (by decide) (kernelRun0_A.sl.r_1 c arg1 harg1 arg3 harg3 arg4 harg4 arg5 harg5 x0 x2 x3 x4) _ _ (by decide) _ inb_S3x64x1536_S1x64x128_2_0_1280 x

theorem piece11_0 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay56 (kernelRun0_A.sl.v232 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![0, 0, 1408] ![1, 64, 128] inb_S3x64x1536_S1x64x128_0_0_1408).emb x) := by
  unfold k0_pay56 kernelRun0_A.sl.v232 kernelRun0_A.sl.HS0_12
  exact piece arg23.view 11 0 1408 rfl (by decide) (by decide) (kernelRun0_A.sl.r_1 c arg1 harg1 arg3 harg3 arg4 harg4 arg5 harg5 x0 x2 x3 x4) _ _ (by decide) _ inb_S3x64x1536_S1x64x128_0_0_1408 x

theorem piece11_1 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay57 (kernelRun0_A.sl.v237 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![1, 0, 1408] ![1, 64, 128] inb_S3x64x1536_S1x64x128_1_0_1408).emb x) := by
  unfold k0_pay57 kernelRun0_A.sl.v237 kernelRun0_A.sl.HS0_12
  exact piece arg23.view 11 1 1408 rfl (by decide) (by decide) (kernelRun0_A.sl.r_1 c arg1 harg1 arg3 harg3 arg4 harg4 arg5 harg5 x0 x2 x3 x4) _ _ (by decide) _ inb_S3x64x1536_S1x64x128_1_0_1408 x

theorem piece11_2 (c : Dev nD) (arg1 : Memref sig .tc .vmem S256x2048 .bf16) (harg1 : arg1.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg23 : Memref sig .tc .vmem S12x256x128 .f32) (x0 : Vec Ideal S256x2048 .bf16) (x2 x3 x4 : Vec Ideal S512x2048 .f32) (x : S1x64x128.Idx) :
    k0_pay58 (kernelRun0_A.sl.v242 (F := Ideal) c arg1 harg1 arg3 harg3 arg4 harg4 arg5 harg5 arg23 x0 x2 x3 x4) x = last3 (kernelRun0_A.sl.r_1 (F := Ideal) c arg1 harg1 arg3 harg3 arg4 harg4 arg5 harg5 x0 x2 x3 x4) ((Rect.unit (s := S3x64x1536) ![2, 0, 1408] ![1, 64, 128] inb_S3x64x1536_S1x64x128_2_0_1408).emb x) := by
  unfold k0_pay58 kernelRun0_A.sl.v242 kernelRun0_A.sl.HS0_12
  exact piece arg23.view 11 2 1408 rfl (by decide) (by decide) (kernelRun0_A.sl.r_1 c arg1 harg1 arg3 harg3 arg4 harg4 arg5 harg5 x0 x2 x3 x4) _ _ (by decide) _ inb_S3x64x1536_S1x64x128_2_0_1408 x

set_option maxHeartbeats 2000000 in
theorem out14 (c : Dev nD) (i : grid0.Coords) (arg1 : Memref sig .tc .vmem S256x2048 .bf16) (harg1 : arg1.IsWhole) (arg2 : Memref sig .tc .vmem S1024x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S16x2048 .f32) (harg6 : arg6.IsWhole) (arg7 : Memref sig .tc .vmem S4x1536 .f32) (harg7 : arg7.IsWhole) (arg8 : Memref sig .tc .vmem S1x1536 .f32) (harg8 : arg8.IsWhole) (arg9 : Memref sig .tc .vmem S3x64x1536 .f32) (harg9 : arg9.IsWhole) (arg10 : Memref sig .tc .vmem S1x128 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S384x1024 .bf16) (harg13 : arg13.IsWhole) (arg14 : Memref sig .tc .vmem S256x1024 .bf16) (harg14 : arg14.IsWhole) (arg15 : Memref sig .tc .vmem S3x64x1536 .f32) (harg15 : arg15.IsWhole) (arg16 : Memref sig .tc .vmem S256x1024 .f32) (harg16 : arg16.IsWhole) (arg17 : Memref sig .tc .vmem S256x1024 .f32) (harg17 : arg17.IsWhole) (arg18 : Memref sig .tc .vmem S256x1024 .f32) (harg18 : arg18.IsWhole) (arg19 : Memref sig .tc .vmem S256x1024 .f32) (harg19 : arg19.IsWhole) (arg20 : Memref sig .tc .vmem S256x1024 .f32) (harg20 : arg20.IsWhole) (arg21 : Memref sig .tc .vmem S256x256 .f32) (harg21 : arg21.IsWhole) (arg22 : Memref sig .tc .vmem S256x256 .f32) (harg22 : arg22.IsWhole) (arg23 : Memref sig .tc .vmem S12x256x128 .f32) (harg23 : arg23.IsWhole)
    (x0 : Vec Ideal S256x2048 .bf16) (x1 : Vec Ideal S1024x2048 .f32) (x2 : Vec Ideal S512x2048 .f32) (x3 : Vec Ideal S512x2048 .f32) (x4 : Vec Ideal S512x2048 .f32) (x5 : Vec Ideal S16x2048 .f32) (x6 : Vec Ideal S4x1536 .f32) (x7 : Vec Ideal S1x1536 .f32) (x8 : Vec Ideal S3x64x1536 .f32) (x9 : Vec Ideal S1x128 .f32) (x10 : Vec Ideal S1x1024 .f32) (x11 : Vec Ideal S1x1024 .f32) (x12 : Vec Ideal S384x1024 .bf16) (x13 : Vec Ideal S256x1024 .bf16) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 = last3 (k0_pay6 x0 x2 x3 x4) := by
  rw [← raw_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13]
  funext y
  unfold out0_A_14
  refine read_of_pieces _ _ _ y _ ?_ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 y)
  unfold kernelRun0_A
  dsimp only
  refine List.forall_mem_cons.mpr ⟨fun x => piece11_2 c arg1 harg1 arg3 harg3 arg4 harg4 arg5 harg5 arg23 x0 x2 x3 x4 x, ?_⟩
  refine List.forall_mem_cons.mpr ⟨fun x => piece11_1 c arg1 harg1 arg3 harg3 arg4 harg4 arg5 harg5 arg23 x0 x2 x3 x4 x, ?_⟩
  refine List.forall_mem_cons.mpr ⟨fun x => piece11_0 c arg1 harg1 arg3 harg3 arg4 harg4 arg5 harg5 arg23 x0 x2 x3 x4 x, ?_⟩
  refine List.forall_mem_cons.mpr ⟨fun x => piece10_2 c arg1 harg1 arg3 harg3 arg4 harg4 arg5 harg5 arg23 x0 x2 x3 x4 x, ?_⟩
  refine List.forall_mem_cons.mpr ⟨fun x => piece10_1 c arg1 harg1 arg3 harg3 arg4 harg4 arg5 harg5 arg23 x0 x2 x3 x4 x, ?_⟩
  refine List.forall_mem_cons.mpr ⟨fun x => piece10_0 c arg1 harg1 arg3 harg3 arg4 harg4 arg5 harg5 arg23 x0 x2 x3 x4 x, ?_⟩
  refine List.forall_mem_cons.mpr ⟨fun x => piece9_2 c arg1 harg1 arg3 harg3 arg4 harg4 arg5 harg5 arg23 x0 x2 x3 x4 x, ?_⟩
  refine List.forall_mem_cons.mpr ⟨fun x => piece9_1 c arg1 harg1 arg3 harg3 arg4 harg4 arg5 harg5 arg23 x0 x2 x3 x4 x, ?_⟩
  refine List.forall_mem_cons.mpr ⟨fun x => piece9_0 c arg1 harg1 arg3 harg3 arg4 harg4 arg5 harg5 arg23 x0 x2 x3 x4 x, ?_⟩
  refine List.forall_mem_cons.mpr ⟨fun x => piece8_2 c arg1 harg1 arg3 harg3 arg4 harg4 arg5 harg5 arg23 x0 x2 x3 x4 x, ?_⟩
  refine List.forall_mem_cons.mpr ⟨fun x => piece8_1 c arg1 harg1 arg3 harg3 arg4 harg4 arg5 harg5 arg23 x0 x2 x3 x4 x, ?_⟩
  refine List.forall_mem_cons.mpr ⟨fun x => piece8_0 c arg1 harg1 arg3 harg3 arg4 harg4 arg5 harg5 arg23 x0 x2 x3 x4 x, ?_⟩
  refine List.forall_mem_cons.mpr ⟨fun x => piece7_2 c arg1 harg1 arg3 harg3 arg4 harg4 arg5 harg5 arg23 x0 x2 x3 x4 x, ?_⟩
  refine List.forall_mem_cons.mpr ⟨fun x => piece7_1 c arg1 harg1 arg3 harg3 arg4 harg4 arg5 harg5 arg23 x0 x2 x3 x4 x, ?_⟩
  refine List.forall_mem_cons.mpr ⟨fun x => piece7_0 c arg1 harg1 arg3 harg3 arg4 harg4 arg5 harg5 arg23 x0 x2 x3 x4 x, ?_⟩
  refine List.forall_mem_cons.mpr ⟨fun x => piece6_2 c arg1 harg1 arg3 harg3 arg4 harg4 arg5 harg5 arg23 x0 x2 x3 x4 x, ?_⟩
  refine List.forall_mem_cons.mpr ⟨fun x => piece6_1 c arg1 harg1 arg3 harg3 arg4 harg4 arg5 harg5 arg23 x0 x2 x3 x4 x, ?_⟩
  refine List.forall_mem_cons.mpr ⟨fun x => piece6_0 c arg1 harg1 arg3 harg3 arg4 harg4 arg5 harg5 arg23 x0 x2 x3 x4 x, ?_⟩
  refine List.forall_mem_cons.mpr ⟨fun x => piece5_2 c arg1 harg1 arg3 harg3 arg4 harg4 arg5 harg5 arg23 x0 x2 x3 x4 x, ?_⟩
  refine List.forall_mem_cons.mpr ⟨fun x => piece5_1 c arg1 harg1 arg3 harg3 arg4 harg4 arg5 harg5 arg23 x0 x2 x3 x4 x, ?_⟩
  refine List.forall_mem_cons.mpr ⟨fun x => piece5_0 c arg1 harg1 arg3 harg3 arg4 harg4 arg5 harg5 arg23 x0 x2 x3 x4 x, ?_⟩
  refine List.forall_mem_cons.mpr ⟨fun x => piece4_2 c arg1 harg1 arg3 harg3 arg4 harg4 arg5 harg5 arg23 x0 x2 x3 x4 x, ?_⟩
  refine List.forall_mem_cons.mpr ⟨fun x => piece4_1 c arg1 harg1 arg3 harg3 arg4 harg4 arg5 harg5 arg23 x0 x2 x3 x4 x, ?_⟩
  refine List.forall_mem_cons.mpr ⟨fun x => piece4_0 c arg1 harg1 arg3 harg3 arg4 harg4 arg5 harg5 arg23 x0 x2 x3 x4 x, ?_⟩
  refine List.forall_mem_cons.mpr ⟨fun x => piece3_2 c arg1 harg1 arg3 harg3 arg4 harg4 arg5 harg5 arg23 x0 x2 x3 x4 x, ?_⟩
  refine List.forall_mem_cons.mpr ⟨fun x => piece3_1 c arg1 harg1 arg3 harg3 arg4 harg4 arg5 harg5 arg23 x0 x2 x3 x4 x, ?_⟩
  refine List.forall_mem_cons.mpr ⟨fun x => piece3_0 c arg1 harg1 arg3 harg3 arg4 harg4 arg5 harg5 arg23 x0 x2 x3 x4 x, ?_⟩
  refine List.forall_mem_cons.mpr ⟨fun x => piece2_2 c arg1 harg1 arg3 harg3 arg4 harg4 arg5 harg5 arg23 x0 x2 x3 x4 x, ?_⟩
  refine List.forall_mem_cons.mpr ⟨fun x => piece2_1 c arg1 harg1 arg3 harg3 arg4 harg4 arg5 harg5 arg23 x0 x2 x3 x4 x, ?_⟩
  refine List.forall_mem_cons.mpr ⟨fun x => piece2_0 c arg1 harg1 arg3 harg3 arg4 harg4 arg5 harg5 arg23 x0 x2 x3 x4 x, ?_⟩
  refine List.forall_mem_cons.mpr ⟨fun x => piece1_2 c arg1 harg1 arg3 harg3 arg4 harg4 arg5 harg5 arg23 x0 x2 x3 x4 x, ?_⟩
  refine List.forall_mem_cons.mpr ⟨fun x => piece1_1 c arg1 harg1 arg3 harg3 arg4 harg4 arg5 harg5 arg23 x0 x2 x3 x4 x, ?_⟩
  refine List.forall_mem_cons.mpr ⟨fun x => piece1_0 c arg1 harg1 arg3 harg3 arg4 harg4 arg5 harg5 arg23 x0 x2 x3 x4 x, ?_⟩
  refine List.forall_mem_cons.mpr ⟨fun x => piece0_2 c arg1 harg1 arg3 harg3 arg4 harg4 arg5 harg5 arg23 x0 x2 x3 x4 x, ?_⟩
  refine List.forall_mem_cons.mpr ⟨fun x => piece0_1 c arg1 harg1 arg3 harg3 arg4 harg4 arg5 harg5 arg23 x0 x2 x3 x4 x, ?_⟩
  refine List.forall_mem_cons.mpr ⟨fun x => piece0_0 c arg1 harg1 arg3 harg3 arg4 harg4 arg5 harg5 arg23 x0 x2 x3 x4 x, ?_⟩
  exact fun _ h => absurd h List.not_mem_nil

end Cert.PreS
end
-- ==== Proof.Pre.Final.lean ====
module

public import proofs.«01_k».proof.Proof.Pre.Tile
public import proofs.«01_k».proof.Proof.Gen.Kernel6Ideal.Value

/-!
The sample's first call of the second layer: what its windows bring in, what each point leaves of the new convolution state
and of `z`, and the two result arrays.
-/

@[expose] public section
set_option maxRecDepth 16384
noncomputable section
namespace Cert.PreS
open Idealize.ShloMosaic Idealize.ShloMosaic.TcCoe Idealize.SL.Sem
open Cert.Kernel6Ideal Cert.Kernel6Ideal.Gen

variable (m : (ℓ : Loc nD τ sig) → Buf (Elt Ideal) ℓ) (c : Dev nD)

/-- The block numbers of the windows. -/
theorem idx : ∀ t : Fin cfg0.N, win0_0.index t = ![32 + t.val, 0] ∧ win0_1.index t = ![3, 0] ∧ win0_2.index t = ![8, 0]
    ∧ win0_3.index t = ![9, 0] ∧ win0_4.index t = ![10, 0] ∧ win0_14.index t = ![0, t.val, 0] ∧ win0_15.index t = ![t.val, 0] :=
  (by decide +kernel : ∀ t : Fin grid0.N, _)

theorem flush14 : ∀ t : Fin cfg0.N, (cfg0.win 14).flush t = true := (by decide +kernel : ∀ t : Fin grid0.N, win0_14.flush t = true)
theorem flush15 : ∀ t : Fin cfg0.N, (cfg0.win 15).flush t = true := (by decide +kernel : ∀ t : Fin grid0.N, win0_15.flush t = true)

/-- The point as one of 2. -/
abbrev pt (t : Fin cfg0.N) : Fin 2 := ⟨t.val, lt_of_lt_of_eq t.isLt N_0⟩

theorem rowLt (t : Fin 2) (r : Fin 256) : 256 * (t : ℕ) + r < 512 := by omega

/-- One entry of the projection of a sample row, the sample's rows being the last 512 of `h`. -/
def proj (h : Vec Ideal S8704x2048 .bf16) (w : Vec Ideal S2048x5648 .f32) (q : Fin 512) (d : Fin 5648) : EReal :=
  dot (fun k => h (ix2 ⟨8192 + q, by omega⟩ k)) (fun k => w (ix2 k d))

/-! ## What the host code prepares -/

theorem Vw : V m c main_v22 = transpose (s := S2048x5648) S5648x2048 [1, 0] (m ((c : Thread nD τ).loc main_arg2)) transposes_S2048x5648_S5648x2048_1_0 := by
  unfold V
  simp only [List.flatten_cons, List.flatten_nil, List.append_nil, hostOps0, hostOps0_1, hostOps0_2, List.cons_append, List.nil_append]
  after_results

theorem Varg0 : V m c main_arg0 = m ((c : Thread nD τ).loc main_arg0) := by
  unfold V
  simp only [List.flatten_cons, List.flatten_nil, List.append_nil, hostOps0, hostOps0_1, hostOps0_2, List.cons_append, List.nil_append]
  after_results

/-! ## The blocks -/

theorem blk0 (t : Fin cfg0.N) (r : Fin 256) (k : Fin 2048) :
    iblk m c 0 t (ix2 r k) = m ((c : Thread nD τ).loc main_arg0) (ix2 ⟨8192 + (256 * pt t + r), by have := rowLt (pt t) r; omega⟩ k) := by
  have hr := rowLt (pt t) r
  refine Eq.trans (b := V m c main_arg0 (ix2 ⟨8192 + (256 * pt t + r), by omega⟩ k)) ?_ ?_
  · blk_ext [iblk, idx t]
  · rw [Varg0]

theorem blk1 (t : Fin cfg0.N) (d : Fin 1024) (k : Fin 2048) :
    X0_1 m c t (ix2 d k) = m ((c : Thread nD τ).loc main_arg2) (ix2 k ⟨3072 + d, by omega⟩) := by
  unfold X0_1 Pipeline.Window.fill
  rw [dif_pos (moved0_1 t _)]
  refine Eq.trans (b := V m c main_v22 (ix2 ⟨3072 + d, by omega⟩ k)) ?_ ?_
  · blk_ext [iblk, idx t]
  · rw [Vw]
    pointwise []

theorem blk2 (t : Fin cfg0.N) (d : Fin 512) (k : Fin 2048) :
    X0_2 m c t (ix2 d k) = m ((c : Thread nD τ).loc main_arg2) (ix2 k ⟨4096 + d, by omega⟩) := by
  unfold X0_2 Pipeline.Window.fill
  rw [dif_pos (moved0_2 t _)]
  refine Eq.trans (b := V m c main_v22 (ix2 ⟨4096 + d, by omega⟩ k)) ?_ ?_
  · blk_ext [iblk, idx t]
  · rw [Vw]
    pointwise []

theorem blk3 (t : Fin cfg0.N) (d : Fin 512) (k : Fin 2048) :
    X0_3 m c t (ix2 d k) = m ((c : Thread nD τ).loc main_arg2) (ix2 k ⟨4608 + d, by omega⟩) := by
  unfold X0_3 Pipeline.Window.fill
  rw [dif_pos (moved0_3 t _)]
  refine Eq.trans (b := V m c main_v22 (ix2 ⟨4608 + d, by omega⟩ k)) ?_ ?_
  · blk_ext [iblk, idx t]
  · rw [Vw]
    pointwise []

theorem blk4 (t : Fin cfg0.N) (d : Fin 512) (k : Fin 2048) :
    X0_4 m c t (ix2 d k) = m ((c : Thread nD τ).loc main_arg2) (ix2 k ⟨5120 + d, by omega⟩) := by
  unfold X0_4 Pipeline.Window.fill
  rw [dif_pos (moved0_4 t _)]
  refine Eq.trans (b := V m c main_v22 (ix2 ⟨5120 + d, by omega⟩ k)) ?_ ?_
  · blk_ext [iblk, idx t]
  · rw [Vw]
    pointwise []

/-! ## The points -/

theorem dot_congr {x x' w w' : Fin 2048 → EReal} (hx : ∀ k, x k = x' k) (hw : ∀ k, w k = w' k) : dot x w = dot x' w' :=
  congrArg₂ dot (funext hx) (funext hw)

theorem raw_at (t : Fin cfg0.N) (r : Fin 256) (l : Fin 1536) :
    k0_pay6 (iblk m c 0 t) (X0_2 m c t) (X0_3 m c t) (X0_4 m c t) (ix2 r l)
      = proj (m ((c : Thread nD τ).loc main_arg0)) (m ((c : Thread nD τ).loc main_arg2)) ⟨256 * pt t + r, rowLt _ r⟩ ⟨4096 + l, by omega⟩ := by
  by_cases h0 : (l : ℕ) < 512
  · refine (pay6_at0 _ _ _ _ r ⟨l, h0⟩).trans (dot_congr (fun k => blk0 m c t r k) fun k => ?_)
    exact blk2 m c t _ k
  · by_cases h1 : (l : ℕ) < 1024
    · have hl : l = ⟨512 + ((l : ℕ) - 512), by omega⟩ := Fin.ext (by simp only; omega)
      rw [hl]
      refine (pay6_at1 _ _ _ _ r ⟨(l : ℕ) - 512, by omega⟩).trans (dot_congr (fun k => blk0 m c t r k) fun k => (blk3 m c t _ k).trans ?_)
      exact congrArg (fun d => m ((c : Thread nD τ).loc main_arg2) (ix2 k d)) (Fin.ext (by simp only; omega))
    · have hl : l = ⟨1024 + ((l : ℕ) - 1024), by omega⟩ := Fin.ext (by simp only; omega)
      rw [hl]
      refine (pay6_at2 _ _ _ _ r ⟨(l : ℕ) - 1024, by omega⟩).trans (dot_congr (fun k => blk0 m c t r k) fun k => (blk4 m c t _ k).trans ?_)
      exact congrArg (fun d => m ((c : Thread nD τ).loc main_arg2) (ix2 k d)) (Fin.ext (by simp only; omega))

theorem last3Lt (j : Fin 3) (q : Fin 128) : 4 * (q : ℕ) + j + 1 < 512 := by omega

theorem array14_at (j : Fin 3) (q : Fin 128) (l : Fin 1536) : (dats m 0 c).arrAt 14 cfg0.N (ix3 j q l)
    = proj (m ((c : Thread nD τ).loc main_arg0)) (m ((c : Thread nD τ).loc main_arg2)) ⟨4 * q + j + 1, last3Lt j q⟩ ⟨4096 + l, by omega⟩ := by
  have hN : cfg0.N = 2 := N_0
  have ht : (q : ℕ) / 64 < cfg0.N := by omega
  have e := congrFun (Value.blocks14 m c ⟨(q : ℕ) / 64, ht⟩ (flush14 _)) (ix3 j ⟨(q : ℕ) % 64, by omega⟩ l)
  rw [Value.flushed14_A, out14] at e
  refine Eq.trans ?_ (e.trans (Eq.trans ?_ ((raw_at m c ⟨(q : ℕ) / 64, ht⟩ ⟨4 * ((q : ℕ) % 64) + j + 1, by omega⟩ l).trans
    (congrArg (fun q => proj _ _ q _) (Fin.ext (by simp only; omega))))))
  · blk_ext [idx ⟨(q : ℕ) / 64, ht⟩]
  · rfl

theorem array15_at (q : Fin 512) (d : Fin 1024) : (dats m 0 c).arrAt 15 cfg0.N (ix2 q d)
    = proj (m ((c : Thread nD τ).loc main_arg0)) (m ((c : Thread nD τ).loc main_arg2)) q ⟨3072 + d, by omega⟩ := by
  have hN : cfg0.N = 2 := N_0
  have ht : (q : ℕ) / 256 < cfg0.N := by omega
  have e := congrFun (Value.blocks15 m c ⟨(q : ℕ) / 256, ht⟩ (flush15 _)) (ix2 ⟨(q : ℕ) % 256, by omega⟩ d)
  rw [Value.flushed15_A, out15] at e
  have p : k0_pay5 (iblk m c 0 ⟨(q : ℕ) / 256, ht⟩) (X0_1 m c ⟨(q : ℕ) / 256, ht⟩) (ix2 ⟨(q : ℕ) % 256, by omega⟩ d)
      = proj (m ((c : Thread nD τ).loc main_arg0)) (m ((c : Thread nD τ).loc main_arg2)) q ⟨3072 + d, by omega⟩ := by
    refine (pay5_at _ _ _ d).trans (dot_congr (fun k => (blk0 m c _ _ k).trans ?_) fun k => blk1 m c _ d k)
    exact congrArg (fun q => m ((c : Thread nD τ).loc main_arg0) (ix2 q k)) (Fin.ext (by simp only; omega))
  refine Eq.trans ?_ (e.trans (Eq.trans ?_ p))
  · blk_ext [idx ⟨(q : ℕ) / 256, ht⟩]
  · rfl

end Cert.PreS
end
-- ==== Proof.Pre.Ref.lean ====
module

public import proofs.«01_k».proof.Proof.Pre.Final
public import proofs.«01_k».proof.Proof.Gen.Reference6Ideal.Read

/-!
The new convolution state and `z` in the reference, entry by entry.
-/

@[expose] public section
set_option maxRecDepth 16384
noncomputable section
namespace Cert.PreS
open Idealize.ShloMosaic Idealize.ShloMosaic.TcCoe Idealize.SL.Sem
open Cert.Reference6Ideal Cert.Reference6Ideal.Read

variable (h : (⟨S8704x2048, .bf16⟩ : BufTy).Contents (Elt Ideal)) (old : (⟨S128x3x1536, .f32⟩ : BufTy).Contents (Elt Ideal))
  (w : (⟨S2048x5648, .f32⟩ : BufTy).Contents (Elt Ideal))

theorem proj_at (q : Fin 128) (s : Fin 4) (d : Fin 5648) :
    val_main_v3 (F := Ideal) h w (ix3 q s d) = proj h w ⟨4 * q + s, by omega⟩ d := by
  unfold proj dot
  pointwise [val_main_v0, val_main_v1, val_main_v2, val_main_v3]
  exact Finset.sum_congr rfl fun k _ => congrArg (fun r => h (ix2 r k) * w (ix2 k d)) (Fin.ext (by simp only; omega))

theorem state_at (j : Fin 3) (q : Fin 128) (l : Fin 1536) :
    val_main_v8 (F := Ideal) h old w (ix3 j q l) = proj h w ⟨4 * q + j + 1, last3Lt j q⟩ ⟨4096 + l, by omega⟩ := by
  pointwise [val_main_v8, val_main_v7, val_main_v6, val_main_v5, proj_at]
  rw [dif_neg (by omega)]
  exact congrArg (fun q => proj h w q _) (Fin.ext (by simp only; omega))

theorem z_at (q : Fin 512) (d : Fin 1024) :
    val_main_v9 (F := Ideal) h w (ix2 q d) = proj h w q ⟨3072 + d, by omega⟩ := by
  pointwise [val_main_v9, val_main_v4, proj_at]
  exact congrArg (fun q => proj h w q _) (Fin.ext (by simp only; omega))

end Cert.PreS
end
-- ==== Proof.Pre.Match.lean ====
module

public import proofs.«01_k».proof.Proof.Pre.Ref

/-!
The new convolution state and `z`: the kernel's result arrays against the reference's.
-/

@[expose] public section
set_option maxRecDepth 16384
noncomputable section
namespace Cert.PreS
open Idealize.ShloMosaic Idealize.ShloMosaic.TcCoe Idealize.SL.Sem

variable (m : (ℓ : Loc Kernel6Ideal.nD Kernel6Ideal.τ Kernel6Ideal.sig) → Buf (Elt Ideal) ℓ) (c : Dev Kernel6Ideal.nD)

theorem state : Reference6Ideal.Read.val_main_v8 (F := Ideal) (m (c.tc.loc Kernel6Ideal.main_arg0)) (m (c.tc.loc Kernel6Ideal.main_arg1))
      (m (c.tc.loc Kernel6Ideal.main_arg2))
    = (Kernel6Ideal.Gen.dats m 0 c).arrAt 14 Kernel6Ideal.cfg0.N := by
  refine funext fun (i : Kernel6Ideal.S3x128x1536.Idx) => ?_
  idx_vars i
  exact (state_at _ _ _ _ _ _).trans (array14_at m c _ _ _).symm

theorem gate : Reference6Ideal.Read.val_main_v9 (F := Ideal) (m (c.tc.loc Kernel6Ideal.main_arg0)) (m (c.tc.loc Kernel6Ideal.main_arg2))
    = (Kernel6Ideal.Gen.dats m 0 c).arrAt 15 Kernel6Ideal.cfg0.N := by
  refine funext fun (i : Kernel6Ideal.S512x1024.Idx) => ?_
  idx_vars i
  exact (z_at _ _ _ _).trans (array15_at m c _ _).symm

end Cert.PreS
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal.Run
public import proofs.«01_k».proof.Proof.Gen.Reference2Ideal.Read
public import proofs.«01_k».proof.Proof.Gen.Kernel2.Frame
public import proofs.«01_k».proof.Proof.Gen.Kernel2Ideal.Frame
public import proofs.«01_k».proof.Proof.Cmlp.Match
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.OutProj.MatchL0
public import proofs.«01_k».proof.Proof.OutProj.MatchL1
public import proofs.«01_k».proof.Proof.OutProj.BodyL1Bits
public import proofs.«01_k».proof.Proof.ConvA.Match
public import proofs.«01_k».proof.Proof.ConvA.Pre
public import proofs.«01_k».proof.Proof.ConvA.BodyBits
public import Idealize.ShloMosaic.Adequacy
public import Idealize.ShloMosaic.Init
public import proofs.«01_k».proof.Proof.AttnS.Match
public import proofs.«01_k».proof.Proof.Pre.Match
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read

@[expose] public section

noncomputable section

namespace Cert.Proof

open Idealize.ShloMosaic Idealize.SL.Sem Cert.Kernel

/-- The chunk MLP: the kernel's three results are the reference's. -/
theorem cmlp : Cert.algebraic_KernelIdeal_ReferenceIdeal (hKernelIdeal := Cert.KernelIdeal.Gen.facts) (hReferenceIdeal := Cert.ReferenceIdeal.Gen.facts) := by
  intro m g m' g' _ hagree
  refine ⟨Cert.KernelIdeal.Value.G9 m, Cert.KernelIdeal.Value.G10 m, Cert.KernelIdeal.Value.G11 m,
    Cert.KernelIdeal.Value.run m g, (θ_run _ _ _).mono (fun r h c => ?_) (Cert.ReferenceIdeal.Value.run m' g')⟩
  obtain ⟨a0, a1, a2, a3, a4, a5, a6⟩ := hagree c
  obtain ⟨h0, h1, h2, rest⟩ := h c
  refine ⟨h0.trans ?_, h1.trans ?_, h2.trans ?_, rest⟩
  · rw [Cert.ReferenceIdeal.Read.val_main_v114_eq, a0, a1, a2, a3, a4, a5, a6]
    exact Cert.Cmlp.res0 m c
  · refine (Cert.ReferenceIdeal.Read.val_main_v115_eq _ _).trans ?_
    rw [a0, a1]
    exact Cert.Cmlp.res1 m c
  · rw [Cert.ReferenceIdeal.Read.val_main_v93_eq, a0, a1, a2, a3, a4]
    exact Cert.Cmlp.res2 m c

/-- The reference ends with its arguments as launched and every counter at zero. -/
theorem reference_frame : Cert.quiescent_ReferenceIdeal (hReferenceIdeal := Cert.ReferenceIdeal.Gen.facts) :=
  fun m ρ _ => (θ_run _ _ _).mono
    (fun r h => ⟨fun c => (h c).2.2.2, sem_eq_zero_of_no_sems rfl r.2⟩) (Cert.ReferenceIdeal.Value.run m ρ)

/-- The first layer's output projection: the kernel's result is the reference's. -/
theorem outL0 : Cert.algebraic_Kernel3Ideal_Reference3Ideal (hKernel3Ideal := Cert.Kernel3Ideal.Gen.facts) (hReference3Ideal := Cert.Reference3Ideal.Gen.facts) := by
  intro m g m' g' _ hagree
  refine ⟨fun c => (Cert.Kernel3Ideal.Gen.dats m 0 c).arrAt 7 Cert.Kernel3Ideal.cfg0.N,
    Cert.Kernel3Ideal.Value.run_blocks m g, (θ_run _ _ _).mono (fun r h c => ?_) (Cert.Reference3Ideal.Value.run m' g')⟩
  obtain ⟨a0, a1, a2, a3, a4, a5, a6⟩ := hagree c
  obtain ⟨h0, rest⟩ := h c
  refine ⟨h0.trans ?_, rest⟩
  rw [Cert.Reference3Ideal.Read.val_main_v44_eq, a0, a1, a2, a3, a4, a5, a6]
  exact Cert.OutProj.L0.res m c

theorem reference3_frame : Cert.quiescent_Reference3Ideal (hReference3Ideal := Cert.Reference3Ideal.Gen.facts) :=
  fun m ρ _ => (θ_run _ _ _).mono
    (fun r h => ⟨fun c => (h c).2, sem_eq_zero_of_no_sems rfl r.2⟩) (Cert.Reference3Ideal.Value.run m ρ)

/-- The second layer's output projection: the kernel's two results are the reference's. -/
theorem outL1 : Cert.algebraic_Kernel2Ideal_Reference2Ideal (hKernel2Ideal := Cert.Kernel2Ideal.Gen.facts) (hReference2Ideal := Cert.Reference2Ideal.Gen.facts) := by
  intro m g m' g' _ hagree
  refine ⟨fun c => (Cert.Kernel2Ideal.Body.dats m 0 c).arrAt 6 Cert.Kernel2Ideal.cfg0.N,
    fun c => (Cert.Kernel2Ideal.Body.dats m 0 c).arrAt 7 Cert.Kernel2Ideal.cfg0.N,
    Cert.OutProj.L1.run m g, (θ_run _ _ _).mono (fun r h c => ?_) (Cert.Reference2Ideal.Value.run m' g')⟩
  obtain ⟨a0, a1, a2, a3, a4, a5⟩ := hagree c
  obtain ⟨h0, h1, rest⟩ := h c
  refine ⟨h0.trans ?_, h1.trans ?_, rest⟩
  · rw [Cert.Reference2Ideal.Read.val_main_v19_eq, a0, a1, a3, a4, a5]
    exact Cert.OutProj.L1.prompt m c
  · rw [Cert.Reference2Ideal.Read.val_main_v42_eq, a0, a2, a3, a4, a5]
    exact Cert.OutProj.L1.sample m c

theorem reference2_frame : Cert.quiescent_Reference2Ideal (hReference2Ideal := Cert.Reference2Ideal.Gen.facts) :=
  fun m ρ _ => (θ_run _ _ _).mono
    (fun r h => ⟨fun c => (h c).2.2, sem_eq_zero_of_no_sems rfl r.2⟩) (Cert.Reference2Ideal.Value.run m ρ)

/-- The gated short convolution: the kernel's four results are the reference's when the carried rows are finite. -/
theorem convA : Cert.algebraic_Kernel4Ideal_Reference4Ideal_pre_finite_state (hKernel4Ideal := Cert.Kernel4Ideal.Gen.facts)
    (hReference4Ideal := Cert.Reference4Ideal.Gen.facts) (hPre_finite_state := Cert.ConvA.Pre.facts) := by
  intro m g m' g' hpre hagree
  refine ⟨fun c => (Cert.Kernel4Ideal.Body.dats m 0 c).arrAt 6 Cert.Kernel4Ideal.cfg0.N,
    fun c => (Cert.Kernel4Ideal.Body.dats m 0 c).arrAt 7 Cert.Kernel4Ideal.cfg0.N,
    fun c => (Cert.Kernel4Ideal.Body.dats m 0 c).arrAt 8 Cert.Kernel4Ideal.cfg0.N,
    fun c => (Cert.Kernel4Ideal.Body.dats m 0 c).arrAt 9 Cert.Kernel4Ideal.cfg0.N,
    Cert.ConvA.run m g, (θ_run _ _ _).mono (fun r h c => ?_) (Cert.Reference4Ideal.Value.run m' g')⟩
  obtain ⟨a0, a1, a2, a3, a4, a5⟩ := hagree c
  obtain ⟨h0, h1, h2, h3, rest⟩ := h c
  refine ⟨h0.trans ?_, h1.trans ?_, h2.trans ?_, h3.trans ?_, rest⟩
  · rw [Cert.Reference4Ideal.Read.val_main_v95_eq, a0, a1, a2, a3, a4, a5]
    exact Cert.ConvA.gated m c fun q a j => Cert.ConvA.Pre.finite_of _ _ _ _ _ _ (hpre c) _
  · refine (Cert.Reference4Ideal.Read.val_main_v41_eq _ _ _).trans ?_
    rw [a0, a3, a4]
    exact Cert.ConvA.carriedP m c
  · refine (Cert.Reference4Ideal.Read.val_main_v85_eq _ _ _ _).trans ?_
    rw [a1, a2, a3, a4]
    exact Cert.ConvA.carriedS m c
  · refine (Cert.Reference4Ideal.Read.val_main_v96_eq _ _ _).trans ?_
    rw [a0, a1, a3]
    exact Cert.ConvA.normed m c

theorem reference4_frame : Cert.quiescent_Reference4Ideal (hReference4Ideal := Cert.Reference4Ideal.Gen.facts) :=
  fun m ρ _ => (θ_run _ _ _).mono
    (fun r h => ⟨fun c => (h c).2.2.2.2, sem_eq_zero_of_no_sems rfl r.2⟩) (Cert.Reference4Ideal.Value.run m ρ)

/-- The sample's attention call: its two moved windows are the reference's. -/
theorem attnS : Cert.algebraic_Kernel5Ideal_Reference5Ideal (hKernel5Ideal := Cert.Kernel5Ideal.Gen.facts) (hReference5Ideal := Cert.Reference5Ideal.Gen.facts) := by
  intro m g m' g' _ hagree
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    (θ_run _ _ _).mono (fun r h c => (h c).2) (Cert.Kernel5Ideal.Value.run_blocks m g),
    (θ_run _ _ _).mono (fun r h c => ?_) (Cert.Reference5Ideal.Value.run m' g')⟩
  obtain ⟨a0, a1, a2, a3, a4, a5, a6, a7⟩ := hagree c
  obtain ⟨h0, h1, rest⟩ := h c
  refine ⟨h0.trans ?_, h1.trans ?_, rest⟩
  · refine (Cert.Reference5Ideal.Read.val_main_v3_eq _ _).trans ?_
    rw [a2, a4]
    exact Cert.AttnS.keys m c
  · refine (Cert.Reference5Ideal.Read.val_main_v5_eq _ _).trans ?_
    rw [a3, a5]
    exact Cert.AttnS.values m c

theorem reference5_frame : Cert.quiescent_Reference5Ideal (hReference5Ideal := Cert.Reference5Ideal.Gen.facts) :=
  fun m ρ _ => (θ_run _ _ _).mono
    (fun r h => ⟨fun c => (h c).2.2, sem_eq_zero_of_no_sems rfl r.2⟩) (Cert.Reference5Ideal.Value.run m ρ)

/-- The sample's first call of the second layer: its new convolution state and its `z` are the reference's. -/
theorem preS : Cert.algebraic_Kernel6Ideal_Reference6Ideal (hKernel6Ideal := Cert.Kernel6Ideal.Gen.facts) (hReference6Ideal := Cert.Reference6Ideal.Gen.facts) := by
  intro m g m' g' _ hagree
  refine ⟨fun c => (Cert.Kernel6Ideal.Gen.dats m 0 c).arrAt 14 Cert.Kernel6Ideal.cfg0.N,
    fun c => (Cert.Kernel6Ideal.Gen.dats m 0 c).arrAt 15 Cert.Kernel6Ideal.cfg0.N,
    (θ_run _ _ _).mono (fun r h c => ⟨(h c).1, (h c).2.1, (h c).2.2.2.2.2.2.2.2⟩) (Cert.Kernel6Ideal.Value.run_blocks m g),
    (θ_run _ _ _).mono (fun r h c => ?_) (Cert.Reference6Ideal.Value.run m' g')⟩
  obtain ⟨a0, a1, a2, a3, a4, a5, a6, a7⟩ := hagree c
  obtain ⟨h0, h1, rest⟩ := h c
  refine ⟨h0.trans ?_, h1.trans ?_, rest⟩
  · refine (Cert.Reference6Ideal.Read.val_main_v8_eq _ _ _).trans ?_
    rw [a0, a1, a2]
    exact Cert.PreS.state m c
  · refine (Cert.Reference6Ideal.Read.val_main_v9_eq _ _).trans ?_
    rw [a0, a2]
    exact Cert.PreS.gate m c

theorem reference6_frame : Cert.quiescent_Reference6Ideal (hReference6Ideal := Cert.Reference6Ideal.Gen.facts) :=
  fun m ρ _ => (θ_run _ _ _).mono
    (fun r h => ⟨fun c => (h c).2.2, sem_eq_zero_of_no_sems rfl r.2⟩) (Cert.Reference6Ideal.Value.run m ρ)

theorem claim : Cert.Claim := ⟨Cert.Kernel.Gen.facts, Cert.KernelIdeal.Gen.facts, Cert.ReferenceIdeal.Gen.facts,
  Cert.Kernel3.Gen.facts, Cert.Kernel3Ideal.Gen.facts, Cert.Reference3Ideal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.ConvA.Pre.facts,
  fun m ρ _ => Cert.Kernel.Gen.frame m ρ, fun m ρ _ => Cert.KernelIdeal.Gen.frame m ρ, reference_frame,
  fun m ρ _ => Cert.Kernel3.Gen.frame m ρ, fun m ρ _ => Cert.Kernel3Ideal.Gen.frame m ρ, reference3_frame,
  fun m ρ _ => Cert.Kernel2.Body.frame m ρ, fun m ρ _ => Cert.Kernel2Ideal.Body.frame m ρ, reference2_frame,
  fun m ρ _ => Cert.Kernel4.Body.frame m ρ, fun m ρ _ => Cert.Kernel4Ideal.Body.frame m ρ,
  fun m ρ _ => Cert.Kernel4Ideal.Body.frame m ρ, reference4_frame, fun m ρ _ => reference4_frame m ρ trivial,
  fun m ρ _ => Cert.Kernel5.Gen.frame m ρ, fun m ρ _ => Cert.Kernel5Ideal.Gen.frame m ρ, reference5_frame,
  fun m ρ _ => Cert.Kernel6.Gen.frame m ρ, fun m ρ _ => Cert.Kernel6Ideal.Gen.frame m ρ, reference6_frame,
  trivial, cmlp, trivial, outL0, trivial, outL1, trivial, convA, trivial, attnS, trivial, preS⟩

end Cert.Proof

end
